-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9)
      ∧ r.2.mem ((c.tc : Thread Cert.Kernel29.nD Cert.Kernel29.τ).loc Cert.Kernel29.main_arg10) = m ((c.tc : Thread Cert.Kernel29.nD Cert.Kernel29.τ).loc Cert.Kernel29.main_arg10)
      ∧ r.2.mem ((c.tc : Thread Cert.Kernel29.nD Cert.Kernel29.τ).loc Cert.Kernel29.main_arg11) = m ((c.tc : Thread Cert.Kernel29.nD Cert.Kernel29.τ).loc Cert.Kernel29.main_arg11))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
      ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
      ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9)
      ∧ r.2.mem ((c.tc : Thread Cert.Reference29Ideal.nD Cert.Reference29Ideal.τ).loc Cert.Reference29Ideal.main_arg10) = m ((c.tc : Thread Cert.Reference29Ideal.nD Cert.Reference29Ideal.τ).loc Cert.Reference29Ideal.main_arg10)
      ∧ r.2.mem ((c.tc : Thread Cert.Reference29Ideal.nD Cert.Reference29Ideal.τ).loc Cert.Reference29Ideal.main_arg11) = m ((c.tc : Thread Cert.Reference29Ideal.nD Cert.Reference29Ideal.τ).loc Cert.Reference29Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v203) = v2 c
          ∧ r.2.mem ((c.tc : Thread Cert.ReferenceIdeal.nD Cert.ReferenceIdeal.τ).loc Cert.ReferenceIdeal.main_v204) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v69) = v4 c
          ∧ r.2.mem ((c.tc : Thread Cert.Reference3Ideal.nD Cert.Reference3Ideal.τ).loc Cert.Reference3Ideal.main_v66) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)) (v6 : (c : Dev Cert.Kernel24Ideal.nD) → Buf (Elt Ideal) ((c.tc : Thread Cert.Kernel24Ideal.nD Cert.Kernel24Ideal.τ).loc Cert.Kernel24Ideal.main_v0_6)) (v7 : (c : Dev Cert.Kernel24Ideal.nD) → Buf (Elt Ideal) ((c.tc : Thread Cert.Kernel24Ideal.nD Cert.Kernel24Ideal.τ).loc Cert.Kernel24Ideal.main_v0_7)) (v8 : (c : Dev Cert.Kernel24Ideal.nD) → Buf (Elt Ideal) ((c.tc : Thread Cert.Kernel24Ideal.nD Cert.Kernel24Ideal.τ).loc Cert.Kernel24Ideal.main_v0_8)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_v0_6) = v6 c
          ∧ r.2.mem ((c.tc : Thread Cert.Kernel24Ideal.nD Cert.Kernel24Ideal.τ).loc Cert.Kernel24Ideal.main_v0_7) = v7 c
          ∧ r.2.mem ((c.tc : Thread Cert.Kernel24Ideal.nD Cert.Kernel24Ideal.τ).loc Cert.Kernel24Ideal.main_v0_8) = v8 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_v47) = v3 c
          ∧ r.2.mem ((c.tc : Thread Cert.Reference24Ideal.nD Cert.Reference24Ideal.τ).loc Cert.Reference24Ideal.main_v28) = v4 c
          ∧ r.2.mem ((c.tc : Thread Cert.Reference24Ideal.nD Cert.Reference24Ideal.τ).loc Cert.Reference24Ideal.main_v34) = v5 c
          ∧ r.2.mem ((c.tc : Thread Cert.Reference24Ideal.nD Cert.Reference24Ideal.τ).loc Cert.Reference24Ideal.main_v71) = v6 c
          ∧ r.2.mem ((c.tc : Thread Cert.Reference24Ideal.nD Cert.Reference24Ideal.τ).loc Cert.Reference24Ideal.main_v52) = v7 c
          ∧ r.2.mem ((c.tc : Thread Cert.Reference24Ideal.nD Cert.Reference24Ideal.τ).loc Cert.Reference24Ideal.main_v58) = v8 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v61) = v0 c
          ∧ r.2.mem ((c.tc : Thread Cert.Reference27Ideal.nD Cert.Reference27Ideal.τ).loc Cert.Reference27Ideal.main_v60) = v1 c
          ∧ r.2.mem ((c.tc : Thread Cert.Reference27Ideal.nD Cert.Reference27Ideal.τ).loc Cert.Reference27Ideal.main_v36) = v2 c
          ∧ r.2.mem ((c.tc : Thread Cert.Reference27Ideal.nD Cert.Reference27Ideal.τ).loc Cert.Reference27Ideal.main_v33) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)) (v5 : (c : Dev Cert.Kernel28Ideal.nD) → Buf (Elt Ideal) ((c.tc : Thread Cert.Kernel28Ideal.nD Cert.Kernel28Ideal.τ).loc Cert.Kernel28Ideal.main_v0_5)) (v6 : (c : Dev Cert.Kernel28Ideal.nD) → Buf (Elt Ideal) ((c.tc : Thread Cert.Kernel28Ideal.nD Cert.Kernel28Ideal.τ).loc Cert.Kernel28Ideal.main_v0_6)) (v7 : (c : Dev Cert.Kernel28Ideal.nD) → Buf (Elt Ideal) ((c.tc : Thread Cert.Kernel28Ideal.nD Cert.Kernel28Ideal.τ).loc Cert.Kernel28Ideal.main_v0_7)) (v8 : (c : Dev Cert.Kernel28Ideal.nD) → Buf (Elt Ideal) ((c.tc : Thread Cert.Kernel28Ideal.nD Cert.Kernel28Ideal.τ).loc Cert.Kernel28Ideal.main_v0_8)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_v0_5) = v5 c
          ∧ r.2.mem ((c.tc : Thread Cert.Kernel28Ideal.nD Cert.Kernel28Ideal.τ).loc Cert.Kernel28Ideal.main_v0_6) = v6 c
          ∧ r.2.mem ((c.tc : Thread Cert.Kernel28Ideal.nD Cert.Kernel28Ideal.τ).loc Cert.Kernel28Ideal.main_v0_7) = v7 c
          ∧ r.2.mem ((c.tc : Thread Cert.Kernel28Ideal.nD Cert.Kernel28Ideal.τ).loc Cert.Kernel28Ideal.main_v0_8) = v8 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_v47) = v3 c
          ∧ r.2.mem ((c.tc : Thread Cert.Reference28Ideal.nD Cert.Reference28Ideal.τ).loc Cert.Reference28Ideal.main_v28) = v4 c
          ∧ r.2.mem ((c.tc : Thread Cert.Reference28Ideal.nD Cert.Reference28Ideal.τ).loc Cert.Reference28Ideal.main_v34) = v5 c
          ∧ r.2.mem ((c.tc : Thread Cert.Reference28Ideal.nD Cert.Reference28Ideal.τ).loc Cert.Reference28Ideal.main_v71) = v6 c
          ∧ r.2.mem ((c.tc : Thread Cert.Reference28Ideal.nD Cert.Reference28Ideal.τ).loc Cert.Reference28Ideal.main_v52) = v7 c
          ∧ r.2.mem ((c.tc : Thread Cert.Reference28Ideal.nD Cert.Reference28Ideal.τ).loc Cert.Reference28Ideal.main_v58) = v8 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
      ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)
      ∧ m' ((c.tc : Thread Cert.Reference29Ideal.nD Cert.Reference29Ideal.τ).loc Cert.Reference29Ideal.main_arg11) = m ((c.tc : Thread Cert.Kernel29Ideal.nD Cert.Kernel29Ideal.τ).loc Cert.Kernel29Ideal.main_arg11)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)) (v4 : (c : Dev Cert.Kernel29Ideal.nD) → Buf (Elt Ideal) ((c.tc : Thread Cert.Kernel29Ideal.nD Cert.Kernel29Ideal.τ).loc Cert.Kernel29Ideal.main_v0_4)) (v5 : (c : Dev Cert.Kernel29Ideal.nD) → Buf (Elt Ideal) ((c.tc : Thread Cert.Kernel29Ideal.nD Cert.Kernel29Ideal.τ).loc Cert.Kernel29Ideal.main_v0_5)) (v6 : (c : Dev Cert.Kernel29Ideal.nD) → Buf (Elt Ideal) ((c.tc : Thread Cert.Kernel29Ideal.nD Cert.Kernel29Ideal.τ).loc Cert.Kernel29Ideal.main_v0_6)) (v7 : (c : Dev Cert.Kernel29Ideal.nD) → Buf (Elt Ideal) ((c.tc : Thread Cert.Kernel29Ideal.nD Cert.Kernel29Ideal.τ).loc Cert.Kernel29Ideal.main_v0_7)) (v8 : (c : Dev Cert.Kernel29Ideal.nD) → Buf (Elt Ideal) ((c.tc : Thread Cert.Kernel29Ideal.nD Cert.Kernel29Ideal.τ).loc Cert.Kernel29Ideal.main_v0_8)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_v0_4) = v4 c
          ∧ r.2.mem ((c.tc : Thread Cert.Kernel29Ideal.nD Cert.Kernel29Ideal.τ).loc Cert.Kernel29Ideal.main_v0_5) = v5 c
          ∧ r.2.mem ((c.tc : Thread Cert.Kernel29Ideal.nD Cert.Kernel29Ideal.τ).loc Cert.Kernel29Ideal.main_v0_6) = v6 c
          ∧ r.2.mem ((c.tc : Thread Cert.Kernel29Ideal.nD Cert.Kernel29Ideal.τ).loc Cert.Kernel29Ideal.main_v0_7) = v7 c
          ∧ r.2.mem ((c.tc : Thread Cert.Kernel29Ideal.nD Cert.Kernel29Ideal.τ).loc Cert.Kernel29Ideal.main_v0_8) = v8 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
          ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
          ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_v47) = v3 c
          ∧ r.2.mem ((c.tc : Thread Cert.Reference29Ideal.nD Cert.Reference29Ideal.τ).loc Cert.Reference29Ideal.main_v28) = v4 c
          ∧ r.2.mem ((c.tc : Thread Cert.Reference29Ideal.nD Cert.Reference29Ideal.τ).loc Cert.Reference29Ideal.main_v34) = v5 c
          ∧ r.2.mem ((c.tc : Thread Cert.Reference29Ideal.nD Cert.Reference29Ideal.τ).loc Cert.Reference29Ideal.main_v71) = v6 c
          ∧ r.2.mem ((c.tc : Thread Cert.Reference29Ideal.nD Cert.Reference29Ideal.τ).loc Cert.Reference29Ideal.main_v52) = v7 c
          ∧ r.2.mem ((c.tc : Thread Cert.Reference29Ideal.nD Cert.Reference29Ideal.τ).loc Cert.Reference29Ideal.main_v58) = v8 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9)
          ∧ r.2.mem ((c.tc : Thread Cert.Reference29Ideal.nD Cert.Reference29Ideal.τ).loc Cert.Reference29Ideal.main_arg10) = m' ((c.tc : Thread Cert.Reference29Ideal.nD Cert.Reference29Ideal.τ).loc Cert.Reference29Ideal.main_arg10)
          ∧ r.2.mem ((c.tc : Thread Cert.Reference29Ideal.nD Cert.Reference29Ideal.τ).loc Cert.Reference29Ideal.main_arg11) = m' ((c.tc : Thread Cert.Reference29Ideal.nD Cert.Reference29Ideal.τ).loc Cert.Reference29Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Kernel.lean ====
abbrev S4x2048x4608 : Shape := ⟨3, ![4, 2048, 4608]⟩
abbrev S16x128x256 : Shape := ⟨3, ![16, 128, 256]⟩
abbrev S1x128 : Shape := ⟨2, ![1, 128]⟩
abbrev S4x2048x512 : Shape := ⟨3, ![4, 2048, 512]⟩
abbrev S4x128x256 : Shape := ⟨3, ![4, 128, 256]⟩
abbrev S1x2048x128 : Shape := ⟨3, ![1, 2048, 128]⟩
abbrev S1x128x256 : Shape := ⟨3, ![1, 128, 256]⟩
abbrev S1x2048x384 : Shape := ⟨3, ![1, 2048, 384]⟩
abbrev S16x128x128 : Shape := ⟨3, ![16, 128, 128]⟩
abbrev S2048x128 : Shape := ⟨2, ![2048, 128]⟩
abbrev S1x128x128 : Shape := ⟨3, ![1, 128, 128]⟩
abbrev S128x128 : Shape := ⟨2, ![128, 128]⟩
abbrev S128x256 : Shape := ⟨2, ![128, 256]⟩
abbrev S16x128 : Shape := ⟨2, ![16, 128]⟩
abbrev S16x128x1 : Shape := ⟨3, ![16, 128, 1]⟩
abbrev S1x1x128 : Shape := ⟨3, ![1, 1, 128]⟩
abbrev S128 : Shape := ⟨1, ![128]⟩

abbrev nBuf : Space → Nat
  | .hbm => 11
  | .vmem => 25
  | .smem => 0
  | _ => 0

abbrev bufTy : (tb : Table) → Fin (tcTables nBuf tb) → BufTy
  | .hbm, ⟨0, _⟩ => ⟨S4x2048x4608, .f32⟩
  | .hbm, ⟨1, _⟩ => ⟨S16x128x256, .f32⟩
  | .hbm, ⟨2, _⟩ => ⟨S1x128, .f32⟩
  | .hbm, ⟨3, _⟩ => ⟨S1x128, .f32⟩
  | .hbm, ⟨4, _⟩ => ⟨S4x2048x512, .f32⟩
  | .hbm, ⟨5, _⟩ => ⟨S4x2048x512, .f32⟩
  | .hbm, ⟨6, _⟩ => ⟨S4x2048x4608, .bf16⟩
  | .hbm, ⟨7, _⟩ => ⟨S4x2048x4608, .bf16⟩
  | .hbm, ⟨8, _⟩ => ⟨S4x128x256, .f32⟩
  | .hbm, ⟨9, _⟩ => ⟨S1x128, .f32⟩
  | .hbm, ⟨10, _⟩ => ⟨S1x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x256, .f32⟩
  | .local _ .vmem, ⟨7, _⟩ => ⟨S1x128x256, .f32⟩
  | .local _ .vmem, ⟨8, _⟩ => ⟨S1x128, .f32⟩
  | .local _ .vmem, ⟨9, _⟩ => ⟨S1x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x384, .bf16⟩
  | .local _ .vmem, ⟨15, _⟩ => ⟨S1x2048x384, .bf16⟩
  | .local _ .vmem, ⟨16, _⟩ => ⟨S4x128x256, .f32⟩
  | .local _ .vmem, ⟨17, _⟩ => ⟨S1x128, .f32⟩
  | .local _ .vmem, ⟨18, _⟩ => ⟨S1x128, .f32⟩
  | .local _ .vmem, ⟨19, _⟩ => ⟨S16x128x128, .f32⟩
  | .local _ .vmem, ⟨20, _⟩ => ⟨S16x128x128, .f32⟩
  | .local _ .vmem, ⟨21, _⟩ => ⟨S16x128x128, .f32⟩
  | .local _ .vmem, ⟨22, _⟩ => ⟨S16x128x128, .f32⟩
  | .local _ .vmem, ⟨23, _⟩ => ⟨S16x128x128, .f32⟩
  | .local _ .vmem, ⟨24, _⟩ => ⟨S2048x128, .f32⟩
  | _, _ => ⟨S4x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v556 : Index := Scalar.indexCast arg1
  let c0_523 : Index := 0#32
  let c128 : Index := 128#32
  ![v556.toNat, 0, 128]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.muli c3_i32 v0
  let c0_i32 : BitVec 32 := 0#32
  let v2 : BitVec 32 := Scalar.addi v1 c0_i32
  let c0_i32_0 : BitVec 32 := 0#32
  let c0_i32_1 : BitVec 32 := 0#32
  ![arg0.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.muli c3_i32 v0
  let c1_i32 : BitVec 32 := 1#32
  let v2 : BitVec 32 := Scalar.addi v1 c1_i32
  let c0_i32 : BitVec 32 := 0#32
  let c0_i32_0 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.muli c3_i32 v0
  let c2_i32 : BitVec 32 := 2#32
  let v2 : BitVec 32 := Scalar.addi v1 c2_i32
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S4x2048x4608 : Shape := ⟨3, ![4, 2048, 4608]⟩
abbrev S16x128x256 : Shape := ⟨3, ![16, 128, 256]⟩
abbrev S1x128 : Shape := ⟨2, ![1, 128]⟩
abbrev S4x2048x512 : Shape := ⟨3, ![4, 2048, 512]⟩
abbrev S4x2048x12x3x128 : Shape := ⟨5, ![4, 2048, 12, 3, 128]⟩
abbrev S4x2048x4x3x128 : Shape := ⟨5, ![4, 2048, 4, 3, 128]⟩
abbrev S4x2048x4x1x128 : Shape := ⟨5, ![4, 2048, 4, 1, 128]⟩
abbrev S4x2048x4x128 : Shape := ⟨4, ![4, 2048, 4, 128]⟩
abbrev S4x128x256 : Shape := ⟨3, ![4, 128, 256]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x128x16x4x128 : Shape := ⟨5, ![4, 128, 16, 4, 128]⟩
abbrev S4x16x4x128x128 : Shape := ⟨5, ![4, 16, 4, 128, 128]⟩
abbrev S4x16x4x256x128 : Shape := ⟨5, ![4, 16, 4, 256, 128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x16x4x128x256 : Shape := ⟨5, ![4, 16, 4, 128, 256]⟩
abbrev S1x1x4x128x256 : Shape := ⟨5, ![1, 1, 4, 128, 256]⟩
abbrev S1x1x1x128x256 : Shape := ⟨5, ![1, 1, 1, 128, 256]⟩
abbrev S4x16x4x128 : Shape := ⟨4, ![4, 16, 4, 128]⟩
abbrev S4x16x4x128x1 : Shape := ⟨5, ![4, 16, 4, 128, 1]⟩
abbrev S4x128x16x4 : Shape := ⟨4, ![4, 128, 16, 4]⟩
abbrev S4x2048x1536 : Shape := ⟨3, ![4, 2048, 1536]⟩
abbrev S4x2048x3072 : Shape := ⟨3, ![4, 2048, 3072]⟩

abbrev nBuf : Space → Nat
  | .hbm => 259
  | .vmem => 0
  | .smem => 0
  | _ => 0

abbrev hbmTy0_0 (i : Nat) : BufTy := match i % 128 with
  | 0 => ⟨S4x2048x4608, .f32⟩
  | 1 => ⟨S16x128x256, .f32⟩
  | 2 => ⟨S1x128, .f32⟩
  | 3 => ⟨S1x128, .f32⟩
  | 4 => ⟨S4x2048x512, .f32⟩
  | 5 => ⟨S4x2048x512, .f32⟩
  | 6 => ⟨S4x2048x4608, .bf16⟩
  | 7 => ⟨S4x2048x12x3x128, .f32⟩
  | 8 => ⟨S4x2048x4x3x128, .f32⟩
  | 9 => ⟨S4x2048x4x1x128, .f32⟩
  | 10 => ⟨S4x2048x4x128, .f32⟩
  | 11 => ⟨S4x2048x4x1x128, .f32⟩
  | 12 => ⟨S4x2048x4x128, .f32⟩
  | 13 => ⟨S4x2048x4x1x128, .f32⟩
  | 14 => ⟨S4x2048x4x128, .f32⟩
  | 15 => ⟨S4x128x256, .f32⟩
  | 16 => ⟨S128, .f32⟩
  | 17 => ⟨S128, .f32⟩
  | 18 => ⟨S4x2048x4x128, .f32⟩
  | 19 => ⟨S4x2048x4x128, .f32⟩
  | 20 => ⟨S4x2048x4x128, .f32⟩
  | 21 => ⟨S_, .f32⟩
  | 22 => ⟨S4x2048x4, .f32⟩
  | 23 => ⟨S4x2048x4x1, .f32⟩
  | 24 => ⟨S_, .f32⟩
  | 25 => ⟨S4x2048x4x1, .f32⟩
  | 26 => ⟨S4x2048x4x1, .f32⟩
  | 27 => ⟨S_, .f32⟩
  | 28 => ⟨S4x2048x4x1, .f32⟩
  | 29 => ⟨S4x2048x4x1, .f32⟩
  | 30 => ⟨S4x2048x4x1, .f32⟩
  | 31 => ⟨S4x2048x4x1, .f32⟩
  | 32 => ⟨S_, .f32⟩
  | 33 => ⟨S4x2048x4x1, .f32⟩
  | 34 => ⟨S4x2048x4x1, .f32⟩
  | 35 => ⟨S4x2048x4x128, .f32⟩
  | 36 => ⟨S4x2048x4x128, .f32⟩
  | 37 => ⟨S1x1x1x128, .f32⟩
  | 38 => ⟨S4x2048x4x128, .f32⟩
  | 39 => ⟨S4x2048x4x128, .f32⟩
  | 40 => ⟨S4x128x16x4x128, .f32⟩
  | 41 => ⟨S4x16x4x128x128, .f32⟩
  | 42 => ⟨S4x2048x4x128, .f32⟩
  | 43 => ⟨S_, .f32⟩
  | 44 => ⟨S4x2048x4, .f32⟩
  | 45 => ⟨S4x2048x4x1, .f32⟩
  | 46 => ⟨S_, .f32⟩
  | 47 => ⟨S4x2048x4x1, .f32⟩
  | 48 => ⟨S4x2048x4x1, .f32⟩
  | 49 => ⟨S_, .f32⟩
  | 50 => ⟨S4x2048x4x1, .f32⟩
  | 51 => ⟨S4x2048x4x1, .f32⟩
  | 52 => ⟨S4x2048x4x1, .f32⟩
  | 53 => ⟨S4x2048x4x1, .f32⟩
  | 54 => ⟨S_, .f32⟩
  | 55 => ⟨S4x2048x4x1, .f32⟩
  | 56 => ⟨S4x2048x4x1, .f32⟩
  | 57 => ⟨S4x2048x4x128, .f32⟩
  | 58 => ⟨S4x2048x4x128, .f32⟩
  | 59 => ⟨S1x1x1x128, .f32⟩
  | 60 => ⟨S4x2048x4x128, .f32⟩
  | 61 => ⟨S4x2048x4x128, .f32⟩
  | 62 => ⟨S4x128x16x4x128, .f32⟩
  | 63 => ⟨S4x16x4x128x128, .f32⟩
  | 64 => ⟨S_, .f32⟩
  | 65 => ⟨S4x16x4x128x128, .f32⟩
  | 66 => ⟨S4x16x4x256x128, .f32⟩
  | 67 => ⟨S_, .f32⟩
  | 68 => ⟨S4x16x4x128x128, .f32⟩
  | 69 => ⟨S4x128x16x4x128, .f32⟩
  | 70 => ⟨S4x16x4x128x128, .f32⟩
  | 71 => ⟨S_, .f32⟩
  | 72 => ⟨S4x16x4x128x128, .f32⟩
  | 73 => ⟨S4x16x4x256x128, .f32⟩
  | 74 => ⟨S_, .f32⟩
  | 75 => ⟨S4x16x4x128x128, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S_, .i32⟩
  | 94 => ⟨S1x256, .i32⟩
  | 95 => ⟨S1x256, .i32⟩
  | 96 => ⟨S_, .i32⟩
  | 97 => ⟨S1x256, .i32⟩
  | 98 => ⟨S1x256, .i1⟩
  | 99 => ⟨S128x256, .i1⟩
  | 100 => ⟨S128x256, .i1⟩
  | 101 => ⟨S4x16x4x128x256, .f32⟩
  | 102 => ⟨S_, .f32⟩
  | 103 => ⟨S4x16x4x128x256, .f32⟩
  | 104 => ⟨S4x16x4x128x256, .f32⟩
  | 105 => ⟨S1x1x4x128x256, .f32⟩
  | 106 => ⟨S4x16x4x128x256, .f32⟩
  | 107 => ⟨S4x16x4x128x256, .f32⟩
  | 108 => ⟨S1x1x1x128x256, .i1⟩
  | 109 => ⟨S_, .f32⟩
  | 110 => ⟨S_, .f32⟩
  | 111 => ⟨S4x16x4x128x256, .i1⟩
  | 112 => ⟨S4x16x4x128x256, .f32⟩
  | 113 => ⟨S4x16x4x128x256, .f32⟩
  | 114 => ⟨S_, .f32⟩
  | 115 => ⟨S4x16x4x128x256, .f32⟩
  | 116 => ⟨S_, .f32⟩
  | 117 => ⟨S4x16x4x128, .f32⟩
  | 118 => ⟨S4x16x4x128x1, .f32⟩
  | 119 => ⟨S4x16x4x128x256, .f32⟩
  | 120 => ⟨S4x16x4x128x256, .i1⟩
  | 121 => ⟨S4x16x4x128x256, .f32⟩
  | 122 => ⟨S_, .f32⟩
  | 123 => ⟨S4x16x4x128, .f32⟩
  | 124 => ⟨S4x16x4x128x1, .f32⟩
  | 125 => ⟨S4x16x4x128x256, .f32⟩
  | 126 => ⟨S4x16x4x128x256, .f32⟩
  | 127 => ⟨S4x16x4x128x256, .f32⟩
  | _ => ⟨S4x2048x4608, .f32⟩

abbrev hbmTy0_1 (i : Nat) : BufTy := match i % 128 with
  | 0 => ⟨S_, .f32⟩
  | 1 => ⟨S4x16x4x128, .f32⟩
  | 2 => ⟨S4x16x4x128x1, .f32⟩
  | 3 => ⟨S4x16x4x128x128, .f32⟩
  | 4 => ⟨S4x16x4x128x128, .f32⟩
  | 5 => ⟨S4x16x4x128x128, .f32⟩
  | 6 => ⟨S4x16x4x128x1, .f32⟩
  | 7 => ⟨S_, .f32⟩
  | 8 => ⟨S4x16x4x128x1, .f32⟩
  | 9 => ⟨S4x16x4x128x1, .f32⟩
  | 10 => ⟨S4x16x4x128x1, .f32⟩
  | 11 => ⟨S4x16x4x128x1, .f32⟩
  | 12 => ⟨S4x16x4x128, .f32⟩
  | 13 => ⟨S4x128x16x4x128, .f32⟩
  | 14 => ⟨S4x2048x4x128, .f32⟩
  | 15 => ⟨S4x128x16x4, .f32⟩
  | 16 => ⟨S4x2048x4, .f32⟩
  | 17 => ⟨S4x2048x4x1, .f32⟩
  | 18 => ⟨S4x2048x4x128, .f32⟩
  | 19 => ⟨S_, .f32⟩
  | 20 => ⟨S4x2048x4, .f32⟩
  | 21 => ⟨S4x2048x4x1, .f32⟩
  | 22 => ⟨S_, .f32⟩
  | 23 => ⟨S4x2048x4, .f32⟩
  | 24 => ⟨S4x128x16x4, .f32⟩
  | 25 => ⟨S4x16x4x128, .f32⟩
  | 26 => ⟨S4x128x16x4x128, .f32⟩
  | 27 => ⟨S4x16x4x128x128, .f32⟩
  | 28 => ⟨S4x16x4x128x1, .f32⟩
  | 29 => ⟨S4x16x4x128x1, .f32⟩
  | 30 => ⟨S4x16x4x128x128, .f32⟩
  | 31 => ⟨S4x16x4x128x128, .f32⟩
  | 32 => ⟨S4x16x4x128x128, .f32⟩
  | 33 => ⟨S_, .f32⟩
  | 34 => ⟨S4x16x4x128, .f32⟩
  | 35 => ⟨S4x16x4x128x1, .f32⟩
  | 36 => ⟨S4x16x4x128x1, .f32⟩
  | 37 => ⟨S4x16x4x128x1, .f32⟩
  | 38 => ⟨S4x16x4x128x128, .f32⟩
  | 39 => ⟨S4x16x4x128x128, .f32⟩
  | 40 => ⟨S4x16x4x128x256, .f32⟩
  | 41 => ⟨S4x16x4x256x128, .f32⟩
  | 42 => ⟨S4x16x4x128x256, .f32⟩
  | 43 => ⟨S_, .f32⟩
  | 44 => ⟨S4x16x4x128, .f32⟩
  | 45 => ⟨S4x16x4x128x256, .f32⟩
  | 46 => ⟨S4x16x4x128x256, .f32⟩
  | 47 => ⟨S4x16x4x128x256, .f32⟩
  | 48 => ⟨S_, .f32⟩
  | 49 => ⟨S4x16x4x128x256, .f32⟩
  | 50 => ⟨S4x16x4x128x256, .f32⟩
  | 51 => ⟨S_, .f32⟩
  | 52 => ⟨S4x128x256, .f32⟩
  | 53 => ⟨S1x1x4x128x256, .f32⟩
  | 54 => ⟨S_, .f32⟩
  | 55 => ⟨S4x128x256, .f32⟩
  | 56 => ⟨S_, .f32⟩
  | 57 => ⟨S4x16x4x128x256, .f32⟩
  | 58 => ⟨S4x16x4x128x256, .f32⟩
  | 59 => ⟨S4x16x4x256x128, .f32⟩
  | 60 => ⟨S4x16x4x128x128, .f32⟩
  | 61 => ⟨S4x16x4x128x128, .f32⟩
  | 62 => ⟨S4x16x4x128x128, .f32⟩
  | 63 => ⟨S4x128x16x4x128, .f32⟩
  | 64 => ⟨S4x2048x4x128, .f32⟩
  | 65 => ⟨S4x16x4x128x128, .f32⟩
  | 66 => ⟨S4x16x4x128x128, .f32⟩
  | 67 => ⟨S4x128x16x4x128, .f32⟩
  | 68 => ⟨S4x2048x4x128, .f32⟩
  | 69 => ⟨S4x2048x4x128, .f32⟩
  | 70 => ⟨S_, .f32⟩
  | 71 => ⟨S128, .f32⟩
  | 72 => ⟨S1x1x1x128, .f32⟩
  | 73 => ⟨S4x2048x4x128, .f32⟩
  | 74 => ⟨S4x2048x4x128, .f32⟩
  | 75 => ⟨S_, .f32⟩
  | 76 => ⟨S128, .f32⟩
  | 77 => ⟨S4x2048x4x128, .f32⟩
  | 78 => ⟨S_, .f32⟩
  | 79 => ⟨S4x2048x4, .f32⟩
  | 80 => ⟨S4x2048x4x1, .f32⟩
  | 81 => ⟨S4x2048x4x128, .f32⟩
  | 82 => ⟨S4x2048x4x128, .f32⟩
  | 83 => ⟨S4x2048x4x1, .f32⟩
  | 84 => ⟨S_, .f32⟩
  | 85 => ⟨S4x2048x4x1, .f32⟩
  | 86 => ⟨S4x2048x4x1, .f32⟩
  | 87 => ⟨S_, .f32⟩
  | 88 => ⟨S4x2048x4, .f32⟩
  | 89 => ⟨S4x2048x4x128, .f32⟩
  | 90 => ⟨S4x2048x4x128, .f32⟩
  | 91 => ⟨S4x2048x4x128, .f32⟩
  | 92 => ⟨S4x2048x4x128, .f32⟩
  | 93 => ⟨S4x2048x4x128, .f32⟩
  | 94 => ⟨S4x128x16x4x128, .f32⟩
  | 95 => ⟨S4x2048x4x128, .f32⟩
  | 96 => ⟨S4x2048x4x128, .f32⟩
  | 97 => ⟨S_, .f32⟩
  | 98 => ⟨S128, .f32⟩
  | 99 => ⟨S1x1x1x128, .f32⟩
  | 100 => ⟨S4x2048x4x128, .f32⟩
  | 101 => ⟨S4x2048x4x128, .f32⟩
  | 102 => ⟨S_, .f32⟩
  | 103 => ⟨S128, .f32⟩
  | 104 => ⟨S4x2048x4x128, .f32⟩
  | 105 => ⟨S_, .f32⟩
  | 106 => ⟨S4x2048x4, .f32⟩
  | 107 => ⟨S4x2048x4x1, .f32⟩
  | 108 => ⟨S4x2048x4x128, .f32⟩
  | 109 => ⟨S4x2048x4x128, .f32⟩
  | 110 => ⟨S4x2048x4x1, .f32⟩
  | 111 => ⟨S_, .f32⟩
  | 112 => ⟨S4x2048x4x1, .f32⟩
  | 113 => ⟨S4x2048x4x1, .f32⟩
  | 114 => ⟨S_, .f32⟩
  | 115 => ⟨S4x2048x4, .f32⟩
  | 116 => ⟨S4x2048x4x128, .f32⟩
  | 117 => ⟨S4x2048x4x128, .f32⟩
  | 118 => ⟨S4x2048x4x128, .f32⟩
  | 119 => ⟨S4x2048x4x128, .f32⟩
  | 120 => ⟨S4x2048x4x128, .f32⟩
  | 121 => ⟨S4x2048x4x1x128, .f32⟩
  | 122 => ⟨S4x2048x4x1x128, .f32⟩
  | 123 => ⟨S4x2048x4x1x128, .f32⟩
  | 124 => ⟨S4x2048x4x3x128, .f32⟩
  | 125 => ⟨S4x2048x1536, .f32⟩
  | 126 => ⟨S4x2048x1536, .bf16⟩
  | 127 => ⟨S4x2048x3072, .bf16⟩
  | _ => ⟨S4x2048x4608, .f32⟩

abbrev hbmTy0_2 (i : Nat) : BufTy := match i % 128 with
  | 0 => ⟨S4x2048x4608, .bf16⟩
  | 1 => ⟨S1x128, .f32⟩
  | 2 => ⟨S1x128, .f32⟩
  | _ => ⟨S4x2048x4608, .f32⟩

abbrev hbmTy (i : Nat) : BufTy := match i / 128 with
  | 0 => hbmTy0_0 i
  | 1 => hbmTy0_1 i
  | 2 => hbmTy0_2 i
  | _ => ⟨S4x2048x4608, .f32⟩

abbrev bufTy : (tb : Table) → Fin (tcTables nBuf tb) → BufTy
  | .hbm, ⟨i, _⟩ => hbmTy i
  | _, _ => ⟨S4x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_call0_v0 : Ref sig .tc := ⟨.hbm, 110, rfl⟩
abbrev main_v84_1 : Ref sig .tc := ⟨.hbm, 111, rfl⟩
abbrev main_call0_v2 : Ref sig .tc := ⟨.hbm, 112, rfl⟩
abbrev main_v84_0 : Ref sig .tc := ⟨.hbm, 113, rfl⟩
abbrev main_call0_cst : Ref sig .tc := ⟨.hbm, 114, rfl⟩
abbrev main_v84_2 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_20 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_cst_22 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_23 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_24 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_call1_cst : Ref sig .tc := ⟨.hbm, 176, rfl⟩
abbrev main_call1_v0 : Ref sig .tc := ⟨.hbm, 177, rfl⟩
abbrev main_v137 : Ref sig .tc := ⟨.hbm, 178, rfl⟩
abbrev main_cst_25 : Ref sig .tc := ⟨.hbm, 179, rfl⟩
abbrev main_v138 : Ref sig .tc := ⟨.hbm, 180, rfl⟩
abbrev main_v139 : Ref sig .tc := ⟨.hbm, 181, rfl⟩
abbrev main_cst_26 : Ref sig .tc := ⟨.hbm, 182, rfl⟩
abbrev main_v140 : Ref sig .tc := ⟨.hbm, 183, rfl⟩
abbrev main_cst_27 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_28 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_29 : Ref sig .tc := ⟨.hbm, 203, rfl⟩
abbrev main_v158 : Ref sig .tc := ⟨.hbm, 204, rfl⟩
abbrev main_v159 : Ref sig .tc := ⟨.hbm, 205, rfl⟩
abbrev main_cst_30 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_31 : Ref sig .tc := ⟨.hbm, 212, rfl⟩
abbrev main_v165 : Ref sig .tc := ⟨.hbm, 213, rfl⟩
abbrev main_v166 : Ref sig .tc := ⟨.hbm, 214, rfl⟩
abbrev main_cst_32 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_33 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_34 : Ref sig .tc := ⟨.hbm, 230, rfl⟩
abbrev main_v180 : Ref sig .tc := ⟨.hbm, 231, rfl⟩
abbrev main_v181 : Ref sig .tc := ⟨.hbm, 232, rfl⟩
abbrev main_cst_35 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_36 : Ref sig .tc := ⟨.hbm, 239, rfl⟩
abbrev main_v187 : Ref sig .tc := ⟨.hbm, 240, rfl⟩
abbrev main_v188 : Ref sig .tc := ⟨.hbm, 241, rfl⟩
abbrev main_cst_37 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4x1x1024 : Shape := ⟨3, ![4, 1, 1024]⟩
abbrev S512x2048 : Shape := ⟨2, ![512, 2048]⟩
abbrev S1024x2048 : Shape := ⟨2, ![1024, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 29
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S8192x1024, .f32⟩
  | .hbm, ⟨8, _⟩ => ⟨S4x1x1024, .f32⟩
  | .hbm, ⟨9, _⟩ => ⟨S8192x1024, .f32⟩
  | .hbm, ⟨10, _⟩ => ⟨S1x1024, .f32⟩
  | .hbm, ⟨11, _⟩ => ⟨S4x1x1024, .f32⟩
  | .hbm, ⟨12, _⟩ => ⟨S4x1x1024, .f32⟩
  | .hbm, ⟨13, _⟩ => ⟨S8192x1024, .bf16⟩
  | .hbm, ⟨14, _⟩ => ⟨S4x1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S512x1024, .bf16⟩
  | .local _ .vmem, ⟨25, _⟩ => ⟨S512x1024, .bf16⟩
  | .local _ .vmem, ⟨26, _⟩ => ⟨S1x1x1024, .f32⟩
  | .local _ .vmem, ⟨27, _⟩ => ⟨S1x1x1024, .f32⟩
  | .local _ .vmem, ⟨28, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def k0_cond4 (i : grid0.Coords) : BitVec 1 :=
  let arg0 : BitVec 32 := BitVec.ofNat 32 (i 0).val
  let c4_i32 : BitVec 32 := 4#32
  let c0_i32_13 : BitVec 32 := 0#32
  let v18 : BitVec 1 := Scalar.cmpi .eq c4_i32 c0_i32_13
  let c1_i32_14 : BitVec 32 := 1#32
  let v19 : BitVec 32 := Scalar.select v18 c1_i32_14 c4_i32
  let v20 : BitVec 32 := Scalar.remsi arg0 v19
  let c0_i32_16 : BitVec 32 := 0#32
  let v22 : BitVec 1 := Scalar.cmpi .slt v20 c0_i32_16
  let c0_i32_17 : BitVec 32 := 0#32
  let v23 : BitVec 1 := Scalar.cmpi .slt v19 c0_i32_17
  let v24 : BitVec 1 := Scalar.xori v22 v23
  let c0_i32_15 : BitVec 32 := 0#32
  let v21 : BitVec 1 := Scalar.cmpi .ne v20 c0_i32_15
  let v25 : BitVec 1 := Scalar.andi v24 v21
  let v26 : BitVec 32 := Scalar.addi v20 v19
  let v27 : BitVec 32 := Scalar.select v25 v26 v20
  let c0_i32_18 : BitVec 32 := 0#32
  let v28 : BitVec 1 := Scalar.cmpi .eq v27 c0_i32_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference3Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4x1x1024 : Shape := ⟨3, ![4, 1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S4x1024 : Shape := ⟨2, ![4, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S8192x1024, .f32⟩
  | .hbm, ⟨8, _⟩ => ⟨S4x1x1024, .f32⟩
  | .hbm, ⟨9, _⟩ => ⟨S1024x4096, .f32⟩
  | .hbm, ⟨10, _⟩ => ⟨S4x2048x1024, .f32⟩
  | .hbm, ⟨11, _⟩ => ⟨S1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x4096, .f32⟩
  | .hbm, ⟨40, _⟩ => ⟨S8192x4096, .f32⟩
  | .hbm, ⟨41, _⟩ => ⟨S4x2048x4096, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S4x2048x1024, .f32⟩
  | .hbm, ⟨48, _⟩ => ⟨S_, .f32⟩
  | .hbm, ⟨49, _⟩ => ⟨S4x1024, .f32⟩
  | .hbm, ⟨50, _⟩ => ⟨S4x1x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S4x2048x1024, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S1x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S_, .f32⟩
  | .hbm, ⟨87, _⟩ => ⟨S4x1024, .f32⟩
  | .hbm, ⟨88, _⟩ => ⟨S4x1x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x4608 : Shape := ⟨2, ![1024, 4608]⟩
abbrev S8192x4608 : Shape := ⟨2, ![8192, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x4608 : Shape := ⟨2, ![8192, 4608]⟩
abbrev S1024x4608 : Shape := ⟨2, ![1024, 4608]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x4608 : Shape := ⟨2, ![8192, 4608]⟩
abbrev S1024x4608 : Shape := ⟨2, ![1024, 4608]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S1024x4608, .f32⟩
  | .hbm, ⟨3, _⟩ => ⟨S8192x4608, .f32⟩
  | .hbm, ⟨4, _⟩ => ⟨S_, .f32⟩
  | .hbm, ⟨5, _⟩ => ⟨S8192x1024, .f32⟩
  | .hbm, ⟨6, _⟩ => ⟨S8192x4608, .f32⟩
  | .hbm, ⟨7, _⟩ => ⟨S8192x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x1792 : Shape := ⟨2, ![2048, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S1024x3584, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x3584 : Shape := ⟨2, ![8192, 3584]⟩
abbrev S1024x3584 : Shape := ⟨2, ![1024, 3584]⟩
abbrev S8192x1024 : Shape := ⟨2, ![8192, 1024]⟩
abbrev S1024x1792 : Shape := ⟨2, ![1024, 1792]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .hbm, ⟨3, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x3584 : Shape := ⟨2, ![8192, 3584]⟩
abbrev S1024x3584 : Shape := ⟨2, ![1024, 3584]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | .hbm, ⟨5, _⟩ => ⟨S_, .f32⟩
  | .hbm, ⟨6, _⟩ => ⟨S8192x1024, .f32⟩
  | .hbm, ⟨7, _⟩ => ⟨S8192x3584, .f32⟩
  | .hbm, ⟨8, _⟩ => ⟨S8192x1024, .f32⟩
  | .hbm, ⟨9, _⟩ => ⟨S8192x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S512x128 : Shape := ⟨2, ![512, 128]⟩
abbrev S8x512x128 : Shape := ⟨3, ![8, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S1024x1218 : Shape := ⟨2, ![1024, 1218]⟩
abbrev S256x1218 : Shape := ⟨2, ![256, 1218]⟩

abbrev nBuf : Space → Nat
  | .hbm => 8
  | .vmem => 16
  | .smem => 0
  | _ => 0

abbrev bufTy : (tb : Table) → Fin (tcTables nBuf tb) → BufTy
  | .hbm, ⟨0, _⟩ => ⟨S1024x1218, .f32⟩
  | .hbm, ⟨1, _⟩ => ⟨S1024x1218, .f32⟩
  | .hbm, ⟨2, _⟩ => ⟨S1024x1218, .f32⟩
  | .hbm, ⟨3, _⟩ => ⟨S1024x1218, .f32⟩
  | .hbm, ⟨4, _⟩ => ⟨S1024x1218, .f32⟩
  | .hbm, ⟨5, _⟩ => ⟨S1024x1218, .f32⟩
  | .hbm, ⟨6, _⟩ => ⟨S1024x1218, .f32⟩
  | .hbm, ⟨7, _⟩ => ⟨S1024x1218, .f32⟩
  | .local _ .vmem, ⟨0, _⟩ => ⟨S256x1218, .f32⟩
  | .local _ .vmem, ⟨1, _⟩ => ⟨S256x1218, .f32⟩
  | .local _ .vmem, ⟨2, _⟩ => ⟨S256x1218, .f32⟩
  | .local _ .vmem, ⟨3, _⟩ => ⟨S256x1218, .f32⟩
  | .local _ .vmem, ⟨4, _⟩ => ⟨S256x1218, .f32⟩
  | .local _ .vmem, ⟨5, _⟩ => ⟨S256x1218, .f32⟩
  | .local _ .vmem, ⟨6, _⟩ => ⟨S256x1218, .f32⟩
  | .local _ .vmem, ⟨7, _⟩ => ⟨S256x1218, .f32⟩
  | .local _ .vmem, ⟨8, _⟩ => ⟨S256x1218, .f32⟩
  | .local _ .vmem, ⟨9, _⟩ => ⟨S256x1218, .f32⟩
  | .local _ .vmem, ⟨10, _⟩ => ⟨S256x1218, .f32⟩
  | .local _ .vmem, ⟨11, _⟩ => ⟨S256x1218, .f32⟩
  | .local _ .vmem, ⟨12, _⟩ => ⟨S256x1218, .f32⟩
  | .local _ .vmem, ⟨13, _⟩ => ⟨S256x1218, .f32⟩
  | .local _ .vmem, ⟨14, _⟩ => ⟨S256x1218, .f32⟩
  | .local _ .vmem, ⟨15, _⟩ => ⟨S256x1218, .f32⟩
  | _, _ => ⟨S1024x1218, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1218 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1218 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1218 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1218 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1218 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1218 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1218 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1024x1218 : Shape := ⟨2, ![1024, 1218]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1218, .f32⟩
  | .hbm, ⟨1, _⟩ => ⟨S1024x1218, .f32⟩
  | .hbm, ⟨2, _⟩ => ⟨S1024x1218, .f32⟩
  | .hbm, ⟨3, _⟩ => ⟨S1024x1218, .f32⟩
  | .hbm, ⟨4, _⟩ => ⟨S_, .f32⟩
  | .hbm, ⟨5, _⟩ => ⟨S1024x1218, .f32⟩
  | .hbm, ⟨6, _⟩ => ⟨S1024x1218, .f32⟩
  | .hbm, ⟨7, _⟩ => ⟨S_, .f32⟩
  | .hbm, ⟨8, _⟩ => ⟨S1024x1218, .f32⟩
  | .hbm, ⟨9, _⟩ => ⟨S1024x1218, .f32⟩
  | .hbm, ⟨10, _⟩ => ⟨S1024x1218, .f32⟩
  | .hbm, ⟨11, _⟩ => ⟨S_, .f32⟩
  | .hbm, ⟨12, _⟩ => ⟨S1024x1218, .f32⟩
  | .hbm, ⟨13, _⟩ => ⟨S1024x1218, .f32⟩
  | .hbm, ⟨14, _⟩ => ⟨S1024x1218, .f32⟩
  | .hbm, ⟨15, _⟩ => ⟨S_, .f32⟩
  | .hbm, ⟨16, _⟩ => ⟨S1024x1218, .f32⟩
  | .hbm, ⟨17, _⟩ => ⟨S1024x1218, .f32⟩
  | .hbm, ⟨18, _⟩ => ⟨S1024x1218, .f32⟩
  | .hbm, ⟨19, _⟩ => ⟨S_, .f32⟩
  | .hbm, ⟨20, _⟩ => ⟨S1024x1218, .f32⟩
  | .hbm, ⟨21, _⟩ => ⟨S1024x1218, .f32⟩
  | .hbm, ⟨22, _⟩ => ⟨S_, .f32⟩
  | .hbm, ⟨23, _⟩ => ⟨S1024x1218, .f32⟩
  | .hbm, ⟨24, _⟩ => ⟨S1024x1218, .f32⟩
  | .hbm, ⟨25, _⟩ => ⟨S1024x1218, .f32⟩
  | .hbm, ⟨26, _⟩ => ⟨S_, .f32⟩
  | .hbm, ⟨27, _⟩ => ⟨S1024x1218, .f32⟩
  | .hbm, ⟨28, _⟩ => ⟨S1024x1218, .f32⟩
  | .hbm, ⟨29, _⟩ => ⟨S1024x1218, .f32⟩
  | .hbm, ⟨30, _⟩ => ⟨S_, .f32⟩
  | .hbm, ⟨31, _⟩ => ⟨S1024x1218, .f32⟩
  | .hbm, ⟨32, _⟩ => ⟨S1024x1218, .f32⟩
  | .hbm, ⟨33, _⟩ => ⟨S1024x1218, .f32⟩
  | .hbm, ⟨34, _⟩ => ⟨S_, .f32⟩
  | .hbm, ⟨35, _⟩ => ⟨S1024x1218, .f32⟩
  | .hbm, ⟨36, _⟩ => ⟨S1024x1218, .f32⟩
  | _, _ => ⟨S1024x1218, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x128 : Shape := ⟨2, ![4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x6144 : Shape := ⟨2, ![1, 6144]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x6144, .f32⟩
  | .local _ .vmem, ⟨1, _⟩ => ⟨S1x1024, .f32⟩
  | .local _ .vmem, ⟨2, _⟩ => ⟨S1x1024, .f32⟩
  | .local _ .vmem, ⟨3, _⟩ => ⟨S1x6144, .f32⟩
  | .local _ .vmem, ⟨4, _⟩ => ⟨S1x1024, .f32⟩
  | .local _ .vmem, ⟨5, _⟩ => ⟨S1x1024, .f32⟩
  | .local _ .vmem, ⟨6, _⟩ => ⟨S1x6144, .f32⟩
  | .local _ .vmem, ⟨7, _⟩ => ⟨S1x1024, .f32⟩
  | .local _ .vmem, ⟨8, _⟩ => ⟨S1x1024, .f32⟩
  | .local _ .vmem, ⟨9, _⟩ => ⟨S1x6144, .f32⟩
  | .local _ .vmem, ⟨10, _⟩ => ⟨S1x1024, .f32⟩
  | .local _ .vmem, ⟨11, _⟩ => ⟨S1x1024, .f32⟩
  | .local _ .vmem, ⟨12, _⟩ => ⟨S1x6144, .f32⟩
  | .local _ .vmem, ⟨13, _⟩ => ⟨S1x6144, .f32⟩
  | .local _ .vmem, ⟨14, _⟩ => ⟨S1x6144, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel24Ideal.lean ====
abbrev S1x6144 : Shape := ⟨2, ![1, 6144]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x6144, .f32⟩
  | .local _ .vmem, ⟨1, _⟩ => ⟨S1x1024, .f32⟩
  | .local _ .vmem, ⟨2, _⟩ => ⟨S1x1024, .f32⟩
  | .local _ .vmem, ⟨3, _⟩ => ⟨S1x6144, .f32⟩
  | .local _ .vmem, ⟨4, _⟩ => ⟨S1x1024, .f32⟩
  | .local _ .vmem, ⟨5, _⟩ => ⟨S1x1024, .f32⟩
  | .local _ .vmem, ⟨6, _⟩ => ⟨S1x6144, .f32⟩
  | .local _ .vmem, ⟨7, _⟩ => ⟨S1x1024, .f32⟩
  | .local _ .vmem, ⟨8, _⟩ => ⟨S1x1024, .f32⟩
  | .local _ .vmem, ⟨9, _⟩ => ⟨S1x6144, .f32⟩
  | .local _ .vmem, ⟨10, _⟩ => ⟨S1x1024, .f32⟩
  | .local _ .vmem, ⟨11, _⟩ => ⟨S1x1024, .f32⟩
  | .local _ .vmem, ⟨12, _⟩ => ⟨S1x6144, .f32⟩
  | .local _ .vmem, ⟨13, _⟩ => ⟨S1x6144, .f32⟩
  | .local _ .vmem, ⟨14, _⟩ => ⟨S1x6144, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference24Ideal.lean ====
abbrev S1x6144 : Shape := ⟨2, ![1, 6144]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S1x6144, .f32⟩
  | .hbm, ⟨23, _⟩ => ⟨S_, .f32⟩
  | .hbm, ⟨24, _⟩ => ⟨S1x6144, .f32⟩
  | .hbm, ⟨25, _⟩ => ⟨S1x6144, .f32⟩
  | .hbm, ⟨26, _⟩ => ⟨S1x6144, .f32⟩
  | .hbm, ⟨27, _⟩ => ⟨S_, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S_, .f32⟩
  | .hbm, ⟨39, _⟩ => ⟨S1x6144, .f32⟩
  | .hbm, ⟨40, _⟩ => ⟨S1x6144, .f32⟩
  | .hbm, ⟨41, _⟩ => ⟨S1x6144, .f32⟩
  | .hbm, ⟨42, _⟩ => ⟨S_, .f32⟩
  | .hbm, ⟨43, _⟩ => ⟨S1x6144, .f32⟩
  | .hbm, ⟨44, _⟩ => ⟨S1x6144, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel25.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .local _ .vmem, ⟨0, _⟩ => ⟨S8x120x128, .f32⟩
  | .local _ .vmem, ⟨1, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference25Ideal.lean ====
abbrev S8x120x128 : Shape := ⟨3, ![8, 120, 128]⟩
abbrev S_ : Shape := ⟨0, ![]⟩
abbrev S120x128 : Shape := ⟨2, ![120, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x120x128, .f32⟩
  | .hbm, ⟨1, _⟩ => ⟨S_, .f32⟩
  | .hbm, ⟨2, _⟩ => ⟨S120x128, .f32⟩
  | _, _ => ⟨S8x120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S32x1024 : Shape := ⟨2, ![32, 1024]⟩
abbrev S32x768 : Shape := ⟨2, ![32, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S1024x768, .f32⟩
  | .local _ .vmem, ⟨0, _⟩ => ⟨S32x1024, .f32⟩
  | .local _ .vmem, ⟨1, _⟩ => ⟨S32x768, .f32⟩
  | .local _ .vmem, ⟨2, _⟩ => ⟨S1024x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S32x1024 : Shape := ⟨2, ![32, 1024]⟩
abbrev S32x768 : Shape := ⟨2, ![32, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x768, .f32⟩
  | .hbm, ⟨2, _⟩ => ⟨S_, .f32⟩
  | .hbm, ⟨3, _⟩ => ⟨S1024x768, .f32⟩
  | .hbm, ⟨4, _⟩ => ⟨S32x768, .f32⟩
  | .hbm, ⟨5, _⟩ => ⟨S768x1024, .f32⟩
  | .hbm, ⟨6, _⟩ => ⟨S1024x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S4x1x1024 : Shape := ⟨3, ![4, 1, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S4x1x1024, .f32⟩
  | .hbm, ⟨11, _⟩ => ⟨S4x1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference27Ideal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S4x1x1024 : Shape := ⟨3, ![4, 1, 1024]⟩
abbrev S4x2048x1024 : Shape := ⟨3, ![4, 2048, 1024]⟩
abbrev S4x2048x2048 : Shape := ⟨3, ![4, 2048, 2048]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S8192x1024, .f32⟩
  | .hbm, ⟨8, _⟩ => ⟨S1024x2048, .f32⟩
  | .hbm, ⟨9, _⟩ => ⟨S4x2048x1024, .f32⟩
  | .hbm, ⟨10, _⟩ => ⟨S8192x2048, .f32⟩
  | .hbm, ⟨11, _⟩ => ⟨S4x2048x2048, .f32⟩
  | .hbm, ⟨12, _⟩ => ⟨S4x2048x1024, .f32⟩
  | .hbm, ⟨13, _⟩ => ⟨S4x2048x1024, .f32⟩
  | .hbm, ⟨14, _⟩ => ⟨S1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x2048, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S_, .f32⟩
  | .hbm, ⟨50, _⟩ => ⟨S4x1024, .f32⟩
  | .hbm, ⟨51, _⟩ => ⟨S4x1x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S1024, .f32⟩
  | .hbm, ⟨62, _⟩ => ⟨S4x2048x1024, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S1x1024, .f32⟩
  | .hbm, ⟨81, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel28.lean ====
abbrev S2x8 : Shape := ⟨2, ![2, 8]⟩
abbrev S1x1024 : Shape := ⟨2, ![1, 1024]⟩
abbrev S1x128 : Shape := ⟨2, ![1, 128]⟩

abbrev nBuf : Space → Nat
  | .hbm => 21
  | .vmem => 21
  | .smem => 0
  | _ => 0

abbrev bufTy : (tb : Table) → Fin (tcTables nBuf tb) → BufTy
  | .hbm, ⟨0, _⟩ => ⟨S2x8, .f32⟩
  | .hbm, ⟨1, _⟩ => ⟨S1x1024, .f32⟩
  | .hbm, ⟨2, _⟩ => ⟨S1x128, .f32⟩
  | .hbm, ⟨3, _⟩ => ⟨S2x8, .f32⟩
  | .hbm, ⟨4, _⟩ => ⟨S1x1024, .f32⟩
  | .hbm, ⟨5, _⟩ => ⟨S1x128, .f32⟩
  | .hbm, ⟨6, _⟩ => ⟨S2x8, .f32⟩
  | .hbm, ⟨7, _⟩ => ⟨S1x1024, .f32⟩
  | .hbm, ⟨8, _⟩ => ⟨S1x128, .f32⟩
  | .hbm, ⟨9, _⟩ => ⟨S2x8, .f32⟩
  | .hbm, ⟨10, _⟩ => ⟨S1x1024, .f32⟩
  | .hbm, ⟨11, _⟩ => ⟨S1x128, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x128, .f32⟩
  | .hbm, ⟨19, _⟩ => ⟨S1x128, .f32⟩
  | .hbm, ⟨20, _⟩ => ⟨S1x128, .f32⟩
  | .local _ .vmem, ⟨0, _⟩ => ⟨S2x8, .f32⟩
  | .local _ .vmem, ⟨1, _⟩ => ⟨S1x1024, .f32⟩
  | .local _ .vmem, ⟨2, _⟩ => ⟨S1x128, .f32⟩
  | .local _ .vmem, ⟨3, _⟩ => ⟨S2x8, .f32⟩
  | .local _ .vmem, ⟨4, _⟩ => ⟨S1x1024, .f32⟩
  | .local _ .vmem, ⟨5, _⟩ => ⟨S1x128, .f32⟩
  | .local _ .vmem, ⟨6, _⟩ => ⟨S2x8, .f32⟩
  | .local _ .vmem, ⟨7, _⟩ => ⟨S1x1024, .f32⟩
  | .local _ .vmem, ⟨8, _⟩ => ⟨S1x128, .f32⟩
  | .local _ .vmem, ⟨9, _⟩ => ⟨S2x8, .f32⟩
  | .local _ .vmem, ⟨10, _⟩ => ⟨S1x1024, .f32⟩
  | .local _ .vmem, ⟨11, _⟩ => ⟨S1x128, .f32⟩
  | .local _ .vmem, ⟨12, _⟩ => ⟨S2x8, .f32⟩
  | .local _ .vmem, ⟨13, _⟩ => ⟨S2x8, .f32⟩
  | .local _ .vmem, ⟨14, _⟩ => ⟨S2x8, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel28Ideal.lean ====
abbrev S2x8 : Shape := ⟨2, ![2, 8]⟩
abbrev S1x1024 : Shape := ⟨2, ![1, 1024]⟩
abbrev S1x128 : Shape := ⟨2, ![1, 128]⟩

abbrev nBuf : Space → Nat
  | .hbm => 21
  | .vmem => 21
  | .smem => 0
  | _ => 0

abbrev bufTy : (tb : Table) → Fin (tcTables nBuf tb) → BufTy
  | .hbm, ⟨0, _⟩ => ⟨S2x8, .f32⟩
  | .hbm, ⟨1, _⟩ => ⟨S1x1024, .f32⟩
  | .hbm, ⟨2, _⟩ => ⟨S1x128, .f32⟩
  | .hbm, ⟨3, _⟩ => ⟨S2x8, .f32⟩
  | .hbm, ⟨4, _⟩ => ⟨S1x1024, .f32⟩
  | .hbm, ⟨5, _⟩ => ⟨S1x128, .f32⟩
  | .hbm, ⟨6, _⟩ => ⟨S2x8, .f32⟩
  | .hbm, ⟨7, _⟩ => ⟨S1x1024, .f32⟩
  | .hbm, ⟨8, _⟩ => ⟨S1x128, .f32⟩
  | .hbm, ⟨9, _⟩ => ⟨S2x8, .f32⟩
  | .hbm, ⟨10, _⟩ => ⟨S1x1024, .f32⟩
  | .hbm, ⟨11, _⟩ => ⟨S1x128, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x128, .f32⟩
  | .hbm, ⟨19, _⟩ => ⟨S1x128, .f32⟩
  | .hbm, ⟨20, _⟩ => ⟨S1x128, .f32⟩
  | .local _ .vmem, ⟨0, _⟩ => ⟨S2x8, .f32⟩
  | .local _ .vmem, ⟨1, _⟩ => ⟨S1x1024, .f32⟩
  | .local _ .vmem, ⟨2, _⟩ => ⟨S1x128, .f32⟩
  | .local _ .vmem, ⟨3, _⟩ => ⟨S2x8, .f32⟩
  | .local _ .vmem, ⟨4, _⟩ => ⟨S1x1024, .f32⟩
  | .local _ .vmem, ⟨5, _⟩ => ⟨S1x128, .f32⟩
  | .local _ .vmem, ⟨6, _⟩ => ⟨S2x8, .f32⟩
  | .local _ .vmem, ⟨7, _⟩ => ⟨S1x1024, .f32⟩
  | .local _ .vmem, ⟨8, _⟩ => ⟨S1x128, .f32⟩
  | .local _ .vmem, ⟨9, _⟩ => ⟨S2x8, .f32⟩
  | .local _ .vmem, ⟨10, _⟩ => ⟨S1x1024, .f32⟩
  | .local _ .vmem, ⟨11, _⟩ => ⟨S1x128, .f32⟩
  | .local _ .vmem, ⟨12, _⟩ => ⟨S2x8, .f32⟩
  | .local _ .vmem, ⟨13, _⟩ => ⟨S2x8, .f32⟩
  | .local _ .vmem, ⟨14, _⟩ => ⟨S2x8, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference28Ideal.lean ====
abbrev S2x8 : Shape := ⟨2, ![2, 8]⟩
abbrev S1x1024 : Shape := ⟨2, ![1, 1024]⟩
abbrev S1x128 : Shape := ⟨2, ![1, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S1x1024, .f32⟩
  | .hbm, ⟨2, _⟩ => ⟨S1x128, .f32⟩
  | .hbm, ⟨3, _⟩ => ⟨S2x8, .f32⟩
  | .hbm, ⟨4, _⟩ => ⟨S1x1024, .f32⟩
  | .hbm, ⟨5, _⟩ => ⟨S1x128, .f32⟩
  | .hbm, ⟨6, _⟩ => ⟨S2x8, .f32⟩
  | .hbm, ⟨7, _⟩ => ⟨S1x1024, .f32⟩
  | .hbm, ⟨8, _⟩ => ⟨S1x128, .f32⟩
  | .hbm, ⟨9, _⟩ => ⟨S2x8, .f32⟩
  | .hbm, ⟨10, _⟩ => ⟨S1x1024, .f32⟩
  | .hbm, ⟨11, _⟩ => ⟨S1x128, .f32⟩
  | .hbm, ⟨12, _⟩ => ⟨S_, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S2x8, .f32⟩
  | .hbm, ⟨23, _⟩ => ⟨S_, .f32⟩
  | .hbm, ⟨24, _⟩ => ⟨S2x8, .f32⟩
  | .hbm, ⟨25, _⟩ => ⟨S2x8, .f32⟩
  | .hbm, ⟨26, _⟩ => ⟨S2x8, .f32⟩
  | .hbm, ⟨27, _⟩ => ⟨S_, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | .hbm, ⟨37, _⟩ => ⟨S2x8, .f32⟩
  | .hbm, ⟨38, _⟩ => ⟨S_, .f32⟩
  | .hbm, ⟨39, _⟩ => ⟨S2x8, .f32⟩
  | .hbm, ⟨40, _⟩ => ⟨S2x8, .f32⟩
  | .hbm, ⟨41, _⟩ => ⟨S2x8, .f32⟩
  | .hbm, ⟨42, _⟩ => ⟨S_, .f32⟩
  | .hbm, ⟨43, _⟩ => ⟨S2x8, .f32⟩
  | .hbm, ⟨44, _⟩ => ⟨S2x8, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S_, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S_, .f32⟩
  | .hbm, ⟨109, _⟩ => ⟨S1x128, .f32⟩
  | .hbm, ⟨110, _⟩ => ⟨S1x128, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel29.lean ====
abbrev S1x128 : Shape := ⟨2, ![1, 128]⟩
abbrev S32x12 : Shape := ⟨2, ![32, 12]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x128, .f32⟩
  | .hbm, ⟨1, _⟩ => ⟨S32x12, .f32⟩
  | .hbm, ⟨2, _⟩ => ⟨S1x1024, .f32⟩
  | .hbm, ⟨3, _⟩ => ⟨S1x128, .f32⟩
  | .hbm, ⟨4, _⟩ => ⟨S32x12, .f32⟩
  | .hbm, ⟨5, _⟩ => ⟨S1x1024, .f32⟩
  | .hbm, ⟨6, _⟩ => ⟨S1x128, .f32⟩
  | .hbm, ⟨7, _⟩ => ⟨S32x12, .f32⟩
  | .hbm, ⟨8, _⟩ => ⟨S1x1024, .f32⟩
  | .hbm, ⟨9, _⟩ => ⟨S1x128, .f32⟩
  | .hbm, ⟨10, _⟩ => ⟨S32x12, .f32⟩
  | .hbm, ⟨11, _⟩ => ⟨S1x1024, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S32x12, .f32⟩
  | .hbm, ⟨16, _⟩ => ⟨S32x12, .f32⟩
  | .hbm, ⟨17, _⟩ => ⟨S32x12, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x128, .f32⟩
  | .local _ .vmem, ⟨1, _⟩ => ⟨S32x12, .f32⟩
  | .local _ .vmem, ⟨2, _⟩ => ⟨S1x1024, .f32⟩
  | .local _ .vmem, ⟨3, _⟩ => ⟨S1x128, .f32⟩
  | .local _ .vmem, ⟨4, _⟩ => ⟨S32x12, .f32⟩
  | .local _ .vmem, ⟨5, _⟩ => ⟨S1x1024, .f32⟩
  | .local _ .vmem, ⟨6, _⟩ => ⟨S1x128, .f32⟩
  | .local _ .vmem, ⟨7, _⟩ => ⟨S32x12, .f32⟩
  | .local _ .vmem, ⟨8, _⟩ => ⟨S1x1024, .f32⟩
  | .local _ .vmem, ⟨9, _⟩ => ⟨S1x128, .f32⟩
  | .local _ .vmem, ⟨10, _⟩ => ⟨S32x12, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S32x12, .f32⟩
  | .local _ .vmem, ⟨16, _⟩ => ⟨S32x12, .f32⟩
  | .local _ .vmem, ⟨17, _⟩ => ⟨S32x12, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x12 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x12 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x12 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference29Ideal.lean ====
abbrev S1x128 : Shape := ⟨2, ![1, 128]⟩
abbrev S32x12 : Shape := ⟨2, ![32, 12]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S32x12, .f32⟩
  | .hbm, ⟨2, _⟩ => ⟨S1x1024, .f32⟩
  | .hbm, ⟨3, _⟩ => ⟨S1x128, .f32⟩
  | .hbm, ⟨4, _⟩ => ⟨S32x12, .f32⟩
  | .hbm, ⟨5, _⟩ => ⟨S1x1024, .f32⟩
  | .hbm, ⟨6, _⟩ => ⟨S1x128, .f32⟩
  | .hbm, ⟨7, _⟩ => ⟨S32x12, .f32⟩
  | .hbm, ⟨8, _⟩ => ⟨S1x1024, .f32⟩
  | .hbm, ⟨9, _⟩ => ⟨S1x128, .f32⟩
  | .hbm, ⟨10, _⟩ => ⟨S32x12, .f32⟩
  | .hbm, ⟨11, _⟩ => ⟨S1x1024, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S32x12, .f32⟩
  | .hbm, ⟨47, _⟩ => ⟨S32x12, .f32⟩
  | .hbm, ⟨48, _⟩ => ⟨S_, .f32⟩
  | .hbm, ⟨49, _⟩ => ⟨S32x12, .f32⟩
  | .hbm, ⟨50, _⟩ => ⟨S32x12, .f32⟩
  | .hbm, ⟨51, _⟩ => ⟨S32x12, .f32⟩
  | .hbm, ⟨52, _⟩ => ⟨S_, .f32⟩
  | .hbm, ⟨53, _⟩ => ⟨S32x12, .f32⟩
  | .hbm, ⟨54, _⟩ => ⟨S32x12, .f32⟩
  | .hbm, ⟨55, _⟩ => ⟨S32x12, .f32⟩
  | .hbm, ⟨56, _⟩ => ⟨S_, .f32⟩
  | .hbm, ⟨57, _⟩ => ⟨S32x12, .f32⟩
  | .hbm, ⟨58, _⟩ => ⟨S32x12, .f32⟩
  | .hbm, ⟨59, _⟩ => ⟨S32x12, .f32⟩
  | .hbm, ⟨60, _⟩ => ⟨S_, .f32⟩
  | .hbm, ⟨61, _⟩ => ⟨S32x12, .f32⟩
  | .hbm, ⟨62, _⟩ => ⟨S32x12, .f32⟩
  | .hbm, ⟨63, _⟩ => ⟨S_, .f32⟩
  | .hbm, ⟨64, _⟩ => ⟨S32x12, .f32⟩
  | .hbm, ⟨65, _⟩ => ⟨S32x12, .f32⟩
  | .hbm, ⟨66, _⟩ => ⟨S32x12, .f32⟩
  | .hbm, ⟨67, _⟩ => ⟨S_, .f32⟩
  | .hbm, ⟨68, _⟩ => ⟨S32x12, .f32⟩
  | .hbm, ⟨69, _⟩ => ⟨S32x12, .f32⟩
  | .hbm, ⟨70, _⟩ => ⟨S32x12, .f32⟩
  | .hbm, ⟨71, _⟩ => ⟨S_, .f32⟩
  | .hbm, ⟨72, _⟩ => ⟨S32x12, .f32⟩
  | .hbm, ⟨73, _⟩ => ⟨S32x12, .f32⟩
  | .hbm, ⟨74, _⟩ => ⟨S32x12, .f32⟩
  | .hbm, ⟨75, _⟩ => ⟨S_, .f32⟩
  | .hbm, ⟨76, _⟩ => ⟨S32x12, .f32⟩
  | .hbm, ⟨77, _⟩ => ⟨S32x12, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Adam.lean ====
/- One step of the optimiser AdamW on one weight, over the extended reals, and the sum of the eight devices' parts. -/
module

public import Idealize.ShloMosaic.Lib.Pipeline.ValueKit
public import Idealize.ShloMosaic.Lib.WritesUnit

@[expose] public section

noncomputable section

namespace Cert.Adam

open Idealize.ShloMosaic Idealize.ShloMosaic.TcCoe Idealize.SL.Sem

/-- The number that a float32 word means. -/
def num (b : BitVec 32) : EReal := FloatOps.ofBits (F := Ideal) .f32 b

/-- The new first moment, from the gradient `g` and the old one `m`: 0.9 m + 0.1 g. -/
def first (g m : EReal) : EReal := num 0x3F666666#32 * m + num 0x3DCCCCCD#32 * g

/-- The new second moment, from the gradient `g` and the old one `v`: 0.999 v + 0.001 g². -/
def second (g v : EReal) : EReal := num 0x3F7FBE77#32 * v + num 0x3A83126F#32 * (g * g)

/-- The weight's change: the first moment over its bias correction, divided by the root of the second over its own, plus the decay, times the rate. -/
def delta (w g m v : EReal) : EReal :=
  num 0xBA83126F#32 * (Ideal.div (Ideal.div (first g m) (num 0x3F26BD02#32)) (Ideal.sqrt (Ideal.div (second g v) (num 0x3C231ACC#32)) + num 0x322BCC77#32) + num 0x3C23D70A#32 * w)

/-- Equal arguments give an equal change. -/
theorem delta_congr {w w' g g' m m' v v' : EReal} (hw : w = w') (hg : g = g') (hm : m = m') (hv : v = v') : delta w g m v = delta w' g' m' v' := by
  subst hw hg hm hv
  rfl

/-- The three elementwise on whole arrays of one shape. -/
def firsts {S : Shape} (g m : FVec Ideal S .f32) : FVec Ideal S .f32 := fun q => first (g q) (m q)

def seconds {S : Shape} (g v : FVec Ideal S .f32) : FVec Ideal S .f32 := fun q => second (g q) (v q)

def deltas {S : Shape} (w g m v : FVec Ideal S .f32) : FVec Ideal S .f32 := fun q => delta (w q) (g q) (m q) (v q)

/-- An array that is one of the three of some arrays is the same one of equal arrays. -/
theorem firsts_eq {S : Shape} {x g g' m m' : FVec Ideal S .f32} (h : x = firsts g' m') (hg : g' = g) (hm : m' = m) : x = firsts g m := by
  rw [h, hg, hm]

theorem seconds_eq {S : Shape} {x g g' v v' : FVec Ideal S .f32} (h : x = seconds g' v') (hg : g' = g) (hv : v' = v) : x = seconds g v := by
  rw [h, hg, hv]

theorem deltas_eq {S : Shape} {x w w' g g' m m' v v' : FVec Ideal S .f32} (h : x = deltas w' g' m' v') (hw : w' = w) (hg : g' = g) (hm : m' = m) (hv : v' = v) :
    x = deltas w g m v := by
  rw [h, hw, hg, hm, hv]

variable {R C : ℕ}

/-- The sum of the eight devices' parts of a gradient. -/
def total (P : Fin 8 → Fin R → Fin C → EReal) (i : Fin R) (j : Fin C) : EReal := ∑ d : Fin 8, P d i j

/-- The parts added one after the other. -/
theorem total_eq (P : Fin 8 → Fin R → Fin C → EReal) (i : Fin R) (j : Fin C) :
    P 0 i j + P 1 i j + P 2 i j + P 3 i j + P 4 i j + P 5 i j + P 6 i j + P 7 i j = total P i j := by
  unfold total
  rw [Fin.sum_univ_eight]

end Cert.Adam
-- ==== Proof.AdamFf1.lean ====
/- The optimiser's step on the first feed-forward weight: the kernel's four arrays after the run, the reference's four results, and their equality. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Adam
public import Idealize.ShloMosaic.Adequacy
public import Idealize.ShloMosaic.Lib.Pipeline.ValueKit

@[expose] public section

set_option maxRecDepth 16384

noncomputable section

namespace Cert.AdamFf1

open Idealize.ShloMosaic Idealize.ShloMosaic.TcCoe Idealize.SL.Sem

section kernel

open Cert.Kernel17Ideal Cert.Kernel17Ideal.Gen

variable (m : (ℓ : Loc nD τ sig) → Buf (Elt Ideal) ℓ)

/-- One block's gradient is the sum of the eight parts' blocks. -/
theorem sum_apply (x0 : Vec Ideal S256x512 .f32) (x1 : Vec Ideal S8x256x512 .bf16) (x2 x3 : Vec Ideal S256x512 .f32) (i : Fin 256) (j : Fin 512) :
    k0_pay5 (F := Ideal) x0 x1 x2 x3 (ix2 i j) = Adam.total (fun d i j => x1 (ix3 d i j)) i j := by
  rw [← Adam.total_eq]
  pointwise [k0_pay5, k0_pay4]

theorem first_apply (g : FVec Ideal S256x512 .f32) (x : Vec Ideal S256x512 .f32) (y : S256x512.Idx) :
    k0_pay1 (F := Ideal) g x y = Adam.first (g y) (x y) := rfl

theorem second_apply (g : FVec Ideal S256x512 .f32) (x : Vec Ideal S256x512 .f32) (y : S256x512.Idx) :
    k0_pay2 (F := Ideal) g x y = Adam.second (g y) (x y) := rfl

theorem delta_apply (g w x z : FVec Ideal S256x512 .f32) (y : S256x512.Idx) :
    k0_pay3 (F := Ideal) g w x z y = Adam.delta (w y) (g y) (x y) (z y) := rfl

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient as the sum of the eight parts, and the two moments. -/
def kW (c : Dev nD) (i : Fin 1024) (j : Fin 512) : EReal := m ((c : Thread nD τ).loc main_arg0) (ix2 i j)
def kG (c : Dev nD) (i : Fin 1024) (j : Fin 512) : EReal := Adam.total (fun d i j => m ((c : Thread nD τ).loc main_arg1) (ix3 d i j)) i j
def kM (c : Dev nD) (i : Fin 1024) (j : Fin 512) : EReal := m ((c : Thread nD τ).loc main_arg2) (ix2 i j)
def kV (c : Dev nD) (i : Fin 1024) (j : Fin 512) : EReal := m ((c : Thread nD τ).loc main_arg3) (ix2 i j)

/-- The kernel's four result arrays after the run: the gradient, the weight's change, and the two moments. -/
def outG (c : Dev nD) : Vec Ideal S1024x512 .f32 := fun q => kG m c (q 0) (q 1)
def outD (c : Dev nD) : Vec Ideal S1024x512 .f32 := fun q => Adam.delta (kW m c (q 0) (q 1)) (kG m c (q 0) (q 1)) (kM m c (q 0) (q 1)) (kV m c (q 0) (q 1))
def outM (c : Dev nD) : Vec Ideal S1024x512 .f32 := fun q => Adam.first (kG m c (q 0) (q 1)) (kM m c (q 0) (q 1))
def outV (c : Dev nD) : Vec Ideal S1024x512 .f32 := fun q => Adam.second (kG m c (q 0) (q 1)) (kV m c (q 0) (q 1))

/-- The blocks' values are the arrays', where the block lies. -/
theorem block (c : Dev nD) (t : Fin cfg0.N) (i : Fin 256) (j : Fin 512) (p : Fin 1024) (q : Fin 512) (hp : p.val = t.val * 256 + i.val) (hq : q.val = j.val) :
    (iblk m c 0 t (ix2 i j) : EReal) = kW m c p q ∧ Adam.total (fun d i j => (iblk m c 1 t (ix3 d i j) : EReal)) i j = kG m c p q
      ∧ (iblk m c 2 t (ix2 i j) : EReal) = kM m c p q ∧ (iblk m c 3 t (ix2 i j) : EReal) = kV m c p q := by
  unfold kW kG kM kV Adam.total
  refine ⟨?_, Finset.sum_congr rfl fun d _ => ?_, ?_, ?_⟩ <;> blk_ext [iblk, V, idx t]

theorem block_delta (c : Dev nD) (t : Fin cfg0.N) (i : Fin 256) (j : Fin 512) (p : Fin 1024) (q : Fin 512) (hp : p.val = t.val * 256 + i.val) (hq : q.val = j.val) :
    Adam.delta (iblk m c 0 t (ix2 i j)) (Adam.total (fun d i j => (iblk m c 1 t (ix3 d i j) : EReal)) i j) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 256) (j : Fin 512) (p : Fin 1024) (q : Fin 512) (hp : p.val = t.val * 256 + i.val) (hq : q.val = j.val) :
    Adam.first (Adam.total (fun d i j => (iblk m c 1 t (ix3 d i j) : EReal)) i j) (iblk m c 2 t (ix2 i j)) = Adam.first (kG m c p q) (kM m c p q) :=
  have h := block m c t i j p q hp hq
  congrArg₂ Adam.first h.2.1 h.2.2.1

theorem block_second (c : Dev nD) (t : Fin cfg0.N) (i : Fin 256) (j : Fin 512) (p : Fin 1024) (q : Fin 512) (hp : p.val = t.val * 256 + i.val) (hq : q.val = j.val) :
    Adam.second (Adam.total (fun d i j => (iblk m c 1 t (ix3 d i j) : EReal)) i j) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (sum_apply _ _ _ _ i j).trans (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans ((Adam.delta_congr rfl (sum_apply _ _ _ _ i j) rfl rfl).trans <| block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans ((congrArg (fun g : EReal => Adam.first g _) (sum_apply _ _ _ _ i j)).trans <| block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans ((congrArg (fun g : EReal => Adam.second g _) (sum_apply _ _ _ _ i j)).trans <| block_second m c t i j _ _ ?_ ?_) <;> blk_simp [idx t]

end kernel

section reference

open Cert.Reference17Ideal Cert.Reference17Ideal.Read

variable (x0 x2 x3 : (⟨S1024x512, .f32⟩ : BufTy).Contents (Elt Ideal)) (x1 : (⟨S8x1024x512, .bf16⟩ : BufTy).Contents (Elt Ideal))

/-- The gradient, the first moment, the second and the weight's change, at row `i` and column `j`. -/
theorem sum_at (i : Fin 1024) (j : Fin 512) : val_main_v1 (F := Ideal) x1 (ix2 i j) = Adam.total (fun d i j => x1 (ix3 d i j)) i j := by
  pointwise [val_main_v1, val_main_v0, val_main_cst]
  rfl

theorem first_at (i : Fin 1024) (j : Fin 512) : val_main_v6 (F := Ideal) x1 x2 (ix2 i j) = Adam.first (val_main_v1 (F := Ideal) x1 (ix2 i j)) (x2 (ix2 i j)) := by
  rw [val_main_v6_apply, val_main_v3_apply, val_main_v5_apply, val_main_v2_apply, val_main_v4_apply]
  rfl

theorem second_at (i : Fin 1024) (j : Fin 512) : val_main_v12 (F := Ideal) x1 x3 (ix2 i j) = Adam.second (val_main_v1 (F := Ideal) x1 (ix2 i j)) (x3 (ix2 i j)) := by
  rw [val_main_v12_apply, val_main_v8_apply, val_main_v11_apply, val_main_v9_apply, val_main_v7_apply, val_main_v10_apply]
  rfl

theorem delta_at (i : Fin 1024) (j : Fin 512) :
    val_main_v25 (F := Ideal) x0 x1 x2 x3 (ix2 i j) = Adam.delta (x0 (ix2 i j)) (val_main_v1 (F := Ideal) x1 (ix2 i j)) (x2 (ix2 i j)) (x3 (ix2 i j)) := by
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, first_at, second_at]
  rfl

theorem ref_sum : val_main_v1 (F := Ideal) x1 = fun q => Adam.total (fun d i j => x1 (ix3 d i j)) (q 0) (q 1) := by
  funext q
  obtain ⟨i, j, rfl⟩ : ∃ i j, q = ix2 i j := ⟨q 0, q 1, by funext x; fin_cases x <;> rfl⟩
  exact sum_at x1 i j

theorem ref_first : val_main_v6 (F := Ideal) x1 x2 = fun q => Adam.first (Adam.total (fun d i j => x1 (ix3 d i j)) (q 0) (q 1)) (x2 (ix2 (q 0) (q 1))) := by
  funext q
  obtain ⟨i, j, rfl⟩ : ∃ i j, q = ix2 i j := ⟨q 0, q 1, by funext x; fin_cases x <;> rfl⟩
  rw [first_at, sum_at]
  rfl

theorem ref_second : val_main_v12 (F := Ideal) x1 x3 = fun q => Adam.second (Adam.total (fun d i j => x1 (ix3 d i j)) (q 0) (q 1)) (x3 (ix2 (q 0) (q 1))) := by
  funext q
  obtain ⟨i, j, rfl⟩ : ∃ i j, q = ix2 i j := ⟨q 0, q 1, by funext x; fin_cases x <;> rfl⟩
  rw [second_at, sum_at]
  rfl

theorem ref_delta : val_main_v25 (F := Ideal) x0 x1 x2 x3 = fun q => Adam.delta (x0 (ix2 (q 0) (q 1))) (Adam.total (fun d i j => x1 (ix3 d i j)) (q 0) (q 1))
    (x2 (ix2 (q 0) (q 1))) (x3 (ix2 (q 0) (q 1))) := by
  funext q
  obtain ⟨i, j, rfl⟩ : ∃ i j, q = ix2 i j := ⟨q 0, q 1, by funext x; fin_cases x <;> rfl⟩
  rw [delta_at, sum_at]
  rfl

end reference

/-- The value claim: from equal arguments the two programs end with equal results. -/
theorem value : Cert.algebraic_Kernel17Ideal_Reference17Ideal (hKernel17Ideal := Cert.Kernel17Ideal.Gen.facts) (hReference17Ideal := Cert.Reference17Ideal.Gen.facts) := by
  intro m g m' g' _ hag
  refine ⟨outG m, outD m, outM m, outV m, ?_, ?_⟩
  · exact (θ_run Cert.Kernel17Ideal.defs _ _).mono (fun r h c => ⟨(h c).1.trans (final4 m c), (h c).2.1.trans (final5 m c), (h c).2.2.1.trans (final6 m c),
      (h c).2.2.2.1.trans (final7 m c), (h c).2.2.2.2⟩) (Cert.Kernel17Ideal.Value.run_blocks m g)
  · refine (θ_run Cert.Reference17Ideal.defs _ _).mono (fun r h c => ?_) (Cert.Reference17Ideal.Value.run m' g')
    obtain ⟨e0, e1, e2, e3⟩ := hag c
    refine ⟨((h c).1.trans (Cert.Reference17Ideal.Read.val_main_v1_eq _)).trans ((ref_sum _).trans ?_),
      ((h c).2.1.trans (Cert.Reference17Ideal.Read.val_main_v25_eq _ _ _ _)).trans ((ref_delta _ _ _ _).trans ?_),
      ((h c).2.2.1.trans (Cert.Reference17Ideal.Read.val_main_v6_eq _ _)).trans ((ref_first _ _).trans ?_),
      ((h c).2.2.2.1.trans (Cert.Reference17Ideal.Read.val_main_v12_eq _ _)).trans ((ref_second _ _).trans ?_), (h c).2.2.2.2⟩
    all_goals
      simp only [e0, e1, e2, e3]
      rfl

end Cert.AdamFf1
-- ==== Proof.AdamFf2.lean ====
/- The optimiser's step on the second feed-forward weight: the kernel's four arrays after the run, the reference's four results, and their equality. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
public import Idealize.ShloMosaic.Adequacy
public import Idealize.ShloMosaic.Lib.Pipeline.ValueKit

@[expose] public section

set_option maxRecDepth 16384

noncomputable section

namespace Cert.AdamFf2

open Idealize.ShloMosaic Idealize.ShloMosaic.TcCoe Idealize.SL.Sem

section kernel

open Cert.Kernel18Ideal Cert.Kernel18Ideal.Gen

variable (m : (ℓ : Loc nD τ sig) → Buf (Elt Ideal) ℓ)

/-- One block's gradient is the sum of the eight parts' blocks. -/
theorem sum_apply (x0 : Vec Ideal S256x1024 .f32) (x1 : Vec Ideal S8x256x1024 .bf16) (x2 x3 : Vec Ideal S256x1024 .f32) (i : Fin 256) (j : Fin 1024) :
    k0_pay5 (F := Ideal) x0 x1 x2 x3 (ix2 i j) = Adam.total (fun d i j => x1 (ix3 d i j)) i j := by
  rw [← Adam.total_eq]
  pointwise [k0_pay5, k0_pay4]

theorem first_apply (g : FVec Ideal S256x1024 .f32) (x : Vec Ideal S256x1024 .f32) (y : S256x1024.Idx) :
    k0_pay1 (F := Ideal) g x y = Adam.first (g y) (x y) := rfl

theorem second_apply (g : FVec Ideal S256x1024 .f32) (x : Vec Ideal S256x1024 .f32) (y : S256x1024.Idx) :
    k0_pay2 (F := Ideal) g x y = Adam.second (g y) (x y) := rfl

theorem delta_apply (g w x z : FVec Ideal S256x1024 .f32) (y : S256x1024.Idx) :
    k0_pay3 (F := Ideal) g w x z y = Adam.delta (w y) (g y) (x y) (z y) := rfl

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient as the sum of the eight parts, and the two moments. -/
def kW (c : Dev nD) (i : Fin 512) (j : Fin 1024) : EReal := m ((c : Thread nD τ).loc main_arg0) (ix2 i j)
def kG (c : Dev nD) (i : Fin 512) (j : Fin 1024) : EReal := Adam.total (fun d i j => m ((c : Thread nD τ).loc main_arg1) (ix3 d i j)) i j
def kM (c : Dev nD) (i : Fin 512) (j : Fin 1024) : EReal := m ((c : Thread nD τ).loc main_arg2) (ix2 i j)
def kV (c : Dev nD) (i : Fin 512) (j : Fin 1024) : EReal := m ((c : Thread nD τ).loc main_arg3) (ix2 i j)

/-- The kernel's four result arrays after the run: the gradient, the weight's change, and the two moments. -/
def outG (c : Dev nD) : Vec Ideal S512x1024 .f32 := fun q => kG m c (q 0) (q 1)
def outD (c : Dev nD) : Vec Ideal S512x1024 .f32 := fun q => Adam.delta (kW m c (q 0) (q 1)) (kG m c (q 0) (q 1)) (kM m c (q 0) (q 1)) (kV m c (q 0) (q 1))
def outM (c : Dev nD) : Vec Ideal S512x1024 .f32 := fun q => Adam.first (kG m c (q 0) (q 1)) (kM m c (q 0) (q 1))
def outV (c : Dev nD) : Vec Ideal S512x1024 .f32 := fun q => Adam.second (kG m c (q 0) (q 1)) (kV m c (q 0) (q 1))

/-- The blocks' values are the arrays', where the block lies. -/
theorem block (c : Dev nD) (t : Fin cfg0.N) (i : Fin 256) (j : Fin 1024) (p : Fin 512) (q : Fin 1024) (hp : p.val = t.val * 256 + i.val) (hq : q.val = j.val) :
    (iblk m c 0 t (ix2 i j) : EReal) = kW m c p q ∧ Adam.total (fun d i j => (iblk m c 1 t (ix3 d i j) : EReal)) i j = kG m c p q
      ∧ (iblk m c 2 t (ix2 i j) : EReal) = kM m c p q ∧ (iblk m c 3 t (ix2 i j) : EReal) = kV m c p q := by
  unfold kW kG kM kV Adam.total
  refine ⟨?_, Finset.sum_congr rfl fun d _ => ?_, ?_, ?_⟩ <;> blk_ext [iblk, V, idx t]

theorem block_delta (c : Dev nD) (t : Fin cfg0.N) (i : Fin 256) (j : Fin 1024) (p : Fin 512) (q : Fin 1024) (hp : p.val = t.val * 256 + i.val) (hq : q.val = j.val) :
    Adam.delta (iblk m c 0 t (ix2 i j)) (Adam.total (fun d i j => (iblk m c 1 t (ix3 d i j) : EReal)) i j) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 256) (j : Fin 1024) (p : Fin 512) (q : Fin 1024) (hp : p.val = t.val * 256 + i.val) (hq : q.val = j.val) :
    Adam.first (Adam.total (fun d i j => (iblk m c 1 t (ix3 d i j) : EReal)) i j) (iblk m c 2 t (ix2 i j)) = Adam.first (kG m c p q) (kM m c p q) :=
  have h := block m c t i j p q hp hq
  congrArg₂ Adam.first h.2.1 h.2.2.1

theorem block_second (c : Dev nD) (t : Fin cfg0.N) (i : Fin 256) (j : Fin 1024) (p : Fin 512) (q : Fin 1024) (hp : p.val = t.val * 256 + i.val) (hq : q.val = j.val) :
    Adam.second (Adam.total (fun d i j => (iblk m c 1 t (ix3 d i j) : EReal)) i j) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (sum_apply _ _ _ _ i j).trans (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans ((Adam.delta_congr rfl (sum_apply _ _ _ _ i j) rfl rfl).trans <| block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans ((congrArg (fun g : EReal => Adam.first g _) (sum_apply _ _ _ _ i j)).trans <| block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans ((congrArg (fun g : EReal => Adam.second g _) (sum_apply _ _ _ _ i j)).trans <| block_second m c t i j _ _ ?_ ?_) <;> blk_simp [idx t]

end kernel

section reference

open Cert.Reference18Ideal Cert.Reference18Ideal.Read

variable (x0 x2 x3 : (⟨S512x1024, .f32⟩ : BufTy).Contents (Elt Ideal)) (x1 : (⟨S8x512x1024, .bf16⟩ : BufTy).Contents (Elt Ideal))

/-- The gradient, the first moment, the second and the weight's change, at row `i` and column `j`. -/
theorem sum_at (i : Fin 512) (j : Fin 1024) : val_main_v1 (F := Ideal) x1 (ix2 i j) = Adam.total (fun d i j => x1 (ix3 d i j)) i j := by
  pointwise [val_main_v1, val_main_v0, val_main_cst]
  rfl

theorem first_at (i : Fin 512) (j : Fin 1024) : val_main_v6 (F := Ideal) x1 x2 (ix2 i j) = Adam.first (val_main_v1 (F := Ideal) x1 (ix2 i j)) (x2 (ix2 i j)) := by
  rw [val_main_v6_apply, val_main_v3_apply, val_main_v5_apply, val_main_v2_apply, val_main_v4_apply]
  rfl

theorem second_at (i : Fin 512) (j : Fin 1024) : val_main_v12 (F := Ideal) x1 x3 (ix2 i j) = Adam.second (val_main_v1 (F := Ideal) x1 (ix2 i j)) (x3 (ix2 i j)) := by
  rw [val_main_v12_apply, val_main_v8_apply, val_main_v11_apply, val_main_v9_apply, val_main_v7_apply, val_main_v10_apply]
  rfl

theorem delta_at (i : Fin 512) (j : Fin 1024) :
    val_main_v25 (F := Ideal) x0 x1 x2 x3 (ix2 i j) = Adam.delta (x0 (ix2 i j)) (val_main_v1 (F := Ideal) x1 (ix2 i j)) (x2 (ix2 i j)) (x3 (ix2 i j)) := by
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, first_at, second_at]
  rfl

theorem ref_sum : val_main_v1 (F := Ideal) x1 = fun q => Adam.total (fun d i j => x1 (ix3 d i j)) (q 0) (q 1) := by
  funext q
  obtain ⟨i, j, rfl⟩ : ∃ i j, q = ix2 i j := ⟨q 0, q 1, by funext x; fin_cases x <;> rfl⟩
  exact sum_at x1 i j

theorem ref_first : val_main_v6 (F := Ideal) x1 x2 = fun q => Adam.first (Adam.total (fun d i j => x1 (ix3 d i j)) (q 0) (q 1)) (x2 (ix2 (q 0) (q 1))) := by
  funext q
  obtain ⟨i, j, rfl⟩ : ∃ i j, q = ix2 i j := ⟨q 0, q 1, by funext x; fin_cases x <;> rfl⟩
  rw [first_at, sum_at]
  rfl

theorem ref_second : val_main_v12 (F := Ideal) x1 x3 = fun q => Adam.second (Adam.total (fun d i j => x1 (ix3 d i j)) (q 0) (q 1)) (x3 (ix2 (q 0) (q 1))) := by
  funext q
  obtain ⟨i, j, rfl⟩ : ∃ i j, q = ix2 i j := ⟨q 0, q 1, by funext x; fin_cases x <;> rfl⟩
  rw [second_at, sum_at]
  rfl

theorem ref_delta : val_main_v25 (F := Ideal) x0 x1 x2 x3 = fun q => Adam.delta (x0 (ix2 (q 0) (q 1))) (Adam.total (fun d i j => x1 (ix3 d i j)) (q 0) (q 1))
    (x2 (ix2 (q 0) (q 1))) (x3 (ix2 (q 0) (q 1))) := by
  funext q
  obtain ⟨i, j, rfl⟩ : ∃ i j, q = ix2 i j := ⟨q 0, q 1, by funext x; fin_cases x <;> rfl⟩
  rw [delta_at, sum_at]
  rfl

end reference

/-- The value claim: from equal arguments the two programs end with equal results. -/
theorem value : Cert.algebraic_Kernel18Ideal_Reference18Ideal (hKernel18Ideal := Cert.Kernel18Ideal.Gen.facts) (hReference18Ideal := Cert.Reference18Ideal.Gen.facts) := by
  intro m g m' g' _ hag
  refine ⟨outG m, outD m, outM m, outV m, ?_, ?_⟩
  · exact (θ_run Cert.Kernel18Ideal.defs _ _).mono (fun r h c => ⟨(h c).1.trans (final4 m c), (h c).2.1.trans (final5 m c), (h c).2.2.1.trans (final6 m c),
      (h c).2.2.2.1.trans (final7 m c), (h c).2.2.2.2⟩) (Cert.Kernel18Ideal.Value.run_blocks m g)
  · refine (θ_run Cert.Reference18Ideal.defs _ _).mono (fun r h c => ?_) (Cert.Reference18Ideal.Value.run m' g')
    obtain ⟨e0, e1, e2, e3⟩ := hag c
    refine ⟨((h c).1.trans (Cert.Reference18Ideal.Read.val_main_v1_eq _)).trans ((ref_sum _).trans ?_),
      ((h c).2.1.trans (Cert.Reference18Ideal.Read.val_main_v25_eq _ _ _ _)).trans ((ref_delta _ _ _ _).trans ?_),
      ((h c).2.2.1.trans (Cert.Reference18Ideal.Read.val_main_v6_eq _ _)).trans ((ref_first _ _).trans ?_),
      ((h c).2.2.2.1.trans (Cert.Reference18Ideal.Read.val_main_v12_eq _ _)).trans ((ref_second _ _).trans ?_), (h c).2.2.2.2⟩
    all_goals
      simp only [e0, e1, e2, e3]
      rfl

end Cert.AdamFf2
-- ==== Proof.AdamOut.lean ====
/- The optimiser's step on the output projection's weight, and on the mLSTM output projection's: the kernel's four arrays after the run, the reference's four results, and their equality. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam
public import Idealize.ShloMosaic.Adequacy
public import Idealize.ShloMosaic.Lib.Pipeline.ValueKit

@[expose] public section

set_option maxRecDepth 16384

noncomputable section

namespace Cert.AdamOut

open Idealize.ShloMosaic Idealize.ShloMosaic.TcCoe Idealize.SL.Sem

section kernel

open Cert.Kernel19Ideal Cert.Kernel19Ideal.Gen

variable (m : (ℓ : Loc nD τ sig) → Buf (Elt Ideal) ℓ)

/-- One block's gradient is the sum of the eight parts' blocks. -/
theorem sum_apply (x0 : Vec Ideal S128x1024 .f32) (x1 : Vec Ideal S8x128x1024 .bf16) (x2 x3 : Vec Ideal S128x1024 .f32) (i : Fin 128) (j : Fin 1024) :
    k0_pay5 (F := Ideal) x0 x1 x2 x3 (ix2 i j) = Adam.total (fun d i j => x1 (ix3 d i j)) i j := by
  rw [← Adam.total_eq]
  pointwise [k0_pay5, k0_pay4]

theorem first_apply (g : FVec Ideal S128x1024 .f32) (x : Vec Ideal S128x1024 .f32) (y : S128x1024.Idx) :
    k0_pay1 (F := Ideal) g x y = Adam.first (g y) (x y) := rfl

theorem second_apply (g : FVec Ideal S128x1024 .f32) (x : Vec Ideal S128x1024 .f32) (y : S128x1024.Idx) :
    k0_pay2 (F := Ideal) g x y = Adam.second (g y) (x y) := rfl

theorem delta_apply (g w x z : FVec Ideal S128x1024 .f32) (y : S128x1024.Idx) :
    k0_pay3 (F := Ideal) g w x z y = Adam.delta (w y) (g y) (x y) (z y) := rfl

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient as the sum of the eight parts, and the two moments. -/
def kW (c : Dev nD) (i : Fin 128) (j : Fin 1024) : EReal := m ((c : Thread nD τ).loc main_arg0) (ix2 i j)
def kG (c : Dev nD) (i : Fin 128) (j : Fin 1024) : EReal := Adam.total (fun d i j => m ((c : Thread nD τ).loc main_arg1) (ix3 d i j)) i j
def kM (c : Dev nD) (i : Fin 128) (j : Fin 1024) : EReal := m ((c : Thread nD τ).loc main_arg2) (ix2 i j)
def kV (c : Dev nD) (i : Fin 128) (j : Fin 1024) : EReal := m ((c : Thread nD τ).loc main_arg3) (ix2 i j)

/-- The kernel's four result arrays after the run: the gradient, the weight's change, and the two moments. -/
def outG (c : Dev nD) : Vec Ideal S128x1024 .f32 := fun q => kG m c (q 0) (q 1)
def outD (c : Dev nD) : Vec Ideal S128x1024 .f32 := fun q => Adam.delta (kW m c (q 0) (q 1)) (kG m c (q 0) (q 1)) (kM m c (q 0) (q 1)) (kV m c (q 0) (q 1))
def outM (c : Dev nD) : Vec Ideal S128x1024 .f32 := fun q => Adam.first (kG m c (q 0) (q 1)) (kM m c (q 0) (q 1))
def outV (c : Dev nD) : Vec Ideal S128x1024 .f32 := fun q => Adam.second (kG m c (q 0) (q 1)) (kV m c (q 0) (q 1))

/-- The blocks' values are the arrays', where the block lies. -/
theorem block (c : Dev nD) (t : Fin cfg0.N) (i : Fin 128) (j : Fin 1024) (p : Fin 128) (q : Fin 1024) (hp : p.val = t.val * 128 + i.val) (hq : q.val = j.val) :
    (iblk m c 0 t (ix2 i j) : EReal) = kW m c p q ∧ Adam.total (fun d i j => (iblk m c 1 t (ix3 d i j) : EReal)) i j = kG m c p q
      ∧ (iblk m c 2 t (ix2 i j) : EReal) = kM m c p q ∧ (iblk m c 3 t (ix2 i j) : EReal) = kV m c p q := by
  unfold kW kG kM kV Adam.total
  refine ⟨?_, Finset.sum_congr rfl fun d _ => ?_, ?_, ?_⟩ <;> blk_ext [iblk, V, idx t]

theorem block_delta (c : Dev nD) (t : Fin cfg0.N) (i : Fin 128) (j : Fin 1024) (p : Fin 128) (q : Fin 1024) (hp : p.val = t.val * 128 + i.val) (hq : q.val = j.val) :
    Adam.delta (iblk m c 0 t (ix2 i j)) (Adam.total (fun d i j => (iblk m c 1 t (ix3 d i j) : EReal)) i j) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 128) (j : Fin 1024) (p : Fin 128) (q : Fin 1024) (hp : p.val = t.val * 128 + i.val) (hq : q.val = j.val) :
    Adam.first (Adam.total (fun d i j => (iblk m c 1 t (ix3 d i j) : EReal)) i j) (iblk m c 2 t (ix2 i j)) = Adam.first (kG m c p q) (kM m c p q) :=
  have h := block m c t i j p q hp hq
  congrArg₂ Adam.first h.2.1 h.2.2.1

theorem block_second (c : Dev nD) (t : Fin cfg0.N) (i : Fin 128) (j : Fin 1024) (p : Fin 128) (q : Fin 1024) (hp : p.val = t.val * 128 + i.val) (hq : q.val = j.val) :
    Adam.second (Adam.total (fun d i j => (iblk m c 1 t (ix3 d i j) : EReal)) i j) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (sum_apply _ _ _ _ i j).trans (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans ((Adam.delta_congr rfl (sum_apply _ _ _ _ i j) rfl rfl).trans <| block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans ((congrArg (fun g : EReal => Adam.first g _) (sum_apply _ _ _ _ i j)).trans <| block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans ((congrArg (fun g : EReal => Adam.second g _) (sum_apply _ _ _ _ i j)).trans <| block_second m c t i j _ _ ?_ ?_) <;> blk_simp [idx t]

end kernel

section reference

open Cert.Reference19Ideal Cert.Reference19Ideal.Read

variable (x0 x2 x3 : (⟨S128x1024, .f32⟩ : BufTy).Contents (Elt Ideal)) (x1 : (⟨S8x128x1024, .bf16⟩ : BufTy).Contents (Elt Ideal))

/-- The gradient, the first moment, the second and the weight's change, at row `i` and column `j`. -/
theorem sum_at (i : Fin 128) (j : Fin 1024) : val_main_v1 (F := Ideal) x1 (ix2 i j) = Adam.total (fun d i j => x1 (ix3 d i j)) i j := by
  pointwise [val_main_v1, val_main_v0, val_main_cst]
  rfl

theorem first_at (i : Fin 128) (j : Fin 1024) : val_main_v6 (F := Ideal) x1 x2 (ix2 i j) = Adam.first (val_main_v1 (F := Ideal) x1 (ix2 i j)) (x2 (ix2 i j)) := by
  rw [val_main_v6_apply, val_main_v3_apply, val_main_v5_apply, val_main_v2_apply, val_main_v4_apply]
  rfl

theorem second_at (i : Fin 128) (j : Fin 1024) : val_main_v12 (F := Ideal) x1 x3 (ix2 i j) = Adam.second (val_main_v1 (F := Ideal) x1 (ix2 i j)) (x3 (ix2 i j)) := by
  rw [val_main_v12_apply, val_main_v8_apply, val_main_v11_apply, val_main_v9_apply, val_main_v7_apply, val_main_v10_apply]
  rfl

theorem delta_at (i : Fin 128) (j : Fin 1024) :
    val_main_v25 (F := Ideal) x0 x1 x2 x3 (ix2 i j) = Adam.delta (x0 (ix2 i j)) (val_main_v1 (F := Ideal) x1 (ix2 i j)) (x2 (ix2 i j)) (x3 (ix2 i j)) := by
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, first_at, second_at]
  rfl

theorem ref_sum : val_main_v1 (F := Ideal) x1 = fun q => Adam.total (fun d i j => x1 (ix3 d i j)) (q 0) (q 1) := by
  funext q
  obtain ⟨i, j, rfl⟩ : ∃ i j, q = ix2 i j := ⟨q 0, q 1, by funext x; fin_cases x <;> rfl⟩
  exact sum_at x1 i j

theorem ref_first : val_main_v6 (F := Ideal) x1 x2 = fun q => Adam.first (Adam.total (fun d i j => x1 (ix3 d i j)) (q 0) (q 1)) (x2 (ix2 (q 0) (q 1))) := by
  funext q
  obtain ⟨i, j, rfl⟩ : ∃ i j, q = ix2 i j := ⟨q 0, q 1, by funext x; fin_cases x <;> rfl⟩
  rw [first_at, sum_at]
  rfl

theorem ref_second : val_main_v12 (F := Ideal) x1 x3 = fun q => Adam.second (Adam.total (fun d i j => x1 (ix3 d i j)) (q 0) (q 1)) (x3 (ix2 (q 0) (q 1))) := by
  funext q
  obtain ⟨i, j, rfl⟩ : ∃ i j, q = ix2 i j := ⟨q 0, q 1, by funext x; fin_cases x <;> rfl⟩
  rw [second_at, sum_at]
  rfl

theorem ref_delta : val_main_v25 (F := Ideal) x0 x1 x2 x3 = fun q => Adam.delta (x0 (ix2 (q 0) (q 1))) (Adam.total (fun d i j => x1 (ix3 d i j)) (q 0) (q 1))
    (x2 (ix2 (q 0) (q 1))) (x3 (ix2 (q 0) (q 1))) := by
  funext q
  obtain ⟨i, j, rfl⟩ : ∃ i j, q = ix2 i j := ⟨q 0, q 1, by funext x; fin_cases x <;> rfl⟩
  rw [delta_at, sum_at]
  rfl

end reference

/-- The value claim: from equal arguments the two programs end with equal results. -/
theorem value : Cert.algebraic_Kernel19Ideal_Reference19Ideal (hKernel19Ideal := Cert.Kernel19Ideal.Gen.facts) (hReference19Ideal := Cert.Reference19Ideal.Gen.facts) := by
  intro m g m' g' _ hag
  refine ⟨outG m, outD m, outM m, outV m, ?_, ?_⟩
  · exact (θ_run Cert.Kernel19Ideal.defs _ _).mono (fun r h c => ⟨(h c).1.trans (final4 m c), (h c).2.1.trans (final5 m c), (h c).2.2.1.trans (final6 m c),
      (h c).2.2.2.1.trans (final7 m c), (h c).2.2.2.2⟩) (Cert.Kernel19Ideal.Value.run_blocks m g)
  · refine (θ_run Cert.Reference19Ideal.defs _ _).mono (fun r h c => ?_) (Cert.Reference19Ideal.Value.run m' g')
    obtain ⟨e0, e1, e2, e3⟩ := hag c
    refine ⟨((h c).1.trans (Cert.Reference19Ideal.Read.val_main_v1_eq _)).trans ((ref_sum _).trans ?_),
      ((h c).2.1.trans (Cert.Reference19Ideal.Read.val_main_v25_eq _ _ _ _)).trans ((ref_delta _ _ _ _).trans ?_),
      ((h c).2.2.1.trans (Cert.Reference19Ideal.Read.val_main_v6_eq _ _)).trans ((ref_first _ _).trans ?_),
      ((h c).2.2.2.1.trans (Cert.Reference19Ideal.Read.val_main_v12_eq _ _)).trans ((ref_second _ _).trans ?_), (h c).2.2.2.2⟩
    all_goals
      simp only [e0, e1, e2, e3]
      rfl

end Cert.AdamOut
-- ==== Proof.AdamAttOut.lean ====
/- The optimiser's step on the attention output projection's weight: the kernel's four arrays after the run, the reference's four results, and their equality. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam
public import Idealize.ShloMosaic.Adequacy
public import Idealize.ShloMosaic.Lib.Pipeline.ValueKit

@[expose] public section

set_option maxRecDepth 16384

noncomputable section

namespace Cert.AdamAttOut

open Idealize.ShloMosaic Idealize.ShloMosaic.TcCoe Idealize.SL.Sem

section kernel

open Cert.Kernel20Ideal Cert.Kernel20Ideal.Gen

variable (m : (ℓ : Loc nD τ sig) → Buf (Elt Ideal) ℓ)

/-- One block's gradient is the sum of the eight parts' blocks. -/
theorem sum_apply (x0 : Vec Ideal S512x128 .f32) (x1 : Vec Ideal S8x512x128 .bf16) (x2 x3 : Vec Ideal S512x128 .f32) (i : Fin 512) (j : Fin 128) :
    k0_pay5 (F := Ideal) x0 x1 x2 x3 (ix2 i j) = Adam.total (fun d i j => x1 (ix3 d i j)) i j := by
  rw [← Adam.total_eq]
  pointwise [k0_pay5, k0_pay4]

theorem first_apply (g : FVec Ideal S512x128 .f32) (x : Vec Ideal S512x128 .f32) (y : S512x128.Idx) :
    k0_pay1 (F := Ideal) g x y = Adam.first (g y) (x y) := rfl

theorem second_apply (g : FVec Ideal S512x128 .f32) (x : Vec Ideal S512x128 .f32) (y : S512x128.Idx) :
    k0_pay2 (F := Ideal) g x y = Adam.second (g y) (x y) := rfl

theorem delta_apply (g w x z : FVec Ideal S512x128 .f32) (y : S512x128.Idx) :
    k0_pay3 (F := Ideal) g w x z y = Adam.delta (w y) (g y) (x y) (z y) := rfl

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient as the sum of the eight parts, and the two moments. -/
def kW (c : Dev nD) (i : Fin 512) (j : Fin 128) : EReal := m ((c : Thread nD τ).loc main_arg0) (ix2 i j)
def kG (c : Dev nD) (i : Fin 512) (j : Fin 128) : EReal := Adam.total (fun d i j => m ((c : Thread nD τ).loc main_arg1) (ix3 d i j)) i j
def kM (c : Dev nD) (i : Fin 512) (j : Fin 128) : EReal := m ((c : Thread nD τ).loc main_arg2) (ix2 i j)
def kV (c : Dev nD) (i : Fin 512) (j : Fin 128) : EReal := m ((c : Thread nD τ).loc main_arg3) (ix2 i j)

/-- The kernel's four result arrays after the run: the gradient, the weight's change, and the two moments. -/
def outG (c : Dev nD) : Vec Ideal S512x128 .f32 := fun q => kG m c (q 0) (q 1)
def outD (c : Dev nD) : Vec Ideal S512x128 .f32 := fun q => Adam.delta (kW m c (q 0) (q 1)) (kG m c (q 0) (q 1)) (kM m c (q 0) (q 1)) (kV m c (q 0) (q 1))
def outM (c : Dev nD) : Vec Ideal S512x128 .f32 := fun q => Adam.first (kG m c (q 0) (q 1)) (kM m c (q 0) (q 1))
def outV (c : Dev nD) : Vec Ideal S512x128 .f32 := fun q => Adam.second (kG m c (q 0) (q 1)) (kV m c (q 0) (q 1))

/-- The blocks' values are the arrays', where the block lies. -/
theorem block (c : Dev nD) (t : Fin cfg0.N) (i : Fin 512) (j : Fin 128) (p : Fin 512) (q : Fin 128) (hp : p.val = t.val * 512 + i.val) (hq : q.val = j.val) :
    (iblk m c 0 t (ix2 i j) : EReal) = kW m c p q ∧ Adam.total (fun d i j => (iblk m c 1 t (ix3 d i j) : EReal)) i j = kG m c p q
      ∧ (iblk m c 2 t (ix2 i j) : EReal) = kM m c p q ∧ (iblk m c 3 t (ix2 i j) : EReal) = kV m c p q := by
  unfold kW kG kM kV Adam.total
  refine ⟨?_, Finset.sum_congr rfl fun d _ => ?_, ?_, ?_⟩ <;> blk_ext [iblk, V, idx t]

theorem block_delta (c : Dev nD) (t : Fin cfg0.N) (i : Fin 512) (j : Fin 128) (p : Fin 512) (q : Fin 128) (hp : p.val = t.val * 512 + i.val) (hq : q.val = j.val) :
    Adam.delta (iblk m c 0 t (ix2 i j)) (Adam.total (fun d i j => (iblk m c 1 t (ix3 d i j) : EReal)) i j) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 512) (j : Fin 128) (p : Fin 512) (q : Fin 128) (hp : p.val = t.val * 512 + i.val) (hq : q.val = j.val) :
    Adam.first (Adam.total (fun d i j => (iblk m c 1 t (ix3 d i j) : EReal)) i j) (iblk m c 2 t (ix2 i j)) = Adam.first (kG m c p q) (kM m c p q) :=
  have h := block m c t i j p q hp hq
  congrArg₂ Adam.first h.2.1 h.2.2.1

theorem block_second (c : Dev nD) (t : Fin cfg0.N) (i : Fin 512) (j : Fin 128) (p : Fin 512) (q : Fin 128) (hp : p.val = t.val * 512 + i.val) (hq : q.val = j.val) :
    Adam.second (Adam.total (fun d i j => (iblk m c 1 t (ix3 d i j) : EReal)) i j) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (sum_apply _ _ _ _ i j).trans (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans ((Adam.delta_congr rfl (sum_apply _ _ _ _ i j) rfl rfl).trans <| block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans ((congrArg (fun g : EReal => Adam.first g _) (sum_apply _ _ _ _ i j)).trans <| block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans ((congrArg (fun g : EReal => Adam.second g _) (sum_apply _ _ _ _ i j)).trans <| block_second m c t i j _ _ ?_ ?_) <;> blk_simp [idx t]

end kernel

section reference

open Cert.Reference20Ideal Cert.Reference20Ideal.Read

variable (x0 x2 x3 : (⟨S512x128, .f32⟩ : BufTy).Contents (Elt Ideal)) (x1 : (⟨S8x512x128, .bf16⟩ : BufTy).Contents (Elt Ideal))

/-- The gradient, the first moment, the second and the weight's change, at row `i` and column `j`. -/
theorem sum_at (i : Fin 512) (j : Fin 128) : val_main_v1 (F := Ideal) x1 (ix2 i j) = Adam.total (fun d i j => x1 (ix3 d i j)) i j := by
  pointwise [val_main_v1, val_main_v0, val_main_cst]
  rfl

theorem first_at (i : Fin 512) (j : Fin 128) : val_main_v6 (F := Ideal) x1 x2 (ix2 i j) = Adam.first (val_main_v1 (F := Ideal) x1 (ix2 i j)) (x2 (ix2 i j)) := by
  rw [val_main_v6_apply, val_main_v3_apply, val_main_v5_apply, val_main_v2_apply, val_main_v4_apply]
  rfl

theorem second_at (i : Fin 512) (j : Fin 128) : val_main_v12 (F := Ideal) x1 x3 (ix2 i j) = Adam.second (val_main_v1 (F := Ideal) x1 (ix2 i j)) (x3 (ix2 i j)) := by
  rw [val_main_v12_apply, val_main_v8_apply, val_main_v11_apply, val_main_v9_apply, val_main_v7_apply, val_main_v10_apply]
  rfl

theorem delta_at (i : Fin 512) (j : Fin 128) :
    val_main_v25 (F := Ideal) x0 x1 x2 x3 (ix2 i j) = Adam.delta (x0 (ix2 i j)) (val_main_v1 (F := Ideal) x1 (ix2 i j)) (x2 (ix2 i j)) (x3 (ix2 i j)) := by
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, first_at, second_at]
  rfl

theorem ref_sum : val_main_v1 (F := Ideal) x1 = fun q => Adam.total (fun d i j => x1 (ix3 d i j)) (q 0) (q 1) := by
  funext q
  obtain ⟨i, j, rfl⟩ : ∃ i j, q = ix2 i j := ⟨q 0, q 1, by funext x; fin_cases x <;> rfl⟩
  exact sum_at x1 i j

theorem ref_first : val_main_v6 (F := Ideal) x1 x2 = fun q => Adam.first (Adam.total (fun d i j => x1 (ix3 d i j)) (q 0) (q 1)) (x2 (ix2 (q 0) (q 1))) := by
  funext q
  obtain ⟨i, j, rfl⟩ : ∃ i j, q = ix2 i j := ⟨q 0, q 1, by funext x; fin_cases x <;> rfl⟩
  rw [first_at, sum_at]
  rfl

theorem ref_second : val_main_v12 (F := Ideal) x1 x3 = fun q => Adam.second (Adam.total (fun d i j => x1 (ix3 d i j)) (q 0) (q 1)) (x3 (ix2 (q 0) (q 1))) := by
  funext q
  obtain ⟨i, j, rfl⟩ : ∃ i j, q = ix2 i j := ⟨q 0, q 1, by funext x; fin_cases x <;> rfl⟩
  rw [second_at, sum_at]
  rfl

theorem ref_delta : val_main_v25 (F := Ideal) x0 x1 x2 x3 = fun q => Adam.delta (x0 (ix2 (q 0) (q 1))) (Adam.total (fun d i j => x1 (ix3 d i j)) (q 0) (q 1))
    (x2 (ix2 (q 0) (q 1))) (x3 (ix2 (q 0) (q 1))) := by
  funext q
  obtain ⟨i, j, rfl⟩ : ∃ i j, q = ix2 i j := ⟨q 0, q 1, by funext x; fin_cases x <;> rfl⟩
  rw [delta_at, sum_at]
  rfl

end reference

/-- The value claim: from equal arguments the two programs end with equal results. -/
theorem value : Cert.algebraic_Kernel20Ideal_Reference20Ideal (hKernel20Ideal := Cert.Kernel20Ideal.Gen.facts) (hReference20Ideal := Cert.Reference20Ideal.Gen.facts) := by
  intro m g m' g' _ hag
  refine ⟨outG m, outD m, outM m, outV m, ?_, ?_⟩
  · exact (θ_run Cert.Kernel20Ideal.defs _ _).mono (fun r h c => ⟨(h c).1.trans (final4 m c), (h c).2.1.trans (final5 m c), (h c).2.2.1.trans (final6 m c),
      (h c).2.2.2.1.trans (final7 m c), (h c).2.2.2.2⟩) (Cert.Kernel20Ideal.Value.run_blocks m g)
  · refine (θ_run Cert.Reference20Ideal.defs _ _).mono (fun r h c => ?_) (Cert.Reference20Ideal.Value.run m' g')
    obtain ⟨e0, e1, e2, e3⟩ := hag c
    refine ⟨((h c).1.trans (Cert.Reference20Ideal.Read.val_main_v1_eq _)).trans ((ref_sum _).trans ?_),
      ((h c).2.1.trans (Cert.Reference20Ideal.Read.val_main_v25_eq _ _ _ _)).trans ((ref_delta _ _ _ _).trans ?_),
      ((h c).2.2.1.trans (Cert.Reference20Ideal.Read.val_main_v6_eq _ _)).trans ((ref_first _ _).trans ?_),
      ((h c).2.2.2.1.trans (Cert.Reference20Ideal.Read.val_main_v12_eq _ _)).trans ((ref_second _ _).trans ?_), (h c).2.2.2.2⟩
    all_goals
      simp only [e0, e1, e2, e3]
      rfl

end Cert.AdamAttOut
-- ==== Proof.AdamIn.lean ====
/- The optimiser's step on the input projection's weight: the kernel's four arrays after the run, the reference's four results, and their equality. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Adam
public import Idealize.ShloMosaic.Adequacy
public import Idealize.ShloMosaic.Lib.Pipeline.ValueKit

@[expose] public section

set_option maxRecDepth 16384

noncomputable section

namespace Cert.AdamIn

open Idealize.ShloMosaic Idealize.ShloMosaic.TcCoe Idealize.SL.Sem

section kernel

open Cert.Kernel21Ideal Cert.Kernel21Ideal.Gen

variable (m : (ℓ : Loc nD τ sig) → Buf (Elt Ideal) ℓ)

theorem first_apply (g : FVec Ideal S256x1218 .f32) (x : Vec Ideal S256x1218 .f32) (y : S256x1218.Idx) :
    k0_pay1 (F := Ideal) g x y = Adam.first (g y) (x y) := rfl

theorem second_apply (g : FVec Ideal S256x1218 .f32) (x : Vec Ideal S256x1218 .f32) (y : S256x1218.Idx) :
    k0_pay2 (F := Ideal) g x y = Adam.second (g y) (x y) := rfl

theorem delta_apply (g w x z : FVec Ideal S256x1218 .f32) (y : S256x1218.Idx) :
    k0_pay3 (F := Ideal) g w x z y = Adam.delta (w y) (g y) (x y) (z y) := rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient, and the two moments. -/
def kW (c : Dev nD) (i : Fin 1024) (j : Fin 1218) : EReal := m ((c : Thread nD τ).loc main_arg0) (ix2 i j)
def kG (c : Dev nD) (i : Fin 1024) (j : Fin 1218) : EReal := m ((c : Thread nD τ).loc main_arg1) (ix2 i j)
def kM (c : Dev nD) (i : Fin 1024) (j : Fin 1218) : EReal := m ((c : Thread nD τ).loc main_arg2) (ix2 i j)
def kV (c : Dev nD) (i : Fin 1024) (j : Fin 1218) : EReal := m ((c : Thread nD τ).loc main_arg3) (ix2 i j)

/-- The kernel's four result arrays after the run: the gradient, the weight's change, and the two moments. -/
def outG (c : Dev nD) : Vec Ideal S1024x1218 .f32 := fun q => kG m c (q 0) (q 1)
def outD (c : Dev nD) : Vec Ideal S1024x1218 .f32 := fun q => Adam.delta (kW m c (q 0) (q 1)) (kG m c (q 0) (q 1)) (kM m c (q 0) (q 1)) (kV m c (q 0) (q 1))
def outM (c : Dev nD) : Vec Ideal S1024x1218 .f32 := fun q => Adam.first (kG m c (q 0) (q 1)) (kM m c (q 0) (q 1))
def outV (c : Dev nD) : Vec Ideal S1024x1218 .f32 := fun q => Adam.second (kG m c (q 0) (q 1)) (kV m c (q 0) (q 1))

/-- The blocks' values are the arrays', where the block lies. -/
theorem block (c : Dev nD) (t : Fin cfg0.N) (i : Fin 256) (j : Fin 1218) (p : Fin 1024) (q : Fin 1218) (hp : p.val = t.val * 256 + i.val) (hq : q.val = j.val) :
    (iblk m c 0 t (ix2 i j) : EReal) = kW m c p q ∧ (iblk m c 1 t (ix2 i j) : EReal) = kG m c p q
      ∧ (iblk m c 2 t (ix2 i j) : EReal) = kM m c p q ∧ (iblk m c 3 t (ix2 i j) : EReal) = kV m c p q := by
  unfold kW kG kM kV
  refine ⟨?_, ?_, ?_, ?_⟩ <;> blk_ext [iblk, V, idx t]

theorem block_delta (c : Dev nD) (t : Fin cfg0.N) (i : Fin 256) (j : Fin 1218) (p : Fin 1024) (q : Fin 1218) (hp : p.val = t.val * 256 + i.val) (hq : q.val = j.val) :
    Adam.delta (iblk m c 0 t (ix2 i j)) ((iblk m c 1 t (ix2 i j) : EReal)) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 256) (j : Fin 1218) (p : Fin 1024) (q : Fin 1218) (hp : p.val = t.val * 256 + i.val) (hq : q.val = j.val) :
    Adam.first ((iblk m c 1 t (ix2 i j) : EReal)) (iblk m c 2 t (ix2 i j)) = Adam.first (kG m c p q) (kM m c p q) :=
  have h := block m c t i j p q hp hq
  congrArg₂ Adam.first h.2.1 h.2.2.1

theorem block_second (c : Dev nD) (t : Fin cfg0.N) (i : Fin 256) (j : Fin 1218) (p : Fin 1024) (q : Fin 1218) (hp : p.val = t.val * 256 + i.val) (hq : q.val = j.val) :
    Adam.second ((iblk m c 1 t (ix2 i j) : EReal)) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans (block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans (block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans (block_second m c t i j _ _ ?_ ?_) <;> blk_simp [idx t]

/-- The first result is the gradient argument itself. -/
theorem outG_eq (c : Dev nD) : m ((c : Thread nD τ).loc main_arg1) = outG m c := by
  funext q
  obtain ⟨i, j, rfl⟩ : ∃ i j, q = ix2 i j := ⟨q 0, q 1, by funext x; fin_cases x <;> rfl⟩
  rfl

end kernel

section reference

open Cert.Reference21Ideal Cert.Reference21Ideal.Read

variable (x0 x2 x3 : (⟨S1024x1218, .f32⟩ : BufTy).Contents (Elt Ideal)) (x1 : (⟨S1024x1218, .f32⟩ : BufTy).Contents (Elt Ideal))

/-- The first moment, the second and the weight's change, at row `i` and column `j`. -/
theorem first_at (q : S1024x1218.Idx) : val_main_v4 (F := Ideal) x1 x2 q = Adam.first (x1 q) (x2 q) := by
  rw [val_main_v4_apply, val_main_v1_apply, val_main_v3_apply, val_main_v0_apply, val_main_v2_apply]
  rfl

theorem second_at (q : S1024x1218.Idx) : val_main_v10 (F := Ideal) x1 x3 q = Adam.second (x1 q) (x3 q) := by
  rw [val_main_v10_apply, val_main_v6_apply, val_main_v9_apply, val_main_v7_apply, val_main_v5_apply, val_main_v8_apply]
  rfl

theorem delta_at (q : S1024x1218.Idx) : val_main_v23 (F := Ideal) x0 x1 x2 x3 q = Adam.delta (x0 q) (x1 q) (x2 q) (x3 q) := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first_at, second_at]
  rfl

theorem ref_first : val_main_v4 (F := Ideal) x1 x2 = fun q => Adam.first (x1 (ix2 (q 0) (q 1))) (x2 (ix2 (q 0) (q 1))) := by
  funext q
  obtain ⟨i, j, rfl⟩ : ∃ i j, q = ix2 i j := ⟨q 0, q 1, by funext x; fin_cases x <;> rfl⟩
  exact first_at x2 x1 _

theorem ref_second : val_main_v10 (F := Ideal) x1 x3 = fun q => Adam.second (x1 (ix2 (q 0) (q 1))) (x3 (ix2 (q 0) (q 1))) := by
  funext q
  obtain ⟨i, j, rfl⟩ : ∃ i j, q = ix2 i j := ⟨q 0, q 1, by funext x; fin_cases x <;> rfl⟩
  exact second_at x3 x1 _

theorem ref_delta : val_main_v23 (F := Ideal) x0 x1 x2 x3 = fun q => Adam.delta (x0 (ix2 (q 0) (q 1))) (x1 (ix2 (q 0) (q 1))) (x2 (ix2 (q 0) (q 1))) (x3 (ix2 (q 0) (q 1))) := by
  funext q
  obtain ⟨i, j, rfl⟩ : ∃ i j, q = ix2 i j := ⟨q 0, q 1, by funext x; fin_cases x <;> rfl⟩
  exact delta_at x0 x2 x3 x1 _

end reference

/-- The value claim: from equal arguments the two programs end with equal results. -/
theorem value : Cert.algebraic_Kernel21Ideal_Reference21Ideal (hKernel21Ideal := Cert.Kernel21Ideal.Gen.facts) (hReference21Ideal := Cert.Reference21Ideal.Gen.facts) := by
  intro m g m' g' _ hag
  refine ⟨outG m, outD m, outM m, outV m, ?_, ?_⟩
  · exact (θ_run Cert.Kernel21Ideal.defs _ _).mono (fun r h c => ⟨(h c).1.trans (final4 m c), (h c).2.1.trans (final5 m c), (h c).2.2.1.trans (final6 m c),
      (h c).2.2.2.1.trans (final7 m c), (h c).2.2.2.2⟩) (Cert.Kernel21Ideal.Value.run_blocks m g)
  · refine (θ_run Cert.Reference21Ideal.defs _ _).mono (fun r h c => ?_) (Cert.Reference21Ideal.Value.run m' g')
    obtain ⟨e0, e1, e2, e3⟩ := hag c
    refine ⟨(h c).1.trans (e1.trans (outG_eq m c)),
      ((h c).2.1.trans (Cert.Reference21Ideal.Read.val_main_v23_eq _ _ _ _)).trans ((ref_delta _ _ _ _).trans ?_),
      ((h c).2.2.1.trans (Cert.Reference21Ideal.Read.val_main_v4_eq _ _)).trans ((ref_first _ _).trans ?_),
      ((h c).2.2.2.1.trans (Cert.Reference21Ideal.Read.val_main_v10_eq _ _)).trans ((ref_second _ _).trans ?_), (h c).2.2.2.2⟩
    all_goals
      simp only [e0, e1, e2, e3]
      rfl

end Cert.AdamIn
-- ==== Proof.AdamAda.lean ====
/- The optimiser's step on the modulation's weight: the kernel's four arrays after the run, the reference's four results, and their equality. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam
public import Idealize.ShloMosaic.Adequacy
public import Idealize.ShloMosaic.Lib.Pipeline.ValueKit

@[expose] public section

set_option maxRecDepth 16384

noncomputable section

namespace Cert.AdamAda

open Idealize.ShloMosaic Idealize.ShloMosaic.TcCoe Idealize.SL.Sem

section kernel

open Cert.Kernel22Ideal Cert.Kernel22Ideal.Gen

variable (m : (ℓ : Loc nD τ sig) → Buf (Elt Ideal) ℓ)

theorem first_apply (g : FVec Ideal S256x768 .f32) (x : Vec Ideal S256x768 .f32) (y : S256x768.Idx) :
    k0_pay1 (F := Ideal) g x y = Adam.first (g y) (x y) := rfl

theorem second_apply (g : FVec Ideal S256x768 .f32) (x : Vec Ideal S256x768 .f32) (y : S256x768.Idx) :
    k0_pay2 (F := Ideal) g x y = Adam.second (g y) (x y) := rfl

theorem delta_apply (g w x z : FVec Ideal S256x768 .f32) (y : S256x768.Idx) :
    k0_pay3 (F := Ideal) g w x z y = Adam.delta (w y) (g y) (x y) (z y) := rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient, and the two moments. -/
def kW (c : Dev nD) (i : Fin 1024) (j : Fin 768) : EReal := m ((c : Thread nD τ).loc main_arg0) (ix2 i j)
def kG (c : Dev nD) (i : Fin 1024) (j : Fin 768) : EReal := m ((c : Thread nD τ).loc main_arg1) (ix2 i j)
def kM (c : Dev nD) (i : Fin 1024) (j : Fin 768) : EReal := m ((c : Thread nD τ).loc main_arg2) (ix2 i j)
def kV (c : Dev nD) (i : Fin 1024) (j : Fin 768) : EReal := m ((c : Thread nD τ).loc main_arg3) (ix2 i j)

/-- The kernel's four result arrays after the run: the gradient, the weight's change, and the two moments. -/
def outG (c : Dev nD) : Vec Ideal S1024x768 .f32 := fun q => kG m c (q 0) (q 1)
def outD (c : Dev nD) : Vec Ideal S1024x768 .f32 := fun q => Adam.delta (kW m c (q 0) (q 1)) (kG m c (q 0) (q 1)) (kM m c (q 0) (q 1)) (kV m c (q 0) (q 1))
def outM (c : Dev nD) : Vec Ideal S1024x768 .f32 := fun q => Adam.first (kG m c (q 0) (q 1)) (kM m c (q 0) (q 1))
def outV (c : Dev nD) : Vec Ideal S1024x768 .f32 := fun q => Adam.second (kG m c (q 0) (q 1)) (kV m c (q 0) (q 1))

/-- The blocks' values are the arrays', where the block lies. -/
theorem block (c : Dev nD) (t : Fin cfg0.N) (i : Fin 256) (j : Fin 768) (p : Fin 1024) (q : Fin 768) (hp : p.val = t.val * 256 + i.val) (hq : q.val = j.val) :
    (iblk m c 0 t (ix2 i j) : EReal) = kW m c p q ∧ (iblk m c 1 t (ix2 i j) : EReal) = kG m c p q
      ∧ (iblk m c 2 t (ix2 i j) : EReal) = kM m c p q ∧ (iblk m c 3 t (ix2 i j) : EReal) = kV m c p q := by
  unfold kW kG kM kV
  refine ⟨?_, ?_, ?_, ?_⟩ <;> blk_ext [iblk, V, idx t]

theorem block_delta (c : Dev nD) (t : Fin cfg0.N) (i : Fin 256) (j : Fin 768) (p : Fin 1024) (q : Fin 768) (hp : p.val = t.val * 256 + i.val) (hq : q.val = j.val) :
    Adam.delta (iblk m c 0 t (ix2 i j)) ((iblk m c 1 t (ix2 i j) : EReal)) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 256) (j : Fin 768) (p : Fin 1024) (q : Fin 768) (hp : p.val = t.val * 256 + i.val) (hq : q.val = j.val) :
    Adam.first ((iblk m c 1 t (ix2 i j) : EReal)) (iblk m c 2 t (ix2 i j)) = Adam.first (kG m c p q) (kM m c p q) :=
  have h := block m c t i j p q hp hq
  congrArg₂ Adam.first h.2.1 h.2.2.1

theorem block_second (c : Dev nD) (t : Fin cfg0.N) (i : Fin 256) (j : Fin 768) (p : Fin 1024) (q : Fin 768) (hp : p.val = t.val * 256 + i.val) (hq : q.val = j.val) :
    Adam.second ((iblk m c 1 t (ix2 i j) : EReal)) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans (block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans (block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans (block_second m c t i j _ _ ?_ ?_) <;> blk_simp [idx t]

/-- The first result is the gradient argument itself. -/
theorem outG_eq (c : Dev nD) : m ((c : Thread nD τ).loc main_arg1) = outG m c := by
  funext q
  obtain ⟨i, j, rfl⟩ : ∃ i j, q = ix2 i j := ⟨q 0, q 1, by funext x; fin_cases x <;> rfl⟩
  rfl

end kernel

section reference

open Cert.Reference22Ideal Cert.Reference22Ideal.Read

variable (x0 x2 x3 : (⟨S1024x768, .f32⟩ : BufTy).Contents (Elt Ideal)) (x1 : (⟨S1024x768, .f32⟩ : BufTy).Contents (Elt Ideal))

/-- The first moment, the second and the weight's change, at row `i` and column `j`. -/
theorem first_at (q : S1024x768.Idx) : val_main_v4 (F := Ideal) x1 x2 q = Adam.first (x1 q) (x2 q) := by
  rw [val_main_v4_apply, val_main_v1_apply, val_main_v3_apply, val_main_v0_apply, val_main_v2_apply]
  rfl

theorem second_at (q : S1024x768.Idx) : val_main_v10 (F := Ideal) x1 x3 q = Adam.second (x1 q) (x3 q) := by
  rw [val_main_v10_apply, val_main_v6_apply, val_main_v9_apply, val_main_v7_apply, val_main_v5_apply, val_main_v8_apply]
  rfl

theorem delta_at (q : S1024x768.Idx) : val_main_v23 (F := Ideal) x0 x1 x2 x3 q = Adam.delta (x0 q) (x1 q) (x2 q) (x3 q) := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first_at, second_at]
  rfl

theorem ref_first : val_main_v4 (F := Ideal) x1 x2 = fun q => Adam.first (x1 (ix2 (q 0) (q 1))) (x2 (ix2 (q 0) (q 1))) := by
  funext q
  obtain ⟨i, j, rfl⟩ : ∃ i j, q = ix2 i j := ⟨q 0, q 1, by funext x; fin_cases x <;> rfl⟩
  exact first_at x2 x1 _

theorem ref_second : val_main_v10 (F := Ideal) x1 x3 = fun q => Adam.second (x1 (ix2 (q 0) (q 1))) (x3 (ix2 (q 0) (q 1))) := by
  funext q
  obtain ⟨i, j, rfl⟩ : ∃ i j, q = ix2 i j := ⟨q 0, q 1, by funext x; fin_cases x <;> rfl⟩
  exact second_at x3 x1 _

theorem ref_delta : val_main_v23 (F := Ideal) x0 x1 x2 x3 = fun q => Adam.delta (x0 (ix2 (q 0) (q 1))) (x1 (ix2 (q 0) (q 1))) (x2 (ix2 (q 0) (q 1))) (x3 (ix2 (q 0) (q 1))) := by
  funext q
  obtain ⟨i, j, rfl⟩ : ∃ i j, q = ix2 i j := ⟨q 0, q 1, by funext x; fin_cases x <;> rfl⟩
  exact delta_at x0 x2 x3 x1 _

end reference

/-- The value claim: from equal arguments the two programs end with equal results. -/
theorem value : Cert.algebraic_Kernel22Ideal_Reference22Ideal (hKernel22Ideal := Cert.Kernel22Ideal.Gen.facts) (hReference22Ideal := Cert.Reference22Ideal.Gen.facts) := by
  intro m g m' g' _ hag
  refine ⟨outG m, outD m, outM m, outV m, ?_, ?_⟩
  · exact (θ_run Cert.Kernel22Ideal.defs _ _).mono (fun r h c => ⟨(h c).1.trans (final4 m c), (h c).2.1.trans (final5 m c), (h c).2.2.1.trans (final6 m c),
      (h c).2.2.2.1.trans (final7 m c), (h c).2.2.2.2⟩) (Cert.Kernel22Ideal.Value.run_blocks m g)
  · refine (θ_run Cert.Reference22Ideal.defs _ _).mono (fun r h c => ?_) (Cert.Reference22Ideal.Value.run m' g')
    obtain ⟨e0, e1, e2, e3⟩ := hag c
    refine ⟨(h c).1.trans (e1.trans (outG_eq m c)),
      ((h c).2.1.trans (Cert.Reference22Ideal.Read.val_main_v23_eq _ _ _ _)).trans ((ref_delta _ _ _ _).trans ?_),
      ((h c).2.2.1.trans (Cert.Reference22Ideal.Read.val_main_v4_eq _ _)).trans ((ref_first _ _).trans ?_),
      ((h c).2.2.2.1.trans (Cert.Reference22Ideal.Read.val_main_v10_eq _ _)).trans ((ref_second _ _).trans ?_), (h c).2.2.2.2⟩
    all_goals
      simp only [e0, e1, e2, e3]
      rfl

end Cert.AdamAda
-- ==== Proof.AdamConv.lean ====
/- The optimiser's step on the convolution's weight: the kernel's four arrays after the run, the reference's four results, and their equality. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam
public import Idealize.ShloMosaic.Adequacy
public import Idealize.ShloMosaic.Lib.Pipeline.ValueKit

@[expose] public section

set_option maxRecDepth 16384

noncomputable section

namespace Cert.AdamConv

open Idealize.ShloMosaic Idealize.ShloMosaic.TcCoe Idealize.SL.Sem

section kernel

open Cert.Kernel23Ideal Cert.Kernel23Ideal.Gen

variable (m : (ℓ : Loc nD τ sig) → Buf (Elt Ideal) ℓ)

theorem first_apply (g : FVec Ideal S4x128 .f32) (x : Vec Ideal S4x128 .f32) (y : S4x128.Idx) :
    k0_pay1 (F := Ideal) g x y = Adam.first (g y) (x y) := rfl

theorem second_apply (g : FVec Ideal S4x128 .f32) (x : Vec Ideal S4x128 .f32) (y : S4x128.Idx) :
    k0_pay2 (F := Ideal) g x y = Adam.second (g y) (x y) := rfl

theorem delta_apply (g w x z : FVec Ideal S4x128 .f32) (y : S4x128.Idx) :
    k0_pay3 (F := Ideal) g w x z y = Adam.delta (w y) (g y) (x y) (z y) := rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The kernel's arguments on device `c`: the weight, its gradient, and the two moments. -/
def kW (c : Dev nD) (i : Fin 4) (j : Fin 128) : EReal := m ((c : Thread nD τ).loc main_arg0) (ix2 i j)
def kG (c : Dev nD) (i : Fin 4) (j : Fin 128) : EReal := m ((c : Thread nD τ).loc main_arg1) (ix2 i j)
def kM (c : Dev nD) (i : Fin 4) (j : Fin 128) : EReal := m ((c : Thread nD τ).loc main_arg2) (ix2 i j)
def kV (c : Dev nD) (i : Fin 4) (j : Fin 128) : EReal := m ((c : Thread nD τ).loc main_arg3) (ix2 i j)

/-- The kernel's four result arrays after the run: the gradient, the weight's change, and the two moments. -/
def outG (c : Dev nD) : Vec Ideal S4x128 .f32 := fun q => kG m c (q 0) (q 1)
def outD (c : Dev nD) : Vec Ideal S4x128 .f32 := fun q => Adam.delta (kW m c (q 0) (q 1)) (kG m c (q 0) (q 1)) (kM m c (q 0) (q 1)) (kV m c (q 0) (q 1))
def outM (c : Dev nD) : Vec Ideal S4x128 .f32 := fun q => Adam.first (kG m c (q 0) (q 1)) (kM m c (q 0) (q 1))
def outV (c : Dev nD) : Vec Ideal S4x128 .f32 := fun q => Adam.second (kG m c (q 0) (q 1)) (kV m c (q 0) (q 1))

/-- The blocks' values are the arrays', where the block lies. -/
theorem block (c : Dev nD) (t : Fin cfg0.N) (i : Fin 4) (j : Fin 128) (p : Fin 4) (q : Fin 128) (hp : p.val = t.val * 4 + i.val) (hq : q.val = j.val) :
    (iblk m c 0 t (ix2 i j) : EReal) = kW m c p q ∧ (iblk m c 1 t (ix2 i j) : EReal) = kG m c p q
      ∧ (iblk m c 2 t (ix2 i j) : EReal) = kM m c p q ∧ (iblk m c 3 t (ix2 i j) : EReal) = kV m c p q := by
  unfold kW kG kM kV
  refine ⟨?_, ?_, ?_, ?_⟩ <;> blk_ext [iblk, V, idx t]

theorem block_delta (c : Dev nD) (t : Fin cfg0.N) (i : Fin 4) (j : Fin 128) (p : Fin 4) (q : Fin 128) (hp : p.val = t.val * 4 + i.val) (hq : q.val = j.val) :
    Adam.delta (iblk m c 0 t (ix2 i j)) ((iblk m c 1 t (ix2 i j) : EReal)) (iblk m c 2 t (ix2 i j)) (iblk m c 3 t (ix2 i j)) = Adam.delta (kW m c p q) (kG m c p q) (kM m c p q) (kV m c p q) :=
  have h := block m c t i j p q hp hq
  Adam.delta_congr h.1 h.2.1 h.2.2.1 h.2.2.2

theorem block_first (c : Dev nD) (t : Fin cfg0.N) (i : Fin 4) (j : Fin 128) (p : Fin 4) (q : Fin 128) (hp : p.val = t.val * 4 + i.val) (hq : q.val = j.val) :
    Adam.first ((iblk m c 1 t (ix2 i j) : EReal)) (iblk m c 2 t (ix2 i j)) = Adam.first (kG m c p q) (kM m c p q) :=
  have h := block m c t i j p q hp hq
  congrArg₂ Adam.first h.2.1 h.2.2.1

theorem block_second (c : Dev nD) (t : Fin cfg0.N) (i : Fin 4) (j : Fin 128) (p : Fin 4) (q : Fin 128) (hp : p.val = t.val * 4 + i.val) (hq : q.val = j.val) :
    Adam.second ((iblk m c 1 t (ix2 i j) : EReal)) (iblk m c 3 t (ix2 i j)) = Adam.second (kG m c p q) (kV m c p q) :=
  have h := block m c t i j p q hp hq
  congrArg₂ Adam.second h.2.1 h.2.2.2

theorem final4 (c : Dev nD) : (dats m 0 c).arrAt 4 cfg0.N = outG m c := by
  refine (dats m 0 c).arrAt_eq_of_covers 4 _ (by decide +kernel) fun t hf y => ?_
  blk_simp
  rw [after0_4]
  frame_out
  obtain ⟨i, j, rfl⟩ : ∃ i j, y = ix2 i j := ⟨y 0, y 1, by funext x; fin_cases x <;> rfl⟩
  refine (block m c t i j _ _ ?_ ?_).2.1 <;> blk_simp [idx t]

theorem final5 (c : Dev nD) : (dats m 0 c).arrAt 5 cfg0.N = outD m c := by
  refine (dats m 0 c).arrAt_eq_of_covers 5 _ (by decide +kernel) fun t hf y => ?_
  blk_simp
  rw [after0_5]
  frame_out
  obtain ⟨i, j, rfl⟩ : ∃ i j, y = ix2 i j := ⟨y 0, y 1, by funext x; fin_cases x <;> rfl⟩
  refine (delta_apply _ _ _ _ (ix2 i j)).trans (block_delta m c t i j _ _ ?_ ?_) <;> blk_simp [idx t]

theorem final6 (c : Dev nD) : (dats m 0 c).arrAt 6 cfg0.N = outM m c := by
  refine (dats m 0 c).arrAt_eq_of_covers 6 _ (by decide +kernel) fun t hf y => ?_
  blk_simp
  rw [after0_6]
  frame_out
  obtain ⟨i, j, rfl⟩ : ∃ i j, y = ix2 i j := ⟨y 0, y 1, by funext x; fin_cases x <;> rfl⟩
  refine (first_apply _ _ (ix2 i j)).trans (block_first m c t i j _ _ ?_ ?_) <;> blk_simp [idx t]

theorem final7 (c : Dev nD) : (dats m 0 c).arrAt 7 cfg0.N = outV m c := by
  refine (dats m 0 c).arrAt_eq_of_covers 7 _ (by decide +kernel) fun t hf y => ?_
  blk_simp
  rw [after0_7]
  frame_out
  obtain ⟨i, j, rfl⟩ : ∃ i j, y = ix2 i j := ⟨y 0, y 1, by funext x; fin_cases x <;> rfl⟩
  refine (second_apply _ _ (ix2 i j)).trans (block_second m c t i j _ _ ?_ ?_) <;> blk_simp [idx t]

/-- The first result is the gradient argument itself. -/
theorem outG_eq (c : Dev nD) : m ((c : Thread nD τ).loc main_arg1) = outG m c := by
  funext q
  obtain ⟨i, j, rfl⟩ : ∃ i j, q = ix2 i j := ⟨q 0, q 1, by funext x; fin_cases x <;> rfl⟩
  rfl

end kernel

section reference

open Cert.Reference23Ideal Cert.Reference23Ideal.Read

variable (x0 x2 x3 : (⟨S4x128, .f32⟩ : BufTy).Contents (Elt Ideal)) (x1 : (⟨S4x128, .f32⟩ : BufTy).Contents (Elt Ideal))

/-- The first moment, the second and the weight's change, at row `i` and column `j`. -/
theorem first_at (q : S4x128.Idx) : val_main_v4 (F := Ideal) x1 x2 q = Adam.first (x1 q) (x2 q) := by
  rw [val_main_v4_apply, val_main_v1_apply, val_main_v3_apply, val_main_v0_apply, val_main_v2_apply]
  rfl

theorem second_at (q : S4x128.Idx) : val_main_v10 (F := Ideal) x1 x3 q = Adam.second (x1 q) (x3 q) := by
  rw [val_main_v10_apply, val_main_v6_apply, val_main_v9_apply, val_main_v7_apply, val_main_v5_apply, val_main_v8_apply]
  rfl

theorem delta_at (q : S4x128.Idx) : val_main_v23 (F := Ideal) x0 x1 x2 x3 q = Adam.delta (x0 q) (x1 q) (x2 q) (x3 q) := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first_at, second_at]
  rfl

theorem ref_first : val_main_v4 (F := Ideal) x1 x2 = fun q => Adam.first (x1 (ix2 (q 0) (q 1))) (x2 (ix2 (q 0) (q 1))) := by
  funext q
  obtain ⟨i, j, rfl⟩ : ∃ i j, q = ix2 i j := ⟨q 0, q 1, by funext x; fin_cases x <;> rfl⟩
  exact first_at x2 x1 _

theorem ref_second : val_main_v10 (F := Ideal) x1 x3 = fun q => Adam.second (x1 (ix2 (q 0) (q 1))) (x3 (ix2 (q 0) (q 1))) := by
  funext q
  obtain ⟨i, j, rfl⟩ : ∃ i j, q = ix2 i j := ⟨q 0, q 1, by funext x; fin_cases x <;> rfl⟩
  exact second_at x3 x1 _

theorem ref_delta : val_main_v23 (F := Ideal) x0 x1 x2 x3 = fun q => Adam.delta (x0 (ix2 (q 0) (q 1))) (x1 (ix2 (q 0) (q 1))) (x2 (ix2 (q 0) (q 1))) (x3 (ix2 (q 0) (q 1))) := by
  funext q
  obtain ⟨i, j, rfl⟩ : ∃ i j, q = ix2 i j := ⟨q 0, q 1, by funext x; fin_cases x <;> rfl⟩
  exact delta_at x0 x2 x3 x1 _

end reference

/-- The value claim: from equal arguments the two programs end with equal results. -/
theorem value : Cert.algebraic_Kernel23Ideal_Reference23Ideal (hKernel23Ideal := Cert.Kernel23Ideal.Gen.facts) (hReference23Ideal := Cert.Reference23Ideal.Gen.facts) := by
  intro m g m' g' _ hag
  refine ⟨outG m, outD m, outM m, outV m, ?_, ?_⟩
  · exact (θ_run Cert.Kernel23Ideal.defs _ _).mono (fun r h c => ⟨(h c).1.trans (final4 m c), (h c).2.1.trans (final5 m c), (h c).2.2.1.trans (final6 m c),
      (h c).2.2.2.1.trans (final7 m c), (h c).2.2.2.2⟩) (Cert.Kernel23Ideal.Value.run_blocks m g)
  · refine (θ_run Cert.Reference23Ideal.defs _ _).mono (fun r h c => ?_) (Cert.Reference23Ideal.Value.run m' g')
    obtain ⟨e0, e1, e2, e3⟩ := hag c
    refine ⟨(h c).1.trans (e1.trans (outG_eq m c)),
      ((h c).2.1.trans (Cert.Reference23Ideal.Read.val_main_v23_eq _ _ _ _)).trans ((ref_delta _ _ _ _).trans ?_),
      ((h c).2.2.1.trans (Cert.Reference23Ideal.Read.val_main_v4_eq _ _)).trans ((ref_first _ _).trans ?_),
      ((h c).2.2.2.1.trans (Cert.Reference23Ideal.Read.val_main_v10_eq _ _)).trans ((ref_second _ _).trans ?_), (h c).2.2.2.2⟩
    all_goals
      simp only [e0, e1, e2, e3]
      rfl

end Cert.AdamConv
-- ==== Proof.AdamSmall1.lean ====
/- The optimiser's step on the bias of the modulation and the two gains of the normalizations: the kernel and the reference end with equal results. -/
module

public import proofs.«01_k».proof.Defs
public import proofs.«01_k».proof.Proof.Gen.Kernel24Ideal.Value
public import proofs.«01_k».proof.Proof.Gen.Reference24Ideal.Run
public import proofs.«01_k».proof.Proof.Adam
public import Idealize.ShloMosaic.Adequacy

@[expose] public section

set_option maxRecDepth 16384

noncomputable section

namespace Cert.AdamSmall1

open Idealize.ShloMosaic Idealize.ShloMosaic.TcCoe Idealize.SL.Sem

open Cert.Kernel24Ideal Cert.Kernel24Ideal.Gen in
/-- The last weight's second moment, which the kernel reads whole arrays for. -/
theorem last_seconds {a0 a3 a6 a9 : Vec Ideal S1x6144 .f32} {a1 a4 a7 a10 : Vec Ideal S1x1024 .f32} {a2 a5 a8 a11 : Vec Ideal S1x1024 .f32} :
    k0_pay14 a0 a1 a2 a3 a4 a5 a6 a7 a8 a9 a10 a11 = Adam.seconds a5 a11 := by
  unfold k0_pay14
  rw [View.ld_unit_zero (S := S1x1024) Value.hz5 _ a5, View.ld_unit_zero (S := S1x1024) Value.hz5 _ a11]
  rfl

open Cert.Kernel24Ideal Cert.Kernel24Ideal.Gen in
/-- The last weight's change. -/
theorem last_deltas {a0 a3 a6 a9 : Vec Ideal S1x6144 .f32} {a1 a4 a7 a10 : Vec Ideal S1x1024 .f32} {a2 a5 a8 a11 : Vec Ideal S1x1024 .f32} :
    k0_pay1 a2 (k0_pay14 a0 a1 a2 a3 a4 a5 a6 a7 a8 a9 a10 a11) (k0_pay13 a5 a8) = Adam.deltas a2 a5 a8 a11 := by
  rw [last_seconds]
  rfl

open Cert.Kernel24Ideal in
/-- The value claim: from equal arguments the two programs end with equal results, three to a weight, each elementwise in the weight's own arrays. -/
theorem value : Cert.algebraic_Kernel24Ideal_Reference24Ideal (hKernel24Ideal := Cert.Kernel24Ideal.Gen.facts) (hReference24Ideal := Cert.Reference24Ideal.Gen.facts) := by
  intro m g m' g' _ hag
  refine ⟨fun c => Adam.deltas (m ((c : Thread nD τ).loc main_arg0)) (m ((c : Thread nD τ).loc main_arg3)) (m ((c : Thread nD τ).loc main_arg6)) (m ((c : Thread nD τ).loc main_arg9)),
    fun c => Adam.firsts (m ((c : Thread nD τ).loc main_arg3)) (m ((c : Thread nD τ).loc main_arg6)),
    fun c => Adam.seconds (m ((c : Thread nD τ).loc main_arg3)) (m ((c : Thread nD τ).loc main_arg9)),
    fun c => Adam.deltas (m ((c : Thread nD τ).loc main_arg1)) (m ((c : Thread nD τ).loc main_arg4)) (m ((c : Thread nD τ).loc main_arg7)) (m ((c : Thread nD τ).loc main_arg10)),
    fun c => Adam.firsts (m ((c : Thread nD τ).loc main_arg4)) (m ((c : Thread nD τ).loc main_arg7)),
    fun c => Adam.seconds (m ((c : Thread nD τ).loc main_arg4)) (m ((c : Thread nD τ).loc main_arg10)),
    fun c => Adam.deltas (m ((c : Thread nD τ).loc main_arg2)) (m ((c : Thread nD τ).loc main_arg5)) (m ((c : Thread nD τ).loc main_arg8)) (m ((c : Thread nD τ).loc main_arg11)),
    fun c => Adam.firsts (m ((c : Thread nD τ).loc main_arg5)) (m ((c : Thread nD τ).loc main_arg8)),
    fun c => Adam.seconds (m ((c : Thread nD τ).loc main_arg5)) (m ((c : Thread nD τ).loc main_arg11)), ?_, ?_⟩
  · refine (θ_run Cert.Kernel24Ideal.defs _ _).mono (fun r h c => ?_) (Cert.Kernel24Ideal.Value.run m g)
    obtain ⟨h0, h1, h2, h3, h4, h5, h6, h7, h8, kept⟩ := h c
    exact ⟨h0, h1, h2, h3, h4, h5, h6.trans last_deltas, h7, h8.trans last_seconds, kept⟩
  · refine (θ_run Cert.Reference24Ideal.defs _ _).mono (fun r h c => ?_) (Cert.Reference24Ideal.Value.run m' g')
    obtain ⟨e0, e1, e2, e3, e4, e5, e6, e7, e8, e9, e10, e11⟩ := hag c
    obtain ⟨h0, h1, h2, h3, h4, h5, h6, h7, h8, kept⟩ := h c
    exact ⟨Adam.deltas_eq h0 e0 e3 e6 e9, Adam.firsts_eq h1 e3 e6, Adam.seconds_eq h2 e3 e9,
    Adam.deltas_eq h3 e1 e4 e7 e10, Adam.firsts_eq h4 e4 e7, Adam.seconds_eq h5 e4 e10,
    Adam.deltas_eq h6 e2 e5 e8 e11, Adam.firsts_eq h7 e5 e8, Adam.seconds_eq h8 e5 e11, kept⟩

end Cert.AdamSmall1
-- ==== Proof.SmallSum.lean ====
/- The sum of the eight devices' small gradients and losses: the kernel and the reference end with equal results. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Adam
public import Idealize.ShloMosaic.Adequacy

@[expose] public section

set_option maxRecDepth 16384

noncomputable section

namespace Cert.SmallSum

open Idealize.ShloMosaic Idealize.ShloMosaic.TcCoe Idealize.SL.Sem

section kernel

open Cert.Kernel25Ideal Cert.Kernel25Ideal.Gen

/-- What the kernel stores: the eight parts added one after the other. -/
theorem pay_apply (x0 : Vec Ideal S8x120x128 .f32) : k0_pay1 (F := Ideal) x0 = fun q => Adam.total (fun d i j => x0 (ix3 d i j)) (q 0) (q 1) := by
  funext q
  obtain ⟨i, j, rfl⟩ : ∃ i j, q = ix2 i j := ⟨q 0, q 1, by funext x; fin_cases x <;> rfl⟩
  refine Eq.trans ?_ (Adam.total_eq _ i j)
  pointwise [k0_pay1]

end kernel

section reference

open Cert.Reference25Ideal Cert.Reference25Ideal.Read

variable (x0 : (⟨S8x120x128, .f32⟩ : BufTy).Contents (Elt Ideal))

theorem result : val_main_v0 (F := Ideal) x0 = fun q => Adam.total (fun d i j => x0 (ix3 d i j)) (q 0) (q 1) := by
  funext q
  obtain ⟨i, j, rfl⟩ : ∃ i j, q = ix2 i j := ⟨q 0, q 1, by funext x; fin_cases x <;> rfl⟩
  pointwise [val_main_v0, val_main_cst]
  rfl

end reference

open Cert.Kernel25Ideal in
/-- The value claim: from equal arguments the two programs end with equal results. -/
theorem value : Cert.algebraic_Kernel25Ideal_Reference25Ideal (hKernel25Ideal := Cert.Kernel25Ideal.Gen.facts) (hReference25Ideal := Cert.Reference25Ideal.Gen.facts) := by
  intro m g m' g' _ hag
  refine ⟨fun c q => Adam.total (fun d i j => m ((c : Thread nD τ).loc main_arg0) (ix3 d i j)) (q 0) (q 1), ?_, ?_⟩
  · exact (θ_run Cert.Kernel25Ideal.defs _ _).mono (fun r h c => ⟨(h c).1.trans (pay_apply _), (h c).2⟩) (Cert.Kernel25Ideal.Value.run m g)
  · refine (θ_run Cert.Reference25Ideal.defs _ _).mono (fun r h c => ?_) (Cert.Reference25Ideal.Value.run m' g')
    have e0 := hag c
    refine ⟨((h c).1.trans (Cert.Reference25Ideal.Read.val_main_v0_eq _)).trans ((result _).trans ?_), (h c).2⟩
    all_goals
      rw [e0]
      rfl

end Cert.SmallSum
-- ==== Proof.Whole.lean ====
/- Loads and stores of a whole buffer, and a product of matrices with its two gradients. -/
module

public import Idealize.ShloMosaic.Lib.Pipeline.ValueKit
public import Idealize.ShloMosaic.Lib.WritesUnit

@[expose] public section

noncomputable section

namespace Cert.Whole

open Idealize.ShloMosaic Idealize.ShloMosaic.TcCoe Idealize.SL.Sem

variable {sig : RefSig} {S : Shape} {e : EltTy}

/-- A load of the whole buffer gives what the buffer holds. -/
theorem load (m : Memref sig .tc .vmem S e) (hm : m.IsWhole) (x : Vec Ideal S e) (off : Fin S.rank → ℕ) (h0 : ∀ a, off a = 0)
    (inb : ∀ a, off a + S.size a ≤ S.size a) : View.readAt (Elt Ideal) m.view (Rect.unit (s := S) off S.size inb).toLoadRect (hm.unread x) = x := by
  funext j
  show m.view.read (Elt Ideal) (hm.unread x) ((Rect.unit (s := S) off S.size inb).idx j) = _
  rw [hm.read_unread]
  congr 1
  funext a; apply Fin.ext
  rw [Rect.idx_unit_val, h0]
  omega

/-- After a store of the whole buffer the buffer holds what was stored. -/
theorem store (v : View sig .tc .vmem S e) (f : v.ty.Contents (Elt Ideal)) (off : Fin S.rank → ℕ) (h0 : ∀ a, off a = 0)
    (inb : ∀ a, off a + S.size a ≤ S.size a) (w : Vec Ideal S e) (L : List (View.Piece (Elt Ideal) S e)) :
    v.read (Elt Ideal) (v.writes (Elt Ideal) f ((⟨Rect.unit (s := S) off S.size inb, w⟩ : View.Piece (Elt Ideal) S e) :: L)) = w := by
  funext j
  have hj : (Rect.unit (s := S) off S.size inb).idx j = j := by
    funext a; apply Fin.ext
    rw [Rect.idx_unit_val, h0]
    omega
  exact (congrArg (v.read (Elt Ideal) _) hj.symm).trans (View.read_writes_cons_emb ..)

/-- The gradient of the weights of a product: inputs times output gradients, summed over the rows. -/
def weightGrad {n a b : ℕ} (X : Fin n → Fin a → EReal) (D : Fin n → Fin b → EReal) (i : Fin a) (j : Fin b) : EReal := ∑ k : Fin n, X k i * D k j

/-- A product of matrices. -/
def product {n a b : ℕ} (X : Fin n → Fin a → EReal) (W : Fin a → Fin b → EReal) (i : Fin n) (j : Fin b) : EReal := ∑ k : Fin a, X i k * W k j

/-- The gradient of its inputs: output gradients times weights, summed over the columns. -/
def inputGrad {n a b : ℕ} (D : Fin n → Fin b → EReal) (W : Fin a → Fin b → EReal) (i : Fin n) (j : Fin a) : EReal := ∑ k : Fin b, D i k * W j k

end Cert.Whole
-- ==== Proof.GradAda.lean ====
/- The gradient of the modulation's weight: the kernel and the reference end with equal results. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Whole
public import Idealize.ShloMosaic.Adequacy

@[expose] public section

set_option maxRecDepth 16384

noncomputable section

namespace Cert.GradAda

open Idealize.ShloMosaic Idealize.ShloMosaic.TcCoe Idealize.SL.Sem

section kernel

open Cert.Kernel26Ideal Cert.Kernel26Ideal.Gen

/-- What the one grid point stores, at an index. -/
theorem pay_apply (x0 : Vec Ideal S32x1024 .f32) (x1 : Vec Ideal S32x768 .f32) :
    k0_pay1 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [k0_pay1]
  rfl

end kernel

section reference

open Cert.Reference26Ideal Cert.Reference26Ideal.Read

variable (x0 : (⟨S32x1024, .f32⟩ : BufTy).Contents (Elt Ideal)) (x1 : (⟨S32x768, .f32⟩ : BufTy).Contents (Elt Ideal))

theorem result : val_main_v3 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v3, val_main_v2]
  exact Finset.sum_congr rfl fun n _ => mul_comm _ _

end reference

open Cert.Kernel26Ideal in
/-- The value claim: from equal arguments the two programs end with equal results. -/
theorem value : Cert.algebraic_Kernel26Ideal_Reference26Ideal (hKernel26Ideal := Cert.Kernel26Ideal.Gen.facts) (hReference26Ideal := Cert.Reference26Ideal.Gen.facts) := by
  intro m g m' g' _ hag
  refine ⟨fun c q => Whole.weightGrad (fun n i => m ((c : Thread nD τ).loc main_arg0) (ix2 n i)) (fun n j => m ((c : Thread nD τ).loc main_arg1) (ix2 n j)) (q 0) (q 1), ?_, ?_⟩
  · exact (θ_run Cert.Kernel26Ideal.defs _ _).mono (fun r h c => ⟨(h c).1.trans (pay_apply _ _), (h c).2⟩) (Cert.Kernel26Ideal.Value.run m g)
  · refine (θ_run Cert.Reference26Ideal.defs _ _).mono (fun r h c => ?_) (Cert.Reference26Ideal.Value.run m' g')
    obtain ⟨e0, e1⟩ := hag c
    refine ⟨((h c).1.trans (Cert.Reference26Ideal.Read.val_main_v3_eq _ _)).trans ((result _ _).trans ?_), (h c).2⟩
    all_goals
      rw [e0, e1]
      rfl

end Cert.GradAda
-- ==== Proof.NormSpec.lean ====
/- The gradient through the normalization before the feed-forward layer, as sums of extended reals. -/
module

public import proofs.«01_k».proof.Proof.Whole

@[expose] public section

noncomputable section

namespace Cert.NormBwd

open Idealize.ShloMosaic

/-- The number whose f32 bits are `b`. -/
abbrev num (b : BitVec 32) : EReal := Ideal.ofBits FTy.f32 b

/-- A row's mean square, with the small constant added. -/
def ms (x : Fin 1024 → EReal) : EReal := Ideal.div (∑ d, x d * x d) (num 0x44800000#32) + num 0x358637BD#32

/-- The factor the row is normalized with. -/
def rs (x : Fin 1024 → EReal) : EReal := Ideal.rsqrt (ms x)

/-- What the factor's own gradient gives every entry of the row, before it is multiplied by the entry. -/
def back (x t : Fin 1024 → EReal) : EReal :=
  Ideal.div ((∑ d, x d * t d) * (num 0xBF000000#32 * Ideal.div (rs x) (ms x))) (num 0x44800000#32)

section row

variable (x u g s e : Fin 1024 → EReal) (j : Fin 1024)

/-- The gradient `u` of the modulated row, times one plus the scale. -/
def scaled : EReal := u j * (num 0x3F800000#32 + s j)

/-- And times the gain. -/
def inner : EReal := scaled u s j * g j

/-- The gradient of the row, with the gradient `e` that comes past the normalization. -/
def rowGrad : EReal := inner u g s j * rs x + x j * back x (inner u g s) + back x (inner u g s) * x j + e j

/-- What the row adds to the gradient of the gain. -/
def gainTerm : EReal := x j * rs x * scaled u s j

/-- What the row adds to the gradient of the scale. -/
def scaleTerm : EReal := x j * rs x * g j * u j

end row

/-- The arguments: the gradient before the relu, the weights, the rows, the gain, the scale of each of the four sequences, the
gradient past the normalization, the branch that was gated, and its gate. -/
structure Args where
  d : Fin 8192 → Fin 4096 → EReal
  w : Fin 1024 → Fin 4096 → EReal
  x : Fin 8192 → Fin 1024 → EReal
  g : Fin 1024 → EReal
  s : Fin 4 → Fin 1024 → EReal
  e : Fin 8192 → Fin 1024 → EReal
  y : Fin 8192 → Fin 1024 → EReal
  b : Fin 4 → Fin 1024 → EReal

/-- Row `i` of sequence `q`. -/
def row (q : Fin 4) (i : Fin 2048) : Fin 8192 := ⟨q.val * 2048 + i.val, by omega⟩

/-- The sequence a row is of. -/
def seq (n : Fin 8192) : Fin 4 := ⟨n.val / 2048, by omega⟩

theorem seq_row (q : Fin 4) (i : Fin 2048) : seq (row q i) = q := Fin.ext (by simp only [seq, row]; omega)

theorem row_div (q : Fin 4) (i : Fin 2048) (h : (row q i).val / 2048 < 4) : (⟨(row q i).val / 2048, h⟩ : Fin 4) = q := seq_row q i
theorem row_mod (q : Fin 4) (i : Fin 2048) (h : (row q i).val % 2048 < 2048) : (⟨(row q i).val % 2048, h⟩ : Fin 2048) = i :=
  Fin.ext (by simp only [row]; omega)

theorem add_last (e p x b : EReal) : e + p + x + b = p + x + b + e := by ac_rfl

namespace Args

variable (a : Args)

/-- The gradient of the feed-forward layer's input. -/
def u (n : Fin 8192) (j : Fin 1024) : EReal := Whole.inputGrad a.d a.w n j

/-- The gradient of the rows. -/
def dx (n : Fin 8192) (j : Fin 1024) : EReal := rowGrad (a.x n) (a.u n) a.g (a.s (seq n)) (a.e n) j

/-- The gradient of the gain. -/
def dg (j : Fin 1024) : EReal := ∑ n : Fin 8192, gainTerm (a.x n) (a.u n) (a.s (seq n)) j

/-- The gradient of a sequence's scale. -/
def ds (q : Fin 4) (j : Fin 1024) : EReal := ∑ i : Fin 2048, scaleTerm (a.x (row q i)) (a.u (row q i)) a.g j

/-- The gradient of a sequence's shift. -/
def dh (q : Fin 4) (j : Fin 1024) : EReal := ∑ i : Fin 2048, a.u (row q i) j

/-- The gradient of the gated branch. -/
def dy (n : Fin 8192) (j : Fin 1024) : EReal := a.b (seq n) j * a.dx n j

/-- The gradient of a sequence's gate. -/
def db (q : Fin 4) (j : Fin 1024) : EReal := ∑ i : Fin 2048, a.dx (row q i) j * a.y (row q i) j

end Args

end Cert.NormBwd
-- ==== Proof.InNormSpec.lean ====
/- The gradient through the first normalization and the gates' product, as sums of extended reals. -/
module

public import proofs.«01_k».proof.Proof.NormSpec

@[expose] public section

noncomputable section

namespace Cert.InNorm

open Cert.NormBwd (rowGrad gainTerm scaleTerm row seq)

/-- The arguments: the gradient of the gates, their weights, the gradient that the other columns of the input projection give,
the rows, the gain, the scale of each of the four sequences, and the gradient past the normalization. -/
structure Args where
  d : Fin 8192 → Fin 2048 → EReal
  w : Fin 1024 → Fin 2048 → EReal
  r : Fin 8192 → Fin 1024 → EReal
  x : Fin 8192 → Fin 1024 → EReal
  g : Fin 1024 → EReal
  s : Fin 4 → Fin 1024 → EReal
  e : Fin 8192 → Fin 1024 → EReal

namespace Args

variable (a : Args)

/-- The gradient of the modulated rows. -/
def u (n : Fin 8192) (j : Fin 1024) : EReal := (∑ k : Fin 2048, a.d n k * a.w j k) + a.r n j

/-- The gradient of the rows. -/
def dx (n : Fin 8192) (j : Fin 1024) : EReal := rowGrad (a.x n) (a.u n) a.g (a.s (seq n)) (a.e n) j

/-- The gradient of the gain. -/
def dg (j : Fin 1024) : EReal := ∑ n : Fin 8192, gainTerm (a.x n) (a.u n) (a.s (seq n)) j

/-- The gradient of a sequence's scale. -/
def ds (q : Fin 4) (j : Fin 1024) : EReal := ∑ i : Fin 2048, scaleTerm (a.x (row q i)) (a.u (row q i)) a.g j

/-- The gradient of a sequence's shift. -/
def dh (q : Fin 4) (j : Fin 1024) : EReal := ∑ i : Fin 2048, a.u (row q i) j

end Args

end Cert.InNorm
-- ==== Proof.InNormKernel.lean ====
/- The gradient through the first normalization: the kernel's steps, read at an index, and its result arrays after the run. -/
module

public import proofs.«01_k».proof.Proof.Gen.Kernel27Ideal.Value
public import proofs.«01_k».proof.Proof.InNormSpec

@[expose] public section

set_option maxRecDepth 16384

noncomputable section

namespace Cert.InNorm

open Idealize.ShloMosaic Idealize.ShloMosaic.TcCoe Idealize.SL.Sem
open Cert.NormBwd (num ms rs back scaled inner rowGrad gainTerm scaleTerm row seq seq_row row_div row_mod add_last)
open Cert.Kernel27Ideal Cert.Kernel27Ideal.Gen

theorem zeros1_apply (j : Fin 1024) : k0_pay4 (F := Ideal) (ix2 0 j) = 0 := by pointwise [k0_pay4]
theorem zeros2_apply (j : Fin 1024) : k0_pay5 (F := Ideal) (ix3 0 0 j) = 0 := by pointwise [k0_pay5]
theorem zeros3_apply (j : Fin 1024) : k0_pay6 (F := Ideal) (ix3 0 0 j) = 0 := by pointwise [k0_pay6]

/-- A cast to the same shape changes nothing. -/
theorem same (A : Vec Ideal S1x1024 .f32) : k0_pay18 A = A := by
  unfold k0_pay18
  exact shapeCast_self _ _

/-- A tile's gradient of the modulated rows. -/
theorem u_apply (x0 : Vec Ideal S512x2048 .bf16) (x1 : Vec Ideal S1024x2048 .bf16) (r : Vec Ideal S512x1024 .f32) (i : Fin 512) (j : Fin 1024) :
    k0_pay7 (F := Ideal) x0 x1 r (ix2 i j) = (∑ k : Fin 2048, x0 (ix2 i k) * x1 (ix2 j k)) + r (ix2 i j) := by
  pointwise [k0_pay7]

section words

variable (U X E : Vec Ideal S512x1024 .f32) (G P : Vec Ideal S1x1024 .f32) (S Q : Vec Ideal S1x1x1024 .f32)

/-- Row `i` of a block. -/
def rowOf (A : Vec Ideal S512x1024 .f32) (i : Fin 512) (j : Fin 1024) : EReal := A (ix2 i j)
def vec2 (A : Vec Ideal S1x1024 .f32) (j : Fin 1024) : EReal := A (ix2 0 j)
def vec3 (A : Vec Ideal S1x1x1024 .f32) (j : Fin 1024) : EReal := A (ix3 0 0 j)

/-- The blocks a point stores, from the gradient `U` of its modulated rows and the argument blocks. -/
def wDx := k0_pay17 U X G (k0_pay8 S) (k0_pay9 X) E
def wDg := k0_pay1 (k0_pay16 U X (k0_pay8 S) (k0_pay9 X)) P
def wDs := k0_pay2 (k0_pay14 U X G (k0_pay9 X)) Q
def wDh := k0_pay3 (k0_pay13 U) Q

theorem ms_apply (i : Fin 512) : k0_pay10 (k0_pay9 X) (ix2 i 0) = ms (rowOf X i) := by pointwise [k0_pay10, k0_pay9]; rfl
theorem rs_apply (i : Fin 512) : k0_pay11 (k0_pay9 X) (ix2 i 0) = rs (rowOf X i) := by
  unfold rs
  rw [← ms_apply]
  rfl
theorem norm_apply (i : Fin 512) (j : Fin 1024) : k0_pay12 X (k0_pay9 X) (ix2 i j) = rowOf X i j * rs (rowOf X i) := by
  rw [← rs_apply]
  pointwise [k0_pay12]; rfl
theorem scale_apply (j : Fin 1024) : k0_pay8 S (ix2 0 j) = vec3 S j := by pointwise [k0_pay8]; rfl
theorem scaled_apply (i : Fin 512) (j : Fin 1024) : k0_pay15 U (k0_pay8 S) (ix2 i j) = scaled (rowOf U i) (vec3 S) j := by
  unfold scaled
  rw [← scale_apply]
  pointwise [k0_pay15]
  rfl

theorem dx_apply (i : Fin 512) (j : Fin 1024) :
    wDx U X E G S (ix2 i j) = rowGrad (rowOf X i) (rowOf U i) (vec2 G) (vec3 S) (rowOf E i) j := by
  have hi : ∀ k : Fin 1024, k0_pay15 U (k0_pay8 S) (ix2 i k) * G (ix2 0 k) = inner (rowOf U i) (vec2 G) (vec3 S) k := fun k => by rw [scaled_apply]; rfl
  unfold wDx rowGrad back
  simp only [← hi]
  rw [← rs_apply, ← ms_apply]
  pointwise [k0_pay17]
  simp only [Fin.sum_univ_one]
  rfl

theorem dg_apply (j : Fin 1024) :
    wDg U X P S (ix2 0 j) = vec2 P j + ∑ i : Fin 512, gainTerm (rowOf X i) (rowOf U i) (vec3 S) j := by
  unfold gainTerm
  simp only [← scaled_apply, ← norm_apply]
  unfold wDg
  pointwise [k0_pay1, k0_pay16]
  rfl

theorem ds_apply (j : Fin 1024) :
    wDs U X G Q (ix3 0 0 j) = vec3 Q j + ∑ i : Fin 512, scaleTerm (rowOf X i) (rowOf U i) (vec2 G) j := by
  unfold scaleTerm
  simp only [← norm_apply]
  unfold wDs
  pointwise [k0_pay2, k0_pay14]
  rfl

theorem dh_apply (j : Fin 1024) : wDh U Q (ix3 0 0 j) = vec3 Q j + ∑ i : Fin 512, rowOf U i j := by
  unfold wDh
  pointwise [k0_pay3, k0_pay13]
  rfl

end words

section congr

variable {U U' X X' X'' E E' : Vec Ideal S512x1024 .f32} {G G' P P' : Vec Ideal S1x1024 .f32} {S S' Q Q' : Vec Ideal S1x1x1024 .f32}

theorem u_of {x x' : Vec Ideal S512x2048 .bf16} {w w' : Vec Ideal S1024x2048 .bf16} (hx : x' = x) (hw : w' = w) (hU : U' = U) : k0_pay7 x' w' U' = k0_pay7 x w U := by subst_vars; rfl
theorem dx_of (hU : U' = U) (hX : X' = X) (hG : G' = G) (hS : S' = S) (hM : X'' = X) (hE : E' = E) :
    k0_pay17 U' X' G' (k0_pay8 S') (k0_pay9 X'') E' = wDx U X E G S := by subst_vars; rfl
theorem dg_of (hU : U' = U) (hX : X' = X) (hS : S' = S) (hM : X'' = X) (hP : P' = P) : k0_pay1 (k0_pay16 U' X' (k0_pay8 S') (k0_pay9 X'')) P' = wDg U X P S := by subst_vars; rfl
theorem ds_of (hU : U' = U) (hX : X' = X) (hG : G' = G) (hM : X'' = X) (hQ : Q' = Q) : k0_pay2 (k0_pay14 U' X' G' (k0_pay9 X'')) Q' = wDs U X G Q := by subst_vars; rfl
theorem dh_of (hU : U' = U) (hQ : Q' = Q) : k0_pay3 (k0_pay13 U') Q' = wDh U Q := by subst_vars; rfl

end congr

variable (m : (ℓ : Loc nD τ sig) → Buf (Elt Ideal) ℓ)

/-- A point's gradient of the modulated rows. -/
def acc (c : Dev nD) (t : Fin cfg0.N) : Vec Ideal S512x1024 .f32 := k0_pay7 (iblk m c 0 t) (iblk m c 1 t) (iblk m c 2 t)

/-- The point before. -/
def prev (t : Fin cfg0.N) : Fin cfg0.N := ⟨t.val - 1, Nat.lt_of_le_of_lt (Nat.sub_le _ _) t.isLt⟩

/-- What a point leaves in the four result windows, from what the accumulating ones held before it. -/
def stored (c : Dev nD) (t : Fin cfg0.N) (P : Vec Ideal S1x1024 .f32) (Q R : Vec Ideal S1x1x1024 .f32) : Prop :=
  (outsAt0 m c t.val t.isLt).1 = wDx (acc m c t) (iblk m c 3 t) (iblk m c 7 t) (iblk m c 4 t) (iblk m c 5 t)
  ∧ (outsAt0 m c t.val t.isLt).2.1 = wDg (acc m c t) (iblk m c 3 t) P (iblk m c 5 t)
  ∧ (outsAt0 m c t.val t.isLt).2.2.1 = wDs (acc m c t) (iblk m c 3 t) (iblk m c 4 t) Q
  ∧ (outsAt0 m c t.val t.isLt).2.2.2 = wDh (acc m c t) R

/-- At the first tile. -/
theorem stored_A (c : Dev nD) (t : Fin cfg0.N) (h0 : t.val % 16 = 0) (h1 : t.val % 4 = 0) :
    stored m c t (k0_pay4 (F := Ideal)) (k0_pay5 (F := Ideal)) (k0_pay6 (F := Ideal)) := by
  unfold stored
  rw [outsAt0_A m c t h0 h1]
  dsimp only
  unfold acc out0_A_8 out0_A_9 out0_A_10 out0_A_11
  refine ⟨?_, ?_, ?_, ?_⟩
  · refine (Whole.store _ _ _ (by decide) _ _ _).trans ?_
    refine dx_of ?_ ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact Whole.load _ _ _ _ (by decide) _
    · exact Whole.load _ _ _ _ (by decide) _
  · refine (Whole.store _ _ _ (by decide) _ _ _).trans ?_
    refine dg_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · unfold kernelRun0_A.sl.r_8
      exact (same _).trans (View.readCov_unit_lit (S := S1x1024) (off := ![0, 0]) _ inb_S1x1024_S1x1024_0_0 _ (by decide))
  · refine (Whole.store _ _ _ (by decide) _ _ _).trans ?_
    refine ds_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact View.readCov_unit_lit (S := S1x1x1024) (off := ![0, 0, 0]) _ inb_S1x1x1024_S1x1x1024_0_0_0 _ (by decide)
  · refine (Whole.store _ _ _ (by decide) _ _ _).trans ?_
    refine dh_of ?_ ?_
    · exact u_of (Whole.load _ _ _ _ (by decide) _) (Whole.load _ _ _ _ (by decide) _) (Whole.load _ _ _ _ (by decide) _)
    · exact View.readCov_unit_lit (S := S1x1x1024) (off := ![0, 0, 0]) _ inb_S1x1x1024_S1x1x1024_0_0_0 _ (by decide)

/-- At a tile that starts neither the rows nor a sequence. -/
theorem stored_B (c : Dev nD) (t : Fin cfg0.N) (h0 : ¬t.val % 16 = 0) (h1 : ¬t.val % 4 = 0) :
    stored m c t (outsAt0 m c (prev t).val (prev t).isLt).2.1 (outsAt0 m c (prev t).val (prev t).isLt).2.2.1 (outsAt0 m c (prev t).val (prev t).isLt).2.2.2 := by
  unfold stored
  rw [outsAt0_B m c t h0 h1]
  dsimp only
  unfold acc out0_B_8 out0_B_9 out0_B_10 out0_B_11
  refine ⟨?_, ?_, ?_, ?_⟩
  · refine (Whole.store _ _ _ (by decide) _ _ _).trans ?_
    refine dx_of ?_ ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact Whole.load _ _ _ _ (by decide) _
    · exact Whole.load _ _ _ _ (by decide) _
  · refine (Whole.store _ _ _ (by decide) _ _ _).trans ?_
    refine dg_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · unfold kernelRun0_B.sl.r_8
      exact (same _).trans (Whole.load _ _ _ _ (by decide) _)
  · refine (Whole.store _ _ _ (by decide) _ _ _).trans ?_
    refine ds_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact Whole.load _ _ _ _ (by decide) _
  · refine (Whole.store _ _ _ (by decide) _ _ _).trans ?_
    refine dh_of ?_ ?_
    · exact u_of (Whole.load _ _ _ _ (by decide) _) (Whole.load _ _ _ _ (by decide) _) (Whole.load _ _ _ _ (by decide) _)
    · exact Whole.load _ _ _ _ (by decide) _

/-- At the first tile of a later sequence. -/
theorem stored_C (c : Dev nD) (t : Fin cfg0.N) (h0 : ¬t.val % 16 = 0) (h1 : t.val % 4 = 0) :
    stored m c t (outsAt0 m c (prev t).val (prev t).isLt).2.1 (k0_pay5 (F := Ideal)) (k0_pay6 (F := Ideal)) := by
  unfold stored
  rw [outsAt0_C m c t h0 h1]
  dsimp only
  unfold acc out0_C_8 out0_C_9 out0_C_10 out0_C_11
  refine ⟨?_, ?_, ?_, ?_⟩
  · refine (Whole.store _ _ _ (by decide) _ _ _).trans ?_
    refine dx_of ?_ ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact Whole.load _ _ _ _ (by decide) _
    · exact Whole.load _ _ _ _ (by decide) _
  · refine (Whole.store _ _ _ (by decide) _ _ _).trans ?_
    refine dg_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · unfold kernelRun0_C.sl.r_8
      exact (same _).trans (Whole.load _ _ _ _ (by decide) _)
  · refine (Whole.store _ _ _ (by decide) _ _ _).trans ?_
    refine ds_of ?_ ?_ ?_ ?_ ?_
    · exact u_of (Whole.load _ _ _ _ (by decide) _) (Whole.load _ _ _ _ (by decide) _) (Whole.load _ _ _ _ (by decide) _)
    · exact Whole.load _ _ _ _ (by decide) _
    · exact Whole.load _ _ _ _ (by decide) _
    · exact Whole.load _ _ _ _ (by decide) _
    · exact View.readCov_unit_lit (S := S1x1x1024) (off := ![0, 0, 0]) _ inb_S1x1x1024_S1x1x1024_0_0_0 _ (by decide)
  · refine (Whole.store _ _ _ (by decide) _ _ _).trans ?_
    refine dh_of ?_ ?_
    · exact u_of (Whole.load _ _ _ _ (by decide) _) (Whole.load _ _ _ _ (by decide) _) (Whole.load _ _ _ _ (by decide) _)
    · exact View.readCov_unit_lit (S := S1x1x1024) (off := ![0, 0, 0]) _ inb_S1x1x1024_S1x1x1024_0_0_0 _ (by decide)

/-- What a tile leaves, and what the accumulating windows held before it. -/
theorem stored_any (c : Dev nD) (T : Fin cfg0.N) : ∃ P Q R, stored m c T P Q R
    ∧ (T.val % 16 = 0 → P = k0_pay4 (F := Ideal)) ∧ (¬T.val % 16 = 0 → P = (outsAt0 m c (prev T).val (prev T).isLt).2.1)
    ∧ (T.val % 4 = 0 → Q = k0_pay5 (F := Ideal) ∧ R = k0_pay6 (F := Ideal))
    ∧ (¬T.val % 4 = 0 → Q = (outsAt0 m c (prev T).val (prev T).isLt).2.2.1 ∧ R = (outsAt0 m c (prev T).val (prev T).isLt).2.2.2) := by
  have cases : (T.val % 16 = 0 ∧ T.val % 4 = 0) ∨ (¬T.val % 16 = 0 ∧ ¬T.val % 4 = 0) ∨ (¬T.val % 16 = 0 ∧ T.val % 4 = 0) := by omega
  rcases cases with ⟨h0, h1⟩ | ⟨h0, h1⟩ | ⟨h0, h1⟩
  · exact ⟨_, _, _, stored_A m c T h0 h1, fun _ => rfl, fun h => absurd h0 h, fun _ => ⟨rfl, rfl⟩, fun h => absurd h1 h⟩
  · exact ⟨_, _, _, stored_B m c T h0 h1, fun h => absurd h h0, fun _ => rfl, fun h => absurd h h1, fun _ => ⟨rfl, rfl⟩⟩
  · exact ⟨_, _, _, stored_C m c T h0 h1, fun h => absurd h h0, fun _ => rfl, fun _ => ⟨rfl, rfl⟩, fun h => absurd h1 h⟩

/-- The kernel's argument arrays. -/
def args (c : Dev nD) : Args where
  d i k := m ((c : Thread nD τ).loc main_arg0) (ix2 i k)
  w j k := m ((c : Thread nD τ).loc main_arg1) (ix2 j k)
  r i j := m ((c : Thread nD τ).loc main_arg2) (ix2 i j)
  x i j := m ((c : Thread nD τ).loc main_arg3) (ix2 i j)
  g j := m ((c : Thread nD τ).loc main_arg4) (ix2 0 j)
  s q j := m ((c : Thread nD τ).loc main_arg5) (ix3 q 0 j)
  e i j := m ((c : Thread nD τ).loc main_arg7) (ix2 i j)

/-- Row `i` of tile `T`. -/
def rowIn (T : Fin cfg0.N) (i : Fin 512) : Fin 8192 := ⟨T.val * 512 + i.val, by have := T.isLt; have : cfg0.N = 16 := rfl; omega⟩

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val / 4, 0, 0] ∧ win0_7.index t = ![t.val, 0] :=
  (by decide +kernel : ∀ t : Fin grid0.N, _)

theorem idx_out : ∀ t : Fin cfg0.N, win0_8.index t = ![t.val, 0] ∧ win0_9.index t = ![0, 0] ∧ win0_10.index t = ![t.val / 4, 0, 0] ∧ win0_11.index t = ![t.val / 4, 0, 0] :=
  (by decide +kernel : ∀ t : Fin grid0.N, _)

section rows

variable (c : Dev nD) (T : Fin cfg0.N) (i : Fin 512)

theorem acc_rows : rowOf (acc m c T) i = (args m c).u (rowIn T i) := by
  funext j
  unfold rowOf acc Args.u
  refine (u_apply _ _ _ i j).trans (congrArg₂ (fun a b : EReal => a + b) (Finset.sum_congr rfl fun k _ => congrArg₂ (fun a b : EReal => a * b) ?_ ?_) ?_) <;> blk_ext [iblk, V, args, rowIn, idx]

theorem x_rows : rowOf (iblk m c 3 T) i = (args m c).x (rowIn T i) := by
  funext j
  unfold rowOf
  blk_ext [iblk, V, args, rowIn, idx]

theorem e_rows : rowOf (iblk m c 7 T) i = (args m c).e (rowIn T i) := by
  funext j
  unfold rowOf
  blk_ext [iblk, V, args, rowIn, idx]

theorem gain_vec : vec2 (iblk m c 4 T) = (args m c).g := by
  funext j
  unfold vec2
  blk_ext [iblk, V, args, idx]

theorem scale_vec : vec3 (iblk m c 5 T) = (args m c).s (seq (rowIn T i)) := by
  funext j
  unfold vec3
  blk_ext [iblk, V, args, rowIn, seq, idx]

theorem dx_tile (j : Fin 1024) : wDx (acc m c T) (iblk m c 3 T) (iblk m c 7 T) (iblk m c 4 T) (iblk m c 5 T) (ix2 i j) = (args m c).dx (rowIn T i) j := by
  rw [dx_apply, acc_rows, x_rows, e_rows, gain_vec, scale_vec m c T i]
  rfl

end rows

/-- The kernel's four result arrays after the run. -/
def kDx (c : Dev nD) : Vec Ideal S8192x1024 .f32 := fun q => (args m c).dx (q 0) (q 1)
def kDg (c : Dev nD) : Vec Ideal S1x1024 .f32 := fun q => (args m c).dg (q 1)
def kDs (c : Dev nD) : Vec Ideal S4x1x1024 .f32 := fun q => (args m c).ds (q 0) (q 2)
def kDh (c : Dev nD) : Vec Ideal S4x1x1024 .f32 := fun q => (args m c).dh (q 0) (q 2)

theorem final_dx (c : Dev nD) : (dats m 0 c).arrAt 8 cfg0.N = kDx m c := by
  refine (dats m 0 c).arrAt_eq_of_covers 8 _ (by decide +kernel) fun T hf y => ?_
  obtain ⟨P, Q, R, hs, -⟩ := stored_any m c T
  obtain ⟨i, j, rfl⟩ : ∃ i j, y = ix2 i j := ⟨y 0, y 1, by funext x; fin_cases x <;> rfl⟩
  blk_simp
  rw [after0_8, hs.1]
  refine (dx_tile m c T i j).trans ?_
  show kDx m c (ix2 (rowIn T i) j) = _
  blk_ext [rowIn, idx_out]

section sums

/-- What tile `T` adds to each of the three sums. -/
def dgPart (c : Dev nD) (T : Fin cfg0.N) (j : Fin 1024) : EReal :=
  ∑ i : Fin 512, gainTerm ((args m c).x (rowIn T i)) ((args m c).u (rowIn T i)) ((args m c).s (seq (rowIn T i))) j
def dsPart (c : Dev nD) (T : Fin cfg0.N) (j : Fin 1024) : EReal :=
  ∑ i : Fin 512, scaleTerm ((args m c).x (rowIn T i)) ((args m c).u (rowIn T i)) (args m c).g j
def dhPart (c : Dev nD) (T : Fin cfg0.N) (j : Fin 1024) : EReal := ∑ i : Fin 512, (args m c).u (rowIn T i) j

/-- The sums after tile `T`. -/
def dgAt (c : Dev nD) (T : ℕ) (h : T < cfg0.N) (j : Fin 1024) : EReal := vec2 (outsAt0 m c T h).2.1 j
def dsAt (c : Dev nD) (T : ℕ) (h : T < cfg0.N) (j : Fin 1024) : EReal := vec3 (outsAt0 m c T h).2.2.1 j
def dhAt (c : Dev nD) (T : ℕ) (h : T < cfg0.N) (j : Fin 1024) : EReal := vec3 (outsAt0 m c T h).2.2.2 j

variable (c : Dev nD) (T : Fin cfg0.N) (j : Fin 1024)

theorem dg_step (P : Vec Ideal S1x1024 .f32) : vec2 (wDg (acc m c T) (iblk m c 3 T) P (iblk m c 5 T)) j = vec2 P j + dgPart m c T j := by
  refine (dg_apply _ _ _ _ j).trans (congrArg (fun a : EReal => vec2 P j + a) (Finset.sum_congr rfl fun i _ => ?_))
  rw [acc_rows, x_rows, scale_vec m c T i]

theorem ds_step (Q : Vec Ideal S1x1x1024 .f32) : vec3 (wDs (acc m c T) (iblk m c 3 T) (iblk m c 4 T) Q) j = vec3 Q j + dsPart m c T j := by
  refine (ds_apply _ _ _ _ j).trans (congrArg (fun a : EReal => vec3 Q j + a) (Finset.sum_congr rfl fun i _ => ?_))
  rw [acc_rows, x_rows, gain_vec]

theorem dh_step (Q : Vec Ideal S1x1x1024 .f32) : vec3 (wDh (acc m c T) Q) j = vec3 Q j + dhPart m c T j := by
  refine (dh_apply _ _ j).trans (congrArg (fun a : EReal => vec3 Q j + a) (Finset.sum_congr rfl fun i _ => ?_))
  rw [acc_rows]

/-- The first tile of the rows, or of a sequence, starts the sums from zero. -/
theorem dg_first (h : T.val % 16 = 0) : dgAt m c T.val T.isLt j = 0 + dgPart m c T j := by
  obtain ⟨P, Q, R, hs, hP, -⟩ := stored_any m c T
  refine (congrFun (congrArg vec2 hs.2.1) j).trans ((dg_step m c T j P).trans ?_)
  rw [hP h]
  exact congrArg (fun a : EReal => a + dgPart m c T j) (zeros1_apply j)

theorem seq_first (h : T.val % 4 = 0) : dsAt m c T.val T.isLt j = 0 + dsPart m c T j ∧ dhAt m c T.val T.isLt j = 0 + dhPart m c T j := by
  obtain ⟨P, Q, R, hs, -, -, hQ, -⟩ := stored_any m c T
  obtain ⟨rfl, rfl⟩ := hQ h
  refine ⟨(congrFun (congrArg vec3 hs.2.2.1) j).trans ((ds_step m c T j _).trans ?_), (congrFun (congrArg vec3 hs.2.2.2) j).trans ((dh_step m c T j _).trans ?_)⟩
  · exact congrArg (fun a : EReal => a + dsPart m c T j) (zeros2_apply j)
  · exact congrArg (fun a : EReal => a + dhPart m c T j) (zeros3_apply j)

/-- Every other tile adds to what the tile before left. -/
theorem dg_next (h : ¬T.val % 16 = 0) : dgAt m c T.val T.isLt j = dgAt m c (T.val - 1) (Nat.lt_of_le_of_lt (Nat.sub_le _ _) T.isLt) j + dgPart m c T j := by
  obtain ⟨P, Q, R, hs, -, hP, -⟩ := stored_any m c T
  refine (congrFun (congrArg vec2 hs.2.1) j).trans ((dg_step m c T j P).trans ?_)
  rw [hP h]
  rfl

theorem seq_next (h : ¬T.val % 4 = 0) :
    dsAt m c T.val T.isLt j = dsAt m c (T.val - 1) (Nat.lt_of_le_of_lt (Nat.sub_le _ _) T.isLt) j + dsPart m c T j
    ∧ dhAt m c T.val T.isLt j = dhAt m c (T.val - 1) (Nat.lt_of_le_of_lt (Nat.sub_le _ _) T.isLt) j + dhPart m c T j := by
  obtain ⟨P, Q, R, hs, -, -, -, hQ⟩ := stored_any m c T
  obtain ⟨hQ1, hQ2⟩ := hQ h
  refine ⟨(congrFun (congrArg vec3 hs.2.2.1) j).trans ((ds_step m c T j _).trans ?_), (congrFun (congrArg vec3 hs.2.2.2) j).trans ((dh_step m c T j _).trans ?_)⟩
  · rw [hQ1]
    rfl
  · rw [hQ2]
    rfl

end sums

/-- The sums after the last tile, and after the last tile of a sequence. -/
theorem dg_total (c : Dev nD) (T : Fin cfg0.N) (hT : T.val % 16 = 16 - 1) (j : Fin 1024) : dgAt m c T.val T.isLt j = (args m c).dg j := by
  have hN : cfg0.N = 16 := rfl
  have hl := T.isLt
  refine (Pipeline.eq_sum_fin_of_reset_step_apply_of_flush (dgAt m c) 16 (fun _ => 0) (dgPart m c) (fun T h j => dg_first m c T j h) (fun T h j => dg_next m c T j h) T hT j).trans ?_
  rw [zero_add]
  refine Fin.sum_mul_add_congr fun s k hl => ?_
  have hr : rowIn ⟨16 * (T.val / 16) + s.val, Pipeline.run_point_lt_of_flush T hT s⟩ k = ⟨s.val * 512 + k.val, hl⟩ := Fin.ext (by simp only [rowIn]; omega)
  rw [hr]

/-- The sequence a tile is of. -/
def seqOf (T : Fin cfg0.N) : Fin 4 := ⟨T.val / 4, by have := T.isLt; have : cfg0.N = 16 := rfl; omega⟩

/-- The tiles of a sequence have its rows. -/
theorem sum_seq (T : Fin cfg0.N) (hT : T.val % 4 = 4 - 1) (f : Fin 8192 → EReal) :
    ∑ s : Fin 4, ∑ k : Fin 512, f (rowIn ⟨4 * (T.val / 4) + s.val, Pipeline.run_point_lt_of_flush T hT s⟩ k) = ∑ i : Fin 2048, f (row (seqOf T) i) :=
  Fin.sum_mul_add_congr fun s k hl => congrArg f (Fin.ext (by simp only [rowIn, row, seqOf]; omega))

theorem ds_total (c : Dev nD) (T : Fin cfg0.N) (hT : T.val % 4 = 4 - 1) (j : Fin 1024) : dsAt m c T.val T.isLt j = (args m c).ds (seqOf T) j := by
  refine (Pipeline.eq_sum_fin_of_reset_step_apply_of_flush (dsAt m c) 4 (fun _ => 0) (dsPart m c) (fun T h j => (seq_first m c T j h).1) (fun T h j => (seq_next m c T j h).1) T hT j).trans ?_
  rw [zero_add]
  exact sum_seq T hT fun n => scaleTerm ((args m c).x n) ((args m c).u n) (args m c).g j

theorem dh_total (c : Dev nD) (T : Fin cfg0.N) (hT : T.val % 4 = 4 - 1) (j : Fin 1024) : dhAt m c T.val T.isLt j = (args m c).dh (seqOf T) j := by
  refine (Pipeline.eq_sum_fin_of_reset_step_apply_of_flush (dhAt m c) 4 (fun _ => 0) (dhPart m c) (fun T h j => (seq_first m c T j h).2) (fun T h j => (seq_next m c T j h).2) T hT j).trans ?_
  rw [zero_add]
  exact sum_seq T hT fun n => (args m c).u n j

theorem final_dg (c : Dev nD) : (dats m 0 c).arrAt 9 cfg0.N = kDg m c := by
  refine (dats m 0 c).arrAt_eq_of_covers 9 _ (by decide +kernel) fun T hf y => ?_
  have h3 := (flush0_9 T).mp hf
  obtain ⟨i, j, rfl⟩ : ∃ i j, y = ix2 i j := ⟨y 0, y 1, by funext x; fin_cases x <;> rfl⟩
  have hi : i = 0 := Subsingleton.elim _ _
  subst hi
  blk_simp
  rw [after0_9]
  refine (dg_total m c T (by omega) j).trans ?_
  show kDg m c (ix2 0 j) = _
  blk_ext [idx_out]

theorem final_ds (c : Dev nD) : (dats m 0 c).arrAt 10 cfg0.N = kDs m c := by
  refine (dats m 0 c).arrAt_eq_of_covers 10 _ (by decide +kernel) fun T hf y => ?_
  have h3 := (flush0_10 T).mp hf
  obtain ⟨i, i', j, rfl⟩ : ∃ i i' j, y = ix3 i i' j := ⟨y 0, y 1, y 2, by funext x; fin_cases x <;> rfl⟩
  have hi : i = 0 := Subsingleton.elim _ _
  have hi' : i' = 0 := Subsingleton.elim _ _
  subst hi hi'
  blk_simp
  rw [after0_10]
  refine (ds_total m c T (by omega) j).trans ?_
  show kDs m c (ix3 (seqOf T) 0 j) = _
  blk_ext [seqOf, idx_out]

theorem final_dh (c : Dev nD) : (dats m 0 c).arrAt 11 cfg0.N = kDh m c := by
  refine (dats m 0 c).arrAt_eq_of_covers 11 _ (by decide +kernel) fun T hf y => ?_
  have h3 := (flush0_11 T).mp hf
  obtain ⟨i, i', j, rfl⟩ : ∃ i i' j, y = ix3 i i' j := ⟨y 0, y 1, y 2, by funext x; fin_cases x <;> rfl⟩
  have hi : i = 0 := Subsingleton.elim _ _
  have hi' : i' = 0 := Subsingleton.elim _ _
  subst hi hi'
  blk_simp
  rw [after0_11]
  refine (dh_total m c T (by omega) j).trans ?_
  show kDh m c (ix3 (seqOf T) 0 j) = _
  blk_ext [seqOf, idx_out]

end Cert.InNorm
-- ==== Proof.NormRef.lean ====
/- The gradient through the normalization before the feed-forward layer: the reference's results, read at an index. -/
module

public import proofs.«01_k».proof.Proof.Gen.Reference3Ideal.Run
public import proofs.«01_k».proof.Proof.Gen.Reference3Ideal.Read
public import proofs.«01_k».proof.Proof.NormSpec

@[expose] public section

set_option maxRecDepth 16384

noncomputable section

namespace Cert.NormBwd

open Idealize.ShloMosaic Idealize.ShloMosaic.TcCoe Idealize.SL.Sem
open Cert.Reference3Ideal Cert.Reference3Ideal.Read

variable (x0 : (⟨S8192x4096, .bf16⟩ : BufTy).Contents (Elt Ideal)) (x1 : (⟨S1024x4096, .bf16⟩ : BufTy).Contents (Elt Ideal)) (x2 : (⟨S8192x1024, .f32⟩ : BufTy).Contents (Elt Ideal))
  (x3 : (⟨S1x1024, .f32⟩ : BufTy).Contents (Elt Ideal)) (x4 : (⟨S4x1x1024, .f32⟩ : BufTy).Contents (Elt Ideal)) (x6 x7 : (⟨S8192x1024, .f32⟩ : BufTy).Contents (Elt Ideal))
  (x8 : (⟨S4x1x1024, .f32⟩ : BufTy).Contents (Elt Ideal)) (q : Fin 4) (i : Fin 2048) (j : Fin 1024)

/-- The reference's argument arrays. -/
def refArgs : Args where
  d i k := x0 (ix2 i k)
  w j k := x1 (ix2 j k)
  x i j := x2 (ix2 i j)
  g j := x3 (ix2 0 j)
  s q j := x4 (ix3 q 0 j)
  e i j := x6 (ix2 i j)
  y i j := x7 (ix2 i j)
  b q j := x8 (ix3 q 0 j)

theorem v1_apply : val_main_v1 (F := Ideal) x2 (ix3 q i j) = (refArgs x0 x1 x2 x3 x4 x6 x7 x8).x (row q i) j := by
  pointwise [val_main_v1]
  rfl
theorem v28_apply : val_main_v28 (F := Ideal) x6 (ix3 q i j) = (refArgs x0 x1 x2 x3 x4 x6 x7 x8).e (row q i) j := by
  pointwise [val_main_v28]
  rfl
theorem v59_apply : val_main_v59 (F := Ideal) x7 (ix3 q i j) = (refArgs x0 x1 x2 x3 x4 x6 x7 x8).y (row q i) j := by
  pointwise [val_main_v59]
  rfl
theorem v62_apply : val_main_v62 (F := Ideal) x8 (ix3 q i j) = (refArgs x0 x1 x2 x3 x4 x6 x7 x8).b q j := by
  pointwise [val_main_v62]
  rfl
theorem v29_apply : val_main_v29 (F := Ideal) x0 x1 (ix3 q i j) = (refArgs x0 x1 x2 x3 x4 x6 x7 x8).u (row q i) j := by
  pointwise [val_main_v29, val_main_v27, val_main_v26, val_main_v0]
  rfl
theorem v17_apply : val_main_v17 (F := Ideal) x3 (ix3 q i j) = (refArgs x0 x1 x2 x3 x4 x6 x7 x8).g j := by
  pointwise [val_main_v17, val_main_v16, val_main_v2]
  rfl
theorem v40_apply : val_main_v40 (F := Ideal) x3 (ix3 q i j) = (refArgs x0 x1 x2 x3 x4 x6 x7 x8).g j := by
  pointwise [val_main_v40, val_main_v16, val_main_v2]
  rfl
theorem v35_apply : val_main_v35 (F := Ideal) x4 (ix3 q i j) = num 0x3F800000#32 + (refArgs x0 x1 x2 x3 x4 x6 x7 x8).s q j := by
  pointwise [val_main_v35, val_main_v20, val_main_v19, val_main_cst_3]
  rfl

/-- The mean square of a row, the factor it is normalized with, and minus half the factor's cube. -/
theorem v9_apply : val_main_v9 (F := Ideal) x2 (ix3 q i 0) = ms ((refArgs x0 x1 x2 x3 x4 x6 x7 x8).x (row q i)) := by
  unfold ms
  simp only [← v1_apply x0 x1 x2 x3 x4 x6 x7 x8]
  pointwise [val_main_v9, val_main_v7, val_main_v8, val_main_v6, val_main_v5, val_main_v4, val_main_v3, val_main_cst, val_main_cst_0, val_main_cst_1]
theorem v10_apply : val_main_v10 (F := Ideal) x2 (ix3 q i 0) = rs ((refArgs x0 x1 x2 x3 x4 x6 x7 x8).x (row q i)) := by
  unfold rs
  rw [← v9_apply]
  rfl
theorem v13_apply : val_main_v13 (F := Ideal) x2 (ix3 q i 0) = num 0xBF000000#32 * Ideal.div (rs ((refArgs x0 x1 x2 x3 x4 x6 x7 x8).x (row q i))) (ms ((refArgs x0 x1 x2 x3 x4 x6 x7 x8).x (row q i))) := by
  rw [← v10_apply, ← v9_apply]
  pointwise [val_main_v13, val_main_v12, val_main_v11, val_main_cst_2]
theorem v14_apply : val_main_v14 (F := Ideal) x2 (ix3 q i j) = rs ((refArgs x0 x1 x2 x3 x4 x6 x7 x8).x (row q i)) := by
  rw [← v10_apply]
  pointwise [val_main_v14]
theorem v46_apply : val_main_v46 (F := Ideal) x2 (ix3 q i j) = rs ((refArgs x0 x1 x2 x3 x4 x6 x7 x8).x (row q i)) := by
  rw [← v10_apply]
  pointwise [val_main_v46]

theorem v15_apply : val_main_v15 (F := Ideal) x2 (ix3 q i j) = (refArgs x0 x1 x2 x3 x4 x6 x7 x8).x (row q i) j * rs ((refArgs x0 x1 x2 x3 x4 x6 x7 x8).x (row q i)) := by
  rw [val_main_v15_apply, v1_apply x0 x1 x2 x3 x4 x6 x7 x8, v14_apply x0 x1 x2 x3 x4 x6 x7 x8]
  rfl
theorem v32_apply : val_main_v32 (F := Ideal) x0 x1 x2 x3 (ix3 q i j) = scaleTerm ((refArgs x0 x1 x2 x3 x4 x6 x7 x8).x (row q i)) ((refArgs x0 x1 x2 x3 x4 x6 x7 x8).u (row q i)) (refArgs x0 x1 x2 x3 x4 x6 x7 x8).g j := by
  rw [val_main_v32_apply, val_main_v18_apply, v15_apply x0 x1 x2 x3 x4 x6 x7 x8, v17_apply x0 x1 x2 x3 x4 x6 x7 x8, v29_apply x0 x1 x2 x3 x4 x6 x7 x8]
  rfl
theorem v36_apply : val_main_v36 (F := Ideal) x0 x1 x4 (ix3 q i j) = scaled ((refArgs x0 x1 x2 x3 x4 x6 x7 x8).u (row q i)) ((refArgs x0 x1 x2 x3 x4 x6 x7 x8).s q) j := by
  rw [val_main_v36_apply, v29_apply x0 x1 x2 x3 x4 x6 x7 x8, v35_apply x0 x1 x2 x3 x4 x6 x7 x8]
  rfl
theorem v37_apply : val_main_v37 (F := Ideal) x0 x1 x2 x4 (ix3 q i j) = gainTerm ((refArgs x0 x1 x2 x3 x4 x6 x7 x8).x (row q i)) ((refArgs x0 x1 x2 x3 x4 x6 x7 x8).u (row q i)) ((refArgs x0 x1 x2 x3 x4 x6 x7 x8).s q) j := by
  rw [val_main_v37_apply, v15_apply x0 x1 x2 x3 x4 x6 x7 x8, v36_apply x0 x1 x2 x3 x4 x6 x7 x8]
  rfl
theorem v41_apply : val_main_v41 (F := Ideal) x0 x1 x3 x4 (ix3 q i j) = inner ((refArgs x0 x1 x2 x3 x4 x6 x7 x8).u (row q i)) (refArgs x0 x1 x2 x3 x4 x6 x7 x8).g ((refArgs x0 x1 x2 x3 x4 x6 x7 x8).s q) j := by
  rw [val_main_v41_apply, v36_apply x0 x1 x2 x3 x4 x6 x7 x8, v40_apply x0 x1 x2 x3 x4 x6 x7 x8]
  rfl

/-- The factor's gradient, as every entry of the row gets it. -/
theorem v44_apply : val_main_v44 (F := Ideal) x0 x1 x2 x3 x4 (ix2 q i) = ∑ d, (refArgs x0 x1 x2 x3 x4 x6 x7 x8).x (row q i) d * inner ((refArgs x0 x1 x2 x3 x4 x6 x7 x8).u (row q i)) (refArgs x0 x1 x2 x3 x4 x6 x7 x8).g ((refArgs x0 x1 x2 x3 x4 x6 x7 x8).s q) d := by
  simp only [← v1_apply x0 x1 x2 x3 x4 x6 x7 x8 q i, ← v41_apply x0 x1 x2 x3 x4 x6 x7 x8 q i]
  pointwise [val_main_v44, val_main_v43, val_main_cst_8]
theorem v51_apply : val_main_v51 (F := Ideal) x0 x1 x2 x3 x4 (ix3 q i 0) = back ((refArgs x0 x1 x2 x3 x4 x6 x7 x8).x (row q i)) (inner ((refArgs x0 x1 x2 x3 x4 x6 x7 x8).u (row q i)) (refArgs x0 x1 x2 x3 x4 x6 x7 x8).g ((refArgs x0 x1 x2 x3 x4 x6 x7 x8).s q)) := by
  unfold back
  rw [← v44_apply, ← v13_apply]
  pointwise [val_main_v51, val_main_v50, val_main_v49, val_main_v45, val_main_cst_9]
theorem v53_apply : val_main_v53 (F := Ideal) x0 x1 x2 x3 x4 (ix3 q i j) = back ((refArgs x0 x1 x2 x3 x4 x6 x7 x8).x (row q i)) (inner ((refArgs x0 x1 x2 x3 x4 x6 x7 x8).u (row q i)) (refArgs x0 x1 x2 x3 x4 x6 x7 x8).g ((refArgs x0 x1 x2 x3 x4 x6 x7 x8).s q)) := by
  rw [← v51_apply]
  pointwise [val_main_v53, val_main_v52, val_main_cst_10]
  exact Fin.sum_univ_one _

theorem v57_apply : val_main_v57 (F := Ideal) x0 x1 x2 x3 x4 x6 (ix3 q i j) = (refArgs x0 x1 x2 x3 x4 x6 x7 x8).dx (row q i) j := by
  rw [val_main_v57_apply, val_main_v55_apply, val_main_v48_apply, val_main_v54_apply, val_main_v56_apply, val_main_v47_apply, v28_apply x0 x1 x2 x3 x4 x6 x7 x8, v41_apply x0 x1 x2 x3 x4 x6 x7 x8,
    v46_apply x0 x1 x2 x3 x4 x6 x7 x8, v53_apply x0 x1 x2 x3 x4 x6 x7 x8, v1_apply x0 x1 x2 x3 x4 x6 x7 x8]
  unfold Args.dx rowGrad
  rw [seq_row]
  exact add_last _ _ _ _

/-- A sum over the first two axes. -/
theorem reduce_two (n0 n1 : ℕ) (h : (⟨3, ![n0, n1, 1024]⟩ : Shape).ReducesTo [0, 1] S1024) (f : (⟨3, ![n0, n1, 1024]⟩ : Shape).Idx → EReal) (j : Fin 1024) :
    Ideal.hostReduceAdd h f (num 0#32) (ix1 j) = ∑ b : Fin n0, ∑ r : Fin n1, f (ix3 b r j) := by
  unfold Ideal.hostReduceAdd
  rw [show num 0#32 = 0 from Ideal.ofBits_zero .f32, zero_add]
  refine (Finset.sum_filter_eq_sum_of_fiber _ (fun k : Fin n0 × Fin n1 => ix3 k.1 k.2 j)
    (fun _ _ e => Prod.ext (congrFun e 0) (congrFun e 1)) (fun y => ?_) f).trans ?_
  · constructor
    · intro e
      refine ⟨(y 0, y 1), ?_⟩
      have e0 := congrFun e 0
      funext x; apply Fin.ext
      match x with
      | ⟨0, _⟩ => rfl
      | ⟨1, _⟩ => rfl
      | ⟨2, _⟩ => exact (congrArg Fin.val e0).symm
    · rintro ⟨k, rfl⟩
      funext x; apply Fin.ext
      match x with
      | ⟨0, _⟩ => rfl
  · simp only [Fintype.sum_prod_type]

/-- The rows of the four sequences are all the rows. -/
theorem sum_rows (f : Fin 8192 → EReal) : ∑ q : Fin 4, ∑ i : Fin 2048, f (row q i) = ∑ n : Fin 8192, f n := Fin.sum_mul_add_congr fun q i hl => rfl

theorem v38_apply : val_main_v38 (F := Ideal) x0 x1 x2 x4 (ix1 j) = (refArgs x0 x1 x2 x3 x4 x6 x7 x8).dg j := by
  refine (reduce_two 4 2048 _ _ j).trans ?_
  unfold Args.dg
  rw [← sum_rows]
  refine Finset.sum_congr rfl fun q _ => Finset.sum_congr rfl fun i _ => (v37_apply x0 x1 x2 x3 x4 x6 x7 x8 q i j).trans ?_
  rw [seq_row]

theorem v39_apply : val_main_v39 (F := Ideal) x0 x1 x2 x4 (ix3 0 0 j) = (refArgs x0 x1 x2 x3 x4 x6 x7 x8).dg j := by
  rw [← v38_apply]
  pointwise [val_main_v39]
theorem v42_apply : val_main_v42 (F := Ideal) x0 x1 x2 x4 (ix1 j) = (refArgs x0 x1 x2 x3 x4 x6 x7 x8).dg j := by
  refine (reduce_two 1 1 _ _ j).trans ?_
  rw [Fin.sum_univ_one, Fin.sum_univ_one]
  exact v39_apply x0 x1 x2 x3 x4 x6 x7 x8 j

/-- The six results. -/
theorem dg_ref : val_main_v58 (F := Ideal) x0 x1 x2 x4 (ix2 0 j) = (refArgs x0 x1 x2 x3 x4 x6 x7 x8).dg j := by
  rw [← v42_apply]
  pointwise [val_main_v58]
theorem ds_ref : val_main_v34 (F := Ideal) x0 x1 x2 x3 (ix3 q 0 j) = (refArgs x0 x1 x2 x3 x4 x6 x7 x8).ds q j := by
  unfold Args.ds
  simp only [← v32_apply x0 x1 x2 x3 x4 x6 x7 x8 q]
  pointwise [val_main_v34, val_main_v33, val_main_cst_5]
theorem dh_ref : val_main_v31 (F := Ideal) x0 x1 (ix3 q 0 j) = (refArgs x0 x1 x2 x3 x4 x6 x7 x8).dh q j := by
  unfold Args.dh
  simp only [← v29_apply x0 x1 x2 x3 x4 x6 x7 x8 q]
  pointwise [val_main_v31, val_main_v30, val_main_cst_4]
theorem db_ref : val_main_v66 (F := Ideal) x0 x1 x2 x3 x4 x6 x7 (ix3 q 0 j) = (refArgs x0 x1 x2 x3 x4 x6 x7 x8).db q j := by
  unfold Args.db
  simp only [← v57_apply x0 x1 x2 x3 x4 x6 x7 x8 q, ← v59_apply x0 x1 x2 x3 x4 x6 x7 x8 q]
  pointwise [val_main_v66, val_main_v65, val_main_v64, val_main_cst_11]
theorem dx_ref (n : Fin 8192) : val_main_v67 (F := Ideal) x0 x1 x2 x3 x4 x6 (ix2 n j) = (refArgs x0 x1 x2 x3 x4 x6 x7 x8).dx n j := by
  obtain ⟨q, i, rfl⟩ : ∃ q i, n = row q i := ⟨⟨n.val / 2048, by omega⟩, ⟨n.val % 2048, by omega⟩, Fin.ext (by simp only [row]; omega)⟩
  rw [← v57_apply]
  pointwise [val_main_v67]
  rw [row_div, row_mod]
theorem dy_ref (n : Fin 8192) : val_main_v69 (F := Ideal) x0 x1 x2 x3 x4 x6 x8 (ix2 n j) = (refArgs x0 x1 x2 x3 x4 x6 x7 x8).dy n j := by
  obtain ⟨q, i, rfl⟩ : ∃ q i, n = row q i := ⟨⟨n.val / 2048, by omega⟩, ⟨n.val % 2048, by omega⟩, Fin.ext (by simp only [row]; omega)⟩
  unfold Args.dy
  rw [seq_row, ← v57_apply, ← v62_apply x0 x1 x2 x3 x4 x6 x7 x8 q i]
  pointwise [val_main_v69, val_main_v68, val_main_v63]
  rw [row_div, row_mod]

end Cert.NormBwd
-- ==== Proof.InNormRef.lean ====
/- The gradient through the first normalization: the reference's results, read at an index. -/
module

public import proofs.«01_k».proof.Proof.Gen.Reference27Ideal.Run
public import proofs.«01_k».proof.Proof.Gen.Reference27Ideal.Read
public import proofs.«01_k».proof.Proof.InNormSpec
public import proofs.«01_k».proof.Proof.NormRef

@[expose] public section

set_option maxRecDepth 16384

noncomputable section

namespace Cert.InNorm

open Idealize.ShloMosaic Idealize.ShloMosaic.TcCoe Idealize.SL.Sem
open Cert.NormBwd (num ms rs back scaled inner rowGrad gainTerm scaleTerm row seq seq_row row_div row_mod add_last)
open Cert.NormBwd (reduce_two sum_rows)
open Cert.Reference27Ideal Cert.Reference27Ideal.Read

variable (x0 : (⟨S8192x2048, .bf16⟩ : BufTy).Contents (Elt Ideal)) (x1 : (⟨S1024x2048, .bf16⟩ : BufTy).Contents (Elt Ideal)) (x2 x3 : (⟨S8192x1024, .f32⟩ : BufTy).Contents (Elt Ideal))
  (x4 : (⟨S1x1024, .f32⟩ : BufTy).Contents (Elt Ideal)) (x5 : (⟨S4x1x1024, .f32⟩ : BufTy).Contents (Elt Ideal)) (x7 : (⟨S8192x1024, .f32⟩ : BufTy).Contents (Elt Ideal))
  (q : Fin 4) (i : Fin 2048) (j : Fin 1024)

/-- The reference's argument arrays. -/
def refArgs : Args where
  d i k := x0 (ix2 i k)
  w j k := x1 (ix2 j k)
  r i j := x2 (ix2 i j)
  x i j := x3 (ix2 i j)
  g j := x4 (ix2 0 j)
  s q j := x5 (ix3 q 0 j)
  e i j := x7 (ix2 i j)

theorem v5_apply : val_main_v5 (F := Ideal) x3 (ix3 q i j) = (refArgs x0 x1 x2 x3 x4 x5 x7).x (row q i) j := by
  pointwise [val_main_v5]
  rfl
theorem v4_apply : val_main_v4 (F := Ideal) x7 (ix3 q i j) = (refArgs x0 x1 x2 x3 x4 x5 x7).e (row q i) j := by
  pointwise [val_main_v4]
  rfl
theorem v1_apply : val_main_v1 (F := Ideal) x2 (ix3 q i j) = (refArgs x0 x1 x2 x3 x4 x5 x7).r (row q i) j := by
  pointwise [val_main_v1]
  rfl
theorem v30_apply : val_main_v30 (F := Ideal) x0 x1 (ix3 q i j) = ∑ k : Fin 2048, (refArgs x0 x1 x2 x3 x4 x5 x7).d (row q i) k * (refArgs x0 x1 x2 x3 x4 x5 x7).w j k := by
  pointwise [val_main_v30, val_main_v3, val_main_v2, val_main_v0]
  rfl
theorem v31_apply : val_main_v31 (F := Ideal) x0 x1 x2 (ix3 q i j) = (refArgs x0 x1 x2 x3 x4 x5 x7).u (row q i) j := by
  rw [val_main_v31_apply, v1_apply x0 x1 x2 x3 x4 x5 x7, v30_apply x0 x1 x2 x3 x4 x5 x7]
  exact add_comm _ _
theorem v21_apply : val_main_v21 (F := Ideal) x4 (ix3 q i j) = (refArgs x0 x1 x2 x3 x4 x5 x7).g j := by
  pointwise [val_main_v21, val_main_v20, val_main_v6]
  rfl
theorem v42_apply : val_main_v42 (F := Ideal) x4 (ix3 q i j) = (refArgs x0 x1 x2 x3 x4 x5 x7).g j := by
  pointwise [val_main_v42, val_main_v20, val_main_v6]
  rfl
theorem v37_apply : val_main_v37 (F := Ideal) x5 (ix3 q i j) = num 0x3F800000#32 + (refArgs x0 x1 x2 x3 x4 x5 x7).s q j := by
  pointwise [val_main_v37, val_main_v24, val_main_v23, val_main_cst_3]
  rfl

/-- The mean square of a row, the factor it is normalized with, and minus half the factor's cube. -/
theorem v13_apply : val_main_v13 (F := Ideal) x3 (ix3 q i 0) = ms ((refArgs x0 x1 x2 x3 x4 x5 x7).x (row q i)) := by
  unfold ms
  simp only [← v5_apply x0 x1 x2 x3 x4 x5 x7]
  pointwise [val_main_v13, val_main_v11, val_main_v12, val_main_v10, val_main_v9, val_main_v8, val_main_v7, val_main_cst, val_main_cst_0, val_main_cst_1]
theorem v14_apply : val_main_v14 (F := Ideal) x3 (ix3 q i 0) = rs ((refArgs x0 x1 x2 x3 x4 x5 x7).x (row q i)) := by
  unfold rs
  rw [← v13_apply]
  rfl
theorem v17_apply : val_main_v17 (F := Ideal) x3 (ix3 q i 0) = num 0xBF000000#32 * Ideal.div (rs ((refArgs x0 x1 x2 x3 x4 x5 x7).x (row q i))) (ms ((refArgs x0 x1 x2 x3 x4 x5 x7).x (row q i))) := by
  rw [← v14_apply, ← v13_apply]
  pointwise [val_main_v17, val_main_v16, val_main_v15, val_main_cst_2]
theorem v18_apply : val_main_v18 (F := Ideal) x3 (ix3 q i j) = rs ((refArgs x0 x1 x2 x3 x4 x5 x7).x (row q i)) := by
  rw [← v14_apply]
  pointwise [val_main_v18]
theorem v48_apply : val_main_v48 (F := Ideal) x3 (ix3 q i j) = rs ((refArgs x0 x1 x2 x3 x4 x5 x7).x (row q i)) := by
  rw [← v14_apply]
  pointwise [val_main_v48]

theorem v19_apply : val_main_v19 (F := Ideal) x3 (ix3 q i j) = (refArgs x0 x1 x2 x3 x4 x5 x7).x (row q i) j * rs ((refArgs x0 x1 x2 x3 x4 x5 x7).x (row q i)) := by
  rw [val_main_v19_apply, v5_apply x0 x1 x2 x3 x4 x5 x7, v18_apply x0 x1 x2 x3 x4 x5 x7]
  rfl
theorem v34_apply : val_main_v34 (F := Ideal) x0 x1 x2 x3 x4 (ix3 q i j) = scaleTerm ((refArgs x0 x1 x2 x3 x4 x5 x7).x (row q i)) ((refArgs x0 x1 x2 x3 x4 x5 x7).u (row q i)) (refArgs x0 x1 x2 x3 x4 x5 x7).g j := by
  rw [val_main_v34_apply, val_main_v22_apply, v19_apply x0 x1 x2 x3 x4 x5 x7, v21_apply x0 x1 x2 x3 x4 x5 x7, v31_apply x0 x1 x2 x3 x4 x5 x7]
  rfl
theorem v38_apply : val_main_v38 (F := Ideal) x0 x1 x2 x5 (ix3 q i j) = scaled ((refArgs x0 x1 x2 x3 x4 x5 x7).u (row q i)) ((refArgs x0 x1 x2 x3 x4 x5 x7).s q) j := by
  rw [val_main_v38_apply, v31_apply x0 x1 x2 x3 x4 x5 x7, v37_apply x0 x1 x2 x3 x4 x5 x7]
  rfl
theorem v39_apply : val_main_v39 (F := Ideal) x0 x1 x2 x3 x5 (ix3 q i j) = gainTerm ((refArgs x0 x1 x2 x3 x4 x5 x7).x (row q i)) ((refArgs x0 x1 x2 x3 x4 x5 x7).u (row q i)) ((refArgs x0 x1 x2 x3 x4 x5 x7).s q) j := by
  rw [val_main_v39_apply, v19_apply x0 x1 x2 x3 x4 x5 x7, v38_apply x0 x1 x2 x3 x4 x5 x7]
  rfl
theorem v43_apply : val_main_v43 (F := Ideal) x0 x1 x2 x4 x5 (ix3 q i j) = inner ((refArgs x0 x1 x2 x3 x4 x5 x7).u (row q i)) (refArgs x0 x1 x2 x3 x4 x5 x7).g ((refArgs x0 x1 x2 x3 x4 x5 x7).s q) j := by
  rw [val_main_v43_apply, v38_apply x0 x1 x2 x3 x4 x5 x7, v42_apply x0 x1 x2 x3 x4 x5 x7]
  rfl

/-- The factor's gradient, as every entry of the row gets it. -/
theorem v46_apply : val_main_v46 (F := Ideal) x0 x1 x2 x3 x4 x5 (ix2 q i) = ∑ d, (refArgs x0 x1 x2 x3 x4 x5 x7).x (row q i) d * inner ((refArgs x0 x1 x2 x3 x4 x5 x7).u (row q i)) (refArgs x0 x1 x2 x3 x4 x5 x7).g ((refArgs x0 x1 x2 x3 x4 x5 x7).s q) d := by
  simp only [← v5_apply x0 x1 x2 x3 x4 x5 x7 q i, ← v43_apply x0 x1 x2 x3 x4 x5 x7 q i]
  pointwise [val_main_v46, val_main_v45, val_main_cst_8]
theorem v53_apply : val_main_v53 (F := Ideal) x0 x1 x2 x3 x4 x5 (ix3 q i 0) = back ((refArgs x0 x1 x2 x3 x4 x5 x7).x (row q i)) (inner ((refArgs x0 x1 x2 x3 x4 x5 x7).u (row q i)) (refArgs x0 x1 x2 x3 x4 x5 x7).g ((refArgs x0 x1 x2 x3 x4 x5 x7).s q)) := by
  unfold back
  rw [← v46_apply, ← v17_apply]
  pointwise [val_main_v53, val_main_v52, val_main_v51, val_main_v47, val_main_cst_9]
theorem v55_apply : val_main_v55 (F := Ideal) x0 x1 x2 x3 x4 x5 (ix3 q i j) = back ((refArgs x0 x1 x2 x3 x4 x5 x7).x (row q i)) (inner ((refArgs x0 x1 x2 x3 x4 x5 x7).u (row q i)) (refArgs x0 x1 x2 x3 x4 x5 x7).g ((refArgs x0 x1 x2 x3 x4 x5 x7).s q)) := by
  rw [← v53_apply]
  pointwise [val_main_v55, val_main_v54, val_main_cst_10]
  exact Fin.sum_univ_one _

theorem v59_apply : val_main_v59 (F := Ideal) x0 x1 x2 x3 x4 x5 x7 (ix3 q i j) = (refArgs x0 x1 x2 x3 x4 x5 x7).dx (row q i) j := by
  rw [val_main_v59_apply, val_main_v57_apply, val_main_v50_apply, val_main_v56_apply, val_main_v58_apply, val_main_v49_apply, v4_apply x0 x1 x2 x3 x4 x5 x7, v43_apply x0 x1 x2 x3 x4 x5 x7,
    v48_apply x0 x1 x2 x3 x4 x5 x7, v55_apply x0 x1 x2 x3 x4 x5 x7, v5_apply x0 x1 x2 x3 x4 x5 x7]
  unfold Args.dx rowGrad
  rw [seq_row]
  exact add_last _ _ _ _

theorem v40_apply : val_main_v40 (F := Ideal) x0 x1 x2 x3 x5 (ix1 j) = (refArgs x0 x1 x2 x3 x4 x5 x7).dg j := by
  refine (reduce_two 4 2048 _ _ j).trans ?_
  unfold Args.dg
  rw [← sum_rows]
  refine Finset.sum_congr rfl fun q _ => Finset.sum_congr rfl fun i _ => (v39_apply x0 x1 x2 x3 x4 x5 x7 q i j).trans ?_
  rw [seq_row]

theorem v41_apply : val_main_v41 (F := Ideal) x0 x1 x2 x3 x5 (ix3 0 0 j) = (refArgs x0 x1 x2 x3 x4 x5 x7).dg j := by
  rw [← v40_apply]
  pointwise [val_main_v41]
theorem v44_apply : val_main_v44 (F := Ideal) x0 x1 x2 x3 x5 (ix1 j) = (refArgs x0 x1 x2 x3 x4 x5 x7).dg j := by
  refine (reduce_two 1 1 _ _ j).trans ?_
  rw [Fin.sum_univ_one, Fin.sum_univ_one]
  exact v41_apply x0 x1 x2 x3 x4 x5 x7 j

/-- The four results. -/
theorem dg_ref : val_main_v60 (F := Ideal) x0 x1 x2 x3 x5 (ix2 0 j) = (refArgs x0 x1 x2 x3 x4 x5 x7).dg j := by
  rw [← v44_apply]
  pointwise [val_main_v60]
theorem ds_ref : val_main_v36 (F := Ideal) x0 x1 x2 x3 x4 (ix3 q 0 j) = (refArgs x0 x1 x2 x3 x4 x5 x7).ds q j := by
  unfold Args.ds
  simp only [← v34_apply x0 x1 x2 x3 x4 x5 x7 q]
  pointwise [val_main_v36, val_main_v35, val_main_cst_5]
theorem dh_ref : val_main_v33 (F := Ideal) x0 x1 x2 (ix3 q 0 j) = (refArgs x0 x1 x2 x3 x4 x5 x7).dh q j := by
  unfold Args.dh
  simp only [← v31_apply x0 x1 x2 x3 x4 x5 x7 q]
  pointwise [val_main_v33, val_main_v32, val_main_cst_4]
theorem dx_ref (n : Fin 8192) : val_main_v61 (F := Ideal) x0 x1 x2 x3 x4 x5 x7 (ix2 n j) = (refArgs x0 x1 x2 x3 x4 x5 x7).dx n j := by
  obtain ⟨q, i, rfl⟩ : ∃ q i, n = row q i := ⟨⟨n.val / 2048, by omega⟩, ⟨n.val % 2048, by omega⟩, Fin.ext (by simp only [row]; omega)⟩
  rw [← v59_apply]
  pointwise [val_main_v61]
  rw [row_div, row_mod]

end Cert.InNorm
-- ==== Proof.NormWords.lean ====
/- One step of the kernel for the gradient through the normalization, read at an index. -/
module

public import proofs.«01_k».proof.Proof.Gen.Kernel3Ideal.Value
public import proofs.«01_k».proof.Proof.NormSpec

@[expose] public section

set_option maxRecDepth 16384

noncomputable section

namespace Cert.NormBwd

open Idealize.ShloMosaic Idealize.ShloMosaic.TcCoe Idealize.SL.Sem
open Cert.Kernel3Ideal Cert.Kernel3Ideal.Gen

theorem zeros_apply (i : Fin 512) (j : Fin 1024) : k0_pay1 (F := Ideal) (ix2 i j) = 0 := by pointwise [k0_pay1]
theorem zeros1_apply (j : Fin 1024) : k0_pay7 (F := Ideal) (ix2 0 j) = 0 := by pointwise [k0_pay7]
theorem zeros2_apply (j : Fin 1024) : k0_pay8 (F := Ideal) (ix3 0 0 j) = 0 := by pointwise [k0_pay8]
theorem zeros3_apply (j : Fin 1024) : k0_pay9 (F := Ideal) (ix3 0 0 j) = 0 := by pointwise [k0_pay9]
theorem zeros4_apply (j : Fin 1024) : k0_pay10 (F := Ideal) (ix3 0 0 j) = 0 := by pointwise [k0_pay10]

/-- One step adds the product over its 2048 columns. -/
theorem step_apply (a : Vec Ideal S512x1024 .f32) (x0 : Vec Ideal S512x2048 .bf16) (x1 : Vec Ideal S1024x2048 .bf16) (i : Fin 512) (j : Fin 1024) :
    k0_pay2 (F := Ideal) a x0 x1 (ix2 i j) = a (ix2 i j) + ∑ k : Fin 2048, x0 (ix2 i k) * x1 (ix2 j k) := by
  pointwise [k0_pay2]

variable (U X E Y : Vec Ideal S512x1024 .f32) (G P : Vec Ideal S1x1024 .f32) (S B Q : Vec Ideal S1x1x1024 .f32)

/-- Row `i` of a block. -/
def rowOf (A : Vec Ideal S512x1024 .f32) (i : Fin 512) (j : Fin 1024) : EReal := A (ix2 i j)
def vec2 (A : Vec Ideal S1x1024 .f32) (j : Fin 1024) : EReal := A (ix2 0 j)
def vec3 (A : Vec Ideal S1x1x1024 .f32) (j : Fin 1024) : EReal := A (ix3 0 0 j)

/-- The blocks a tile's last step stores, from the tile's sum `U` and the argument blocks. -/
def wDx := k0_pay21 U X G (k0_pay11 S) (k0_pay13 X) (k0_pay14 X) E
def wDg := k0_pay22 U (k0_pay11 S) (k0_pay15 X) P
def wDs := k0_pay3 (k0_pay19 U (k0_pay15 X) (k0_pay16 G)) (k0_pay23 Q)
def wDh := k0_pay4 (k0_pay18 U) Q
def wDy := k0_pay5 (wDx U X E G S) B
def wDb := k0_pay6 (wDx U X E G S) Q Y

theorem ms_apply (i : Fin 512) : k0_pay12 X (ix2 i 0) = ms (rowOf X i) := by pointwise [k0_pay12]; rfl
theorem rs_apply (i : Fin 512) : k0_pay13 X (ix2 i 0) = rs (rowOf X i) := by
  unfold rs
  rw [← ms_apply]
  rfl
theorem half_apply (i : Fin 512) : k0_pay14 X (ix2 i 0) = num 0xBF000000#32 * Ideal.div (rs (rowOf X i)) (ms (rowOf X i)) := by
  rw [← ms_apply, ← rs_apply]
  rfl
theorem norm_apply (i : Fin 512) (j : Fin 1024) : k0_pay15 X (ix2 i j) = rowOf X i j * rs (rowOf X i) := by
  rw [← rs_apply]
  pointwise [k0_pay15]; rfl
theorem gain_apply (i : Fin 512) (j : Fin 1024) : k0_pay16 G (ix2 i j) = vec2 G j := by pointwise [k0_pay16]; rfl
theorem same_apply (i : Fin 512) (j : Fin 1024) : k0_pay17 U (ix2 i j) = rowOf U i j := by pointwise [k0_pay17]; rfl
theorem scale_apply (j : Fin 1024) : k0_pay11 S (ix2 0 j) = vec3 S j := by pointwise [k0_pay11]; rfl
theorem scaled_apply (i : Fin 512) (j : Fin 1024) : k0_pay20 U (k0_pay11 S) (ix2 i j) = scaled (rowOf U i) (vec3 S) j := by
  unfold scaled
  rw [← scale_apply, ← same_apply]
  pointwise [k0_pay20]

theorem dx_apply (i : Fin 512) (j : Fin 1024) :
    wDx U X E G S (ix2 i j) = rowGrad (rowOf X i) (rowOf U i) (vec2 G) (vec3 S) (rowOf E i) j := by
  have hi : ∀ k : Fin 1024, k0_pay20 U (k0_pay11 S) (ix2 i k) * G (ix2 0 k) = inner (rowOf U i) (vec2 G) (vec3 S) k := fun k => by rw [scaled_apply]; rfl
  unfold wDx rowGrad back
  simp only [← hi]
  rw [← half_apply, ← rs_apply]
  pointwise [k0_pay21]
  simp only [Fin.sum_univ_one]
  rfl

theorem dg_apply (j : Fin 1024) :
    wDg U X P S (ix2 0 j) = vec2 P j + ∑ i : Fin 512, gainTerm (rowOf X i) (rowOf U i) (vec3 S) j := by
  unfold gainTerm
  simp only [← scaled_apply, ← norm_apply]
  unfold wDg
  pointwise [k0_pay22]
  rfl

theorem ds_apply (j : Fin 1024) :
    wDs U X G Q (ix3 0 0 j) = vec3 Q j + ∑ i : Fin 512, scaleTerm (rowOf X i) (rowOf U i) (vec2 G) j := by
  unfold scaleTerm
  simp only [← norm_apply]
  unfold wDs
  pointwise [k0_pay3, k0_pay19, k0_pay23, k0_pay16, k0_pay17]
  rfl

theorem dh_apply (j : Fin 1024) : wDh U Q (ix3 0 0 j) = vec3 Q j + ∑ i : Fin 512, rowOf U i j := by
  unfold wDh
  pointwise [k0_pay4, k0_pay18]
  rfl

theorem dy_apply (i : Fin 512) (j : Fin 1024) :
    wDy U X E G S B (ix2 i j) = vec3 B j * wDx U X E G S (ix2 i j) := by
  unfold wDy
  generalize wDx U X E G S = w
  pointwise [k0_pay5]
  rfl

theorem db_apply (j : Fin 1024) :
    wDb U X E Y G S Q (ix3 0 0 j) = vec3 Q j + ∑ i : Fin 512, wDx U X E G S (ix2 i j) * rowOf Y i j := by
  unfold wDb
  generalize wDx U X E G S = w
  pointwise [k0_pay6]
  rfl

end Cert.NormBwd
-- ==== Proof.NormState.lean ====
/- What the kernel for the gradient through the normalization holds after each step. -/
module

public import proofs.«01_k».proof.Proof.NormWords

@[expose] public section

set_option maxRecDepth 16384

noncomputable section

namespace Cert.NormBwd

open Idealize.ShloMosaic Idealize.ShloMosaic.TcCoe Idealize.SL.Sem
open Cert.Kernel3Ideal Cert.Kernel3Ideal.Gen

variable (m : (ℓ : Loc nD τ sig) → Buf (Elt Ideal) ℓ)

/-- The sum a tile holds after a step. -/
def acc (c : Dev nD) (t : Fin cfg0.N) : Vec Ideal S512x1024 .f32 := (outsAt0 m c t.val t.isLt).2.2.2.2.2.2

/-- The point before. -/
def prev (t : Fin cfg0.N) : Fin cfg0.N := ⟨t.val - 1, Nat.lt_of_le_of_lt (Nat.sub_le _ _) t.isLt⟩

theorem acc_first (c : Dev nD) (t : Fin cfg0.N) (h : t.val % 2 = 0) : acc m c t = k0_pay2 (k0_pay1 (F := Ideal)) (iblk m c 0 t) (iblk m c 1 t) := by
  unfold acc
  rw [outsAt0_A m c t h (by omega)]
  dsimp only
  unfold sout0_A_0
  refine (Whole.store _ _ _ (by decide) _ _ _).trans ?_
  rw [Whole.load _ _ _ _ (by decide), Whole.load _ _ _ _ (by decide)]
  exact congrArg (fun a => k0_pay2 a (iblk m c 0 t) (iblk m c 1 t)) (View.readCov_unit_lit (S := S512x1024) (off := ![0, 0]) _ inb_S512x1024_S512x1024_0_0 _ (by decide))

theorem acc_last (c : Dev nD) (t : Fin cfg0.N) (h : t.val % 2 = 1) : acc m c t = k0_pay2 (acc m c (prev t)) (iblk m c 0 t) (iblk m c 1 t) := by
  have cases : t.val < 2 ∧ (t.val % 8 = 0 ∨ t.val % 8 = 1) ∨ ¬t.val < 2 ∧ ¬(t.val % 8 = 0 ∨ t.val % 8 = 1) ∨ ¬t.val < 2 ∧ (t.val % 8 = 0 ∨ t.val % 8 = 1) := by omega
  unfold acc
  rcases cases with ⟨h2, h3⟩ | ⟨h2, h3⟩ | ⟨h2, h3⟩
  · rw [outsAt0_B m c t (by omega) h h2 h3]
    dsimp only
    unfold sout0_B_0
    refine (Whole.store _ _ _ (by decide) _ _ _).trans ?_
    rw [Whole.load _ _ _ _ (by decide), Whole.load _ _ _ _ (by decide), Whole.load _ _ _ _ (by decide)]
    rfl
  · rw [outsAt0_C m c t (by omega) h h2 h3]
    dsimp only
    unfold sout0_C_0
    refine (Whole.store _ _ _ (by decide) _ _ _).trans ?_
    rw [Whole.load _ _ _ _ (by decide), Whole.load _ _ _ _ (by decide), Whole.load _ _ _ _ (by decide)]
    rfl
  · rw [outsAt0_D m c t (by omega) h h2 h3]
    dsimp only
    unfold sout0_D_0
    refine (Whole.store _ _ _ (by decide) _ _ _).trans ?_
    rw [Whole.load _ _ _ _ (by decide), Whole.load _ _ _ _ (by decide), Whole.load _ _ _ _ (by decide)]
    rfl

section congr

variable {U U' X X' E E' Y Y' N' R' D : Vec Ideal S512x1024 .f32} {G G' P P' S' V V' : Vec Ideal S1x1024 .f32} {S B B' Q Q' : Vec Ideal S1x1x1024 .f32} {r' t' : FVec Ideal S512x1 .f32}

theorem step_of {x x' : Vec Ideal S512x2048 .bf16} {w w' : Vec Ideal S1024x2048 .bf16} (hU : U' = U) (hx : x' = x) (hw : w' = w) : k0_pay2 U' x' w' = k0_pay2 U x w := by subst_vars; rfl
theorem dx_of (hU : U' = U) (hX : X' = X) (hG : G' = G) (hS : S' = k0_pay11 S) (hr : r' = k0_pay13 X) (ht : t' = k0_pay14 X) (hE : E' = E) :
    k0_pay21 U' X' G' S' r' t' E' = wDx U X E G S := by subst_vars; rfl
theorem dg_of (hU : U' = U) (hS : S' = k0_pay11 S) (hN : N' = k0_pay15 X) (hP : P' = P) : k0_pay22 U' S' N' P' = wDg U X P S := by subst_vars; rfl
theorem scale_of (hU : U' = U) (hN : N' = k0_pay15 X) (hR : R' = k0_pay16 G) : k0_pay19 U' N' R' = k0_pay19 U (k0_pay15 X) (k0_pay16 G) := by subst_vars; rfl
theorem ds_of (hV : V' = k0_pay19 U (k0_pay15 X) (k0_pay16 G)) (hQ : V = k0_pay23 Q) : k0_pay3 V' V = wDs U X G Q := by subst_vars; rfl
theorem dh_of (hV : V' = k0_pay18 U) (hQ : Q' = Q) : k0_pay4 V' Q' = wDh U Q := by subst_vars; rfl
theorem dy_of (hD : D = wDx U X E G S) (hB : B' = B) : k0_pay5 D B' = wDy U X E G S B := by subst_vars; rfl
theorem db_of (hD : D = wDx U X E G S) (hQ : Q' = Q) (hY : Y' = Y) : k0_pay6 D Q' Y' = wDb U X E Y G S Q := by subst_vars; rfl

end congr

/-- What a tile's last step leaves in the six result windows, from what the accumulating ones held before it. -/
def stored (c : Dev nD) (t : Fin cfg0.N) (P : Vec Ideal S1x1024 .f32) (Q R W : Vec Ideal S1x1x1024 .f32) : Prop :=
  (outsAt0 m c t.val t.isLt).1 = wDx (acc m c t) (iblk m c 2 t) (iblk m c 6 t) (iblk m c 3 t) (iblk m c 4 t)
  ∧ (outsAt0 m c t.val t.isLt).2.1 = wDg (acc m c t) (iblk m c 2 t) P (iblk m c 4 t)
  ∧ (outsAt0 m c t.val t.isLt).2.2.1 = wDs (acc m c t) (iblk m c 2 t) (iblk m c 3 t) Q
  ∧ (outsAt0 m c t.val t.isLt).2.2.2.1 = wDh (acc m c t) R
  ∧ (outsAt0 m c t.val t.isLt).2.2.2.2.1 = wDy (acc m c t) (iblk m c 2 t) (iblk m c 6 t) (iblk m c 3 t) (iblk m c 4 t) (iblk m c 8 t)
  ∧ (outsAt0 m c t.val t.isLt).2.2.2.2.2.1 = wDb (acc m c t) (iblk m c 2 t) (iblk m c 6 t) (iblk m c 7 t) (iblk m c 3 t) (iblk m c 4 t) W

/-- At the first tile. -/
theorem stored_B (c : Dev nD) (t : Fin cfg0.N) (h : t.val % 2 = 1) (h2 : t.val < 2) (h3 : t.val % 8 = 0 ∨ t.val % 8 = 1) :
    stored m c t (k0_pay7 (F := Ideal)) (k0_pay8 (F := Ideal))
      (k0_pay9 (F := Ideal)) (k0_pay10 (F := Ideal)) := by
  unfold stored
  rw [outsAt0_B m c t (by omega) h h2 h3]
  dsimp only
  unfold out0_B_9 out0_B_10 out0_B_11 out0_B_12 out0_B_13 out0_B_14
  refine ⟨?_, ?_, ?_, ?_, ?_, ?_⟩
  · refine (Whole.store _ _ _ (by decide) _ _ _).trans ?_
    refine dx_of ?_ ?_ ?_ ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact Whole.load _ _ _ _ (by decide) _
    · exact Whole.load _ _ _ _ (by decide) _
    · exact congrArg k0_pay11 (Whole.load _ _ _ _ (by decide) _)
    · exact congrArg k0_pay13 (Whole.load _ _ _ _ (by decide) _)
    · exact congrArg k0_pay14 (Whole.load _ _ _ _ (by decide) _)
    · exact Whole.load _ _ _ _ (by decide) _
  · refine (Whole.store _ _ _ (by decide) _ _ _).trans ?_
    refine dg_of ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay11 (Whole.load _ _ _ _ (by decide) _)
    · exact congrArg k0_pay15 (Whole.load _ _ _ _ (by decide) _)
    · exact (View.readCov_unit_lit (S := S1x1024) (off := ![0, 0]) _ inb_S1x1024_S1x1024_0_0 _ (by decide))
  · refine (Whole.store _ _ _ (by decide) _ _ _).trans ?_
    refine ds_of (scale_of ?_ ?_ ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay15 (Whole.load _ _ _ _ (by decide) _)
    · exact congrArg k0_pay16 (Whole.load _ _ _ _ (by decide) _)
    · exact congrArg k0_pay23 ((View.readCov_unit_lit (S := S1x1x1024) (off := ![0, 0, 0]) _ inb_S1x1x1024_S1x1x1024_0_0_0 _ (by decide)))
  · refine (Whole.store _ _ _ (by decide) _ _ _).trans ?_
    refine dh_of (congrArg k0_pay18 ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact (View.readCov_unit_lit (S := S1x1x1024) (off := ![0, 0, 0]) _ inb_S1x1x1024_S1x1x1024_0_0_0 _ (by decide))
  · refine (Whole.store _ _ _ (by decide) _ _ _).trans ?_
    refine dy_of ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact Whole.load _ _ _ _ (by decide) _
  · refine (Whole.store _ _ _ (by decide) _ _ _).trans ?_
    refine db_of ?_ ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact (View.readCov_unit_lit (S := S1x1x1024) (off := ![0, 0, 0]) _ inb_S1x1x1024_S1x1x1024_0_0_0 _ (by decide))
    · exact Whole.load _ _ _ _ (by decide) _

/-- At a tile that starts neither the rows nor a sequence. -/
theorem stored_C (c : Dev nD) (t : Fin cfg0.N) (h : t.val % 2 = 1) (h2 : ¬t.val < 2) (h3 : ¬(t.val % 8 = 0 ∨ t.val % 8 = 1)) :
    stored m c t (outsAt0 m c (prev t).val (prev t).isLt).2.1 (outsAt0 m c (prev t).val (prev t).isLt).2.2.1
      (outsAt0 m c (prev t).val (prev t).isLt).2.2.2.1 (outsAt0 m c (prev t).val (prev t).isLt).2.2.2.2.2.1 := by
  unfold stored
  rw [outsAt0_C m c t (by omega) h h2 h3]
  dsimp only
  unfold out0_C_9 out0_C_10 out0_C_11 out0_C_12 out0_C_13 out0_C_14
  refine ⟨?_, ?_, ?_, ?_, ?_, ?_⟩
  · refine (Whole.store _ _ _ (by decide) _ _ _).trans ?_
    refine dx_of ?_ ?_ ?_ ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact Whole.load _ _ _ _ (by decide) _
    · exact Whole.load _ _ _ _ (by decide) _
    · exact congrArg k0_pay11 (Whole.load _ _ _ _ (by decide) _)
    · exact congrArg k0_pay13 (Whole.load _ _ _ _ (by decide) _)
    · exact congrArg k0_pay14 (Whole.load _ _ _ _ (by decide) _)
    · exact Whole.load _ _ _ _ (by decide) _
  · refine (Whole.store _ _ _ (by decide) _ _ _).trans ?_
    refine dg_of ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay11 (Whole.load _ _ _ _ (by decide) _)
    · exact congrArg k0_pay15 (Whole.load _ _ _ _ (by decide) _)
    · exact Whole.load _ _ _ _ (by decide) _
  · refine (Whole.store _ _ _ (by decide) _ _ _).trans ?_
    refine ds_of (scale_of ?_ ?_ ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay15 (Whole.load _ _ _ _ (by decide) _)
    · exact congrArg k0_pay16 (Whole.load _ _ _ _ (by decide) _)
    · exact congrArg k0_pay23 (Whole.load _ _ _ _ (by decide) _)
  · refine (Whole.store _ _ _ (by decide) _ _ _).trans ?_
    refine dh_of (congrArg k0_pay18 ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact Whole.load _ _ _ _ (by decide) _
  · refine (Whole.store _ _ _ (by decide) _ _ _).trans ?_
    refine dy_of ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact Whole.load _ _ _ _ (by decide) _
  · refine (Whole.store _ _ _ (by decide) _ _ _).trans ?_
    refine db_of ?_ ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact Whole.load _ _ _ _ (by decide) _
    · exact Whole.load _ _ _ _ (by decide) _

/-- At the first tile of a later sequence. -/
theorem stored_D (c : Dev nD) (t : Fin cfg0.N) (h : t.val % 2 = 1) (h2 : ¬t.val < 2) (h3 : t.val % 8 = 0 ∨ t.val % 8 = 1) :
    stored m c t (outsAt0 m c (prev t).val (prev t).isLt).2.1 (k0_pay8 (F := Ideal))
      (k0_pay9 (F := Ideal)) (k0_pay10 (F := Ideal)) := by
  unfold stored
  rw [outsAt0_D m c t (by omega) h h2 h3]
  dsimp only
  unfold out0_D_9 out0_D_10 out0_D_11 out0_D_12 out0_D_13 out0_D_14
  refine ⟨?_, ?_, ?_, ?_, ?_, ?_⟩
  · refine (Whole.store _ _ _ (by decide) _ _ _).trans ?_
    refine dx_of ?_ ?_ ?_ ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact Whole.load _ _ _ _ (by decide) _
    · exact Whole.load _ _ _ _ (by decide) _
    · exact congrArg k0_pay11 (Whole.load _ _ _ _ (by decide) _)
    · exact congrArg k0_pay13 (Whole.load _ _ _ _ (by decide) _)
    · exact congrArg k0_pay14 (Whole.load _ _ _ _ (by decide) _)
    · exact Whole.load _ _ _ _ (by decide) _
  · refine (Whole.store _ _ _ (by decide) _ _ _).trans ?_
    refine dg_of ?_ ?_ ?_ ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay11 (Whole.load _ _ _ _ (by decide) _)
    · exact congrArg k0_pay15 (Whole.load _ _ _ _ (by decide) _)
    · exact Whole.load _ _ _ _ (by decide) _
  · refine (Whole.store _ _ _ (by decide) _ _ _).trans ?_
    refine ds_of (scale_of ?_ ?_ ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact congrArg k0_pay15 (Whole.load _ _ _ _ (by decide) _)
    · exact congrArg k0_pay16 (Whole.load _ _ _ _ (by decide) _)
    · exact congrArg k0_pay23 ((View.readCov_unit_lit (S := S1x1x1024) (off := ![0, 0, 0]) _ inb_S1x1x1024_S1x1x1024_0_0_0 _ (by decide)))
  · refine (Whole.store _ _ _ (by decide) _ _ _).trans ?_
    refine dh_of (congrArg k0_pay18 ?_) ?_
    · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
    · exact (View.readCov_unit_lit (S := S1x1x1024) (off := ![0, 0, 0]) _ inb_S1x1x1024_S1x1x1024_0_0_0 _ (by decide))
  · refine (Whole.store _ _ _ (by decide) _ _ _).trans ?_
    refine dy_of ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact Whole.load _ _ _ _ (by decide) _
  · refine (Whole.store _ _ _ (by decide) _ _ _).trans ?_
    refine db_of ?_ ?_ ?_
    · refine dx_of ?_ ?_ ?_ ?_ ?_ ?_ ?_
      · exact (View.readCov_unit_lit (S := S512x1024) (off := ![0, 0]) _ inb_S512x1024_S512x1024_0_0 _ (by decide)).trans ((step_of (Whole.load _ _ _ _ (by decide) _) (Whole.load _ _ _ _ (by decide) _) (Whole.load _ _ _ _ (by decide) _)).trans (acc_last m c t h).symm)
      · exact Whole.load _ _ _ _ (by decide) _
      · exact Whole.load _ _ _ _ (by decide) _
      · exact congrArg k0_pay11 (Whole.load _ _ _ _ (by decide) _)
      · exact congrArg k0_pay13 (Whole.load _ _ _ _ (by decide) _)
      · exact congrArg k0_pay14 (Whole.load _ _ _ _ (by decide) _)
      · exact Whole.load _ _ _ _ (by decide) _
    · exact (View.readCov_unit_lit (S := S1x1x1024) (off := ![0, 0, 0]) _ inb_S1x1x1024_S1x1x1024_0_0_0 _ (by decide))
    · exact Whole.load _ _ _ _ (by decide) _

end Cert.NormBwd
-- ==== Proof.NormKernel.lean ====
/- The gradient through the normalization before the feed-forward layer: the kernel's result arrays after the run. -/
module

public import proofs.«01_k».proof.Proof.NormState

@[expose] public section

set_option maxRecDepth 16384

noncomputable section

namespace Cert.NormBwd

open Idealize.ShloMosaic Idealize.ShloMosaic.TcCoe Idealize.SL.Sem
open Cert.Kernel3Ideal Cert.Kernel3Ideal.Gen

variable (m : (ℓ : Loc nD τ sig) → Buf (Elt Ideal) ℓ)

/-- The kernel's argument arrays. -/
def args (c : Dev nD) : Args where
  d i k := m ((c : Thread nD τ).loc main_arg0) (ix2 i k)
  w j k := m ((c : Thread nD τ).loc main_arg1) (ix2 j k)
  x i j := m ((c : Thread nD τ).loc main_arg2) (ix2 i j)
  g j := m ((c : Thread nD τ).loc main_arg3) (ix2 0 j)
  s q j := m ((c : Thread nD τ).loc main_arg4) (ix3 q 0 j)
  e i j := m ((c : Thread nD τ).loc main_arg6) (ix2 i j)
  y i j := m ((c : Thread nD τ).loc main_arg7) (ix2 i j)
  b q j := m ((c : Thread nD τ).loc main_arg8) (ix3 q 0 j)

/-- The last point of tile `T`. -/
def pt (T : Fin 16) : Fin cfg0.N := ⟨2 * T.val + 1, by have := T.isLt; have : cfg0.N = 32 := rfl; omega⟩

theorem pt_val (T : Fin 16) : (pt T).val = 2 * T.val + 1 := rfl

/-- Row `i` of tile `T`. -/
def rowIn (T : Fin 16) (i : Fin 512) : Fin 8192 := ⟨T.val * 512 + i.val, by omega⟩

theorem idx : ∀ t : Fin cfg0.N, win0_0.index t = ![t.val / 2, t.val % 2] ∧ win0_1.index t = ![0, t.val % 2] ∧ win0_2.index t = ![t.val / 2, 0]
    ∧ win0_3.index t = ![0, 0] ∧ win0_4.index t = ![t.val / 8, 0, 0] ∧ win0_6.index t = ![t.val / 2, 0] ∧ win0_7.index t = ![t.val / 2, 0] ∧ win0_8.index t = ![t.val / 8, 0, 0] :=
  (by decide +kernel : ∀ t : Fin grid0.N, _)

theorem idx_out : ∀ t : Fin cfg0.N, win0_9.index t = ![t.val / 2, 0] ∧ win0_10.index t = ![0, 0] ∧ win0_11.index t = ![t.val / 8, 0, 0]
    ∧ win0_12.index t = ![t.val / 8, 0, 0] ∧ win0_13.index t = ![t.val / 2, 0] ∧ win0_14.index t = ![t.val / 8, 0, 0] :=
  (by decide +kernel : ∀ t : Fin grid0.N, _)

/-- What a point adds to its tile's sum. -/
def part (c : Dev nD) (t : Fin cfg0.N) (q : S512x1024.Idx) : EReal :=
  Whole.inputGrad (b := 2048) (fun i k => iblk m c 0 t (ix2 i k)) (fun j k => iblk m c 1 t (ix2 j k)) (q 0 : Fin 512) (q 1 : Fin 1024)

theorem first (c : Dev nD) (t : Fin cfg0.N) (h : t.val % 2 = 0) (q : S512x1024.Idx) : (outsAt0 m c t.val t.isLt).2.2.2.2.2.2 q = 0 + part m c t q := by
  obtain ⟨i, j, rfl⟩ : ∃ i j, q = ix2 i j := ⟨q 0, q 1, by funext x; fin_cases x <;> rfl⟩
  refine (congrFun (acc_first m c t h) _).trans ((step_apply _ _ _ i j).trans ?_)
  rw [zeros_apply]
  rfl

theorem next (c : Dev nD) (t : Fin cfg0.N) (h : ¬t.val % 2 = 0) (q : S512x1024.Idx) :
    (outsAt0 m c t.val t.isLt).2.2.2.2.2.2 q = (outsAt0 m c (t.val - 1) (Nat.lt_of_le_of_lt (Nat.sub_le _ _) t.isLt)).2.2.2.2.2.2 q + part m c t q := by
  obtain ⟨i, j, rfl⟩ : ∃ i j, q = ix2 i j := ⟨q 0, q 1, by funext x; fin_cases x <;> rfl⟩
  exact (congrFun (acc_last m c t (by omega)) _).trans (step_apply _ _ _ i j)

/-- After a tile's last step its sum is the gradient of the feed-forward layer's input. -/
theorem acc_rows (c : Dev nD) (T : Fin 16) (i : Fin 512) : rowOf (acc m c (pt T)) i = (args m c).u (rowIn T i) := by
  funext j
  unfold rowOf acc
  have h3 : (pt T).val % 2 = 1 := by simp only [pt]; omega
  rw [Pipeline.eq_sum_fin_of_reset_step_apply_of_flush (fun n h => (outsAt0 m c n h).2.2.2.2.2.2) 2 (fun _ => 0) (part m c)
    (first m c) (next m c) (pt T) h3 _, zero_add]
  unfold part Args.u Whole.inputGrad
  refine Fin.sum_mul_add_congr fun s k hl => ?_
  refine congrArg₂ (fun a b : EReal => a * b) ?_ ?_ <;> blk_ext [iblk, V, args, rowIn, pt_val, idx]

theorem x_rows (c : Dev nD) (T : Fin 16) (i : Fin 512) : rowOf (iblk m c 2 (pt T)) i = (args m c).x (rowIn T i) := by
  funext j
  unfold rowOf
  blk_ext [iblk, V, args, rowIn, pt_val, idx]

theorem e_rows (c : Dev nD) (T : Fin 16) (i : Fin 512) : rowOf (iblk m c 6 (pt T)) i = (args m c).e (rowIn T i) := by
  funext j
  unfold rowOf
  blk_ext [iblk, V, args, rowIn, pt_val, idx]

theorem y_rows (c : Dev nD) (T : Fin 16) (i : Fin 512) : rowOf (iblk m c 7 (pt T)) i = (args m c).y (rowIn T i) := by
  funext j
  unfold rowOf
  blk_ext [iblk, V, args, rowIn, pt_val, idx]

theorem gain_vec (c : Dev nD) (T : Fin 16) : vec2 (iblk m c 3 (pt T)) = (args m c).g := by
  funext j
  unfold vec2
  blk_ext [iblk, V, args, pt_val, idx]

theorem scale_vec (c : Dev nD) (T : Fin 16) (i : Fin 512) : vec3 (iblk m c 4 (pt T)) = (args m c).s (seq (rowIn T i)) := by
  funext j
  unfold vec3
  blk_ext [iblk, V, args, rowIn, seq, pt_val, idx]

theorem gate_vec (c : Dev nD) (T : Fin 16) (i : Fin 512) : vec3 (iblk m c 8 (pt T)) = (args m c).b (seq (rowIn T i)) := by
  funext j
  unfold vec3
  blk_ext [iblk, V, args, rowIn, seq, pt_val, idx]

/-- What a tile's last step leaves, and what the accumulating windows held before it. -/
theorem stored_any (c : Dev nD) (T : Fin 16) : ∃ P Q R W, stored m c (pt T) P Q R W
    ∧ (T.val = 0 → P = k0_pay7 (F := Ideal)) ∧ (¬T.val = 0 → P = (outsAt0 m c (prev (pt T)).val (prev (pt T)).isLt).2.1)
    ∧ (T.val % 4 = 0 → Q = k0_pay8 (F := Ideal) ∧ R = k0_pay9 (F := Ideal) ∧ W = k0_pay10 (F := Ideal))
    ∧ (¬T.val % 4 = 0 → Q = (outsAt0 m c (prev (pt T)).val (prev (pt T)).isLt).2.2.1 ∧ R = (outsAt0 m c (prev (pt T)).val (prev (pt T)).isLt).2.2.2.1
        ∧ W = (outsAt0 m c (prev (pt T)).val (prev (pt T)).isLt).2.2.2.2.2.1) := by
  have h : (pt T).val % 2 = 1 := by simp only [pt]; omega
  have hv : (pt T).val = 2 * T.val + 1 := rfl
  have cases : (pt T).val < 2 ∧ ((pt T).val % 8 = 0 ∨ (pt T).val % 8 = 1) ∨ ¬(pt T).val < 2 ∧ ¬((pt T).val % 8 = 0 ∨ (pt T).val % 8 = 1) ∨ ¬(pt T).val < 2 ∧ ((pt T).val % 8 = 0 ∨ (pt T).val % 8 = 1) := by omega
  rcases cases with ⟨h2, h3⟩ | ⟨h2, h3⟩ | ⟨h2, h3⟩
  · exact ⟨_, _, _, _, stored_B m c (pt T) h h2 h3, fun _ => rfl, fun h0 => absurd h2 (by omega), fun _ => ⟨rfl, rfl, rfl⟩, fun h0 => absurd h3 (by omega)⟩
  · exact ⟨_, _, _, _, stored_C m c (pt T) h h2 h3, fun h0 => absurd h2 (by omega), fun _ => rfl, fun h0 => absurd h3 (by omega), fun _ => ⟨rfl, rfl, rfl⟩⟩
  · exact ⟨_, _, _, _, stored_D m c (pt T) h h2 h3, fun h0 => absurd h2 (by omega), fun _ => rfl, fun _ => ⟨rfl, rfl, rfl⟩, fun h0 => absurd h3 (by omega)⟩

/-- A tile's first step changes none of the accumulating windows. -/
theorem kept (c : Dev nD) (t : Fin cfg0.N) (h : t.val % 2 = 0) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1
    ∧ (outsAt0 m c t.val t.isLt).2.2.2.2.2.1 = (outsAt0 m c (t.val - 1) (Nat.lt_of_le_of_lt (Nat.sub_le _ _) t.isLt)).2.2.2.2.2.1 := by
  rw [outsAt0_A m c t h (by omega)]
  dsimp only
  unfold out0_A_10 out0_A_11 out0_A_12 out0_A_14
  exact ⟨rfl, rfl, rfl, rfl⟩

/-- The point before tile `T`'s last holds what the tile before left in the accumulating windows. -/
theorem kept_tile (c : Dev nD) (T : Fin 16) (h : ¬T.val = 0) (T' : Fin 16) (h' : T'.val = T.val - 1) :
    (outsAt0 m c (prev (pt T)).val (prev (pt T)).isLt).2.1 = (outsAt0 m c (pt T').val (pt T').isLt).2.1
    ∧ (outsAt0 m c (prev (pt T)).val (prev (pt T)).isLt).2.2.1 = (outsAt0 m c (pt T').val (pt T').isLt).2.2.1
    ∧ (outsAt0 m c (prev (pt T)).val (prev (pt T)).isLt).2.2.2.1 = (outsAt0 m c (pt T').val (pt T').isLt).2.2.2.1
    ∧ (outsAt0 m c (prev (pt T)).val (prev (pt T)).isLt).2.2.2.2.2.1 = (outsAt0 m c (pt T').val (pt T').isLt).2.2.2.2.2.1 := by
  have he : (⟨(prev (pt T)).val - 1, Nat.lt_of_le_of_lt (Nat.sub_le _ _) (prev (pt T)).isLt⟩ : Fin cfg0.N) = pt T' := Fin.ext (by simp only [prev, pt]; omega)
  rw [← he]
  exact kept m c (prev (pt T)) (by simp only [prev, pt]; omega)

theorem dx_tile (c : Dev nD) (T : Fin 16) (i : Fin 512) (j : Fin 1024) : wDx (acc m c (pt T)) (iblk m c 2 (pt T)) (iblk m c 6 (pt T)) (iblk m c 3 (pt T)) (iblk m c 4 (pt T)) (ix2 i j)
    = (args m c).dx (rowIn T i) j := by
  rw [dx_apply, acc_rows, x_rows, e_rows, gain_vec, scale_vec m c T i]
  rfl

/-- The kernel's six result arrays after the run. -/
def kDx (c : Dev nD) : Vec Ideal S8192x1024 .f32 := fun q => (args m c).dx (q 0) (q 1)
def kDg (c : Dev nD) : Vec Ideal S1x1024 .f32 := fun q => (args m c).dg (q 1)
def kDs (c : Dev nD) : Vec Ideal S4x1x1024 .f32 := fun q => (args m c).ds (q 0) (q 2)
def kDh (c : Dev nD) : Vec Ideal S4x1x1024 .f32 := fun q => (args m c).dh (q 0) (q 2)
def kDy (c : Dev nD) : Vec Ideal S8192x1024 .bf16 := fun q => (args m c).dy (q 0) (q 1)
def kDb (c : Dev nD) : Vec Ideal S4x1x1024 .f32 := fun q => (args m c).db (q 0) (q 2)

theorem pt_of (t : Fin cfg0.N) (h : t.val % 2 = 1) : ∃ T : Fin 16, t = pt T :=
  ⟨⟨t.val / 2, by have := t.isLt; have : cfg0.N = 32 := rfl; omega⟩, Fin.ext (by simp only [pt]; omega)⟩

theorem final_dx (c : Dev nD) : (dats m 0 c).arrAt 9 cfg0.N = kDx m c := by
  refine (dats m 0 c).arrAt_eq_of_covers 9 _ (by decide +kernel) fun t hf y => ?_
  obtain ⟨T, rfl⟩ := pt_of t ((flush0_9 t).mp hf)
  obtain ⟨P, Q, R, W, hs, -⟩ := stored_any m c T
  obtain ⟨i, j, rfl⟩ : ∃ i j, y = ix2 i j := ⟨y 0, y 1, by funext x; fin_cases x <;> rfl⟩
  blk_simp
  rw [after0_9, hs.1]
  refine (dx_tile m c T i j).trans ?_
  show kDx m c (ix2 (rowIn T i) j) = _
  blk_ext [rowIn, pt_val, idx_out]

theorem final_dy (c : Dev nD) : (dats m 0 c).arrAt 13 cfg0.N = kDy m c := by
  refine (dats m 0 c).arrAt_eq_of_covers 13 _ (by decide +kernel) fun t hf y => ?_
  obtain ⟨T, rfl⟩ := pt_of t ((flush0_13 t).mp hf)
  obtain ⟨P, Q, R, W, hs, -⟩ := stored_any m c T
  obtain ⟨i, j, rfl⟩ : ∃ i j, y = ix2 i j := ⟨y 0, y 1, by funext x; fin_cases x <;> rfl⟩
  blk_simp
  rw [after0_13, hs.2.2.2.2.1]
  refine (dy_apply _ _ _ _ _ _ i j).trans ?_
  rw [dx_tile, gate_vec m c T i]
  show kDy m c (ix2 (rowIn T i) j) = _
  blk_ext [rowIn, pt_val, idx_out]

section sums

/-- What tile `T` adds to each of the four sums. -/
def dgPart (c : Dev nD) (T : Fin 16) (j : Fin 1024) : EReal :=
  ∑ i : Fin 512, gainTerm ((args m c).x (rowIn T i)) ((args m c).u (rowIn T i)) ((args m c).s (seq (rowIn T i))) j
def dsPart (c : Dev nD) (T : Fin 16) (j : Fin 1024) : EReal :=
  ∑ i : Fin 512, scaleTerm ((args m c).x (rowIn T i)) ((args m c).u (rowIn T i)) (args m c).g j
def dhPart (c : Dev nD) (T : Fin 16) (j : Fin 1024) : EReal := ∑ i : Fin 512, (args m c).u (rowIn T i) j
def dbPart (c : Dev nD) (T : Fin 16) (j : Fin 1024) : EReal := ∑ i : Fin 512, (args m c).dx (rowIn T i) j * (args m c).y (rowIn T i) j

/-- The sums after tile `T`. -/
def dgAt (c : Dev nD) (T : ℕ) (h : T < 16) (j : Fin 1024) : EReal := vec2 (outsAt0 m c (pt ⟨T, h⟩).val (pt ⟨T, h⟩).isLt).2.1 j
def dsAt (c : Dev nD) (T : ℕ) (h : T < 16) (j : Fin 1024) : EReal := vec3 (outsAt0 m c (pt ⟨T, h⟩).val (pt ⟨T, h⟩).isLt).2.2.1 j
def dhAt (c : Dev nD) (T : ℕ) (h : T < 16) (j : Fin 1024) : EReal := vec3 (outsAt0 m c (pt ⟨T, h⟩).val (pt ⟨T, h⟩).isLt).2.2.2.1 j
def dbAt (c : Dev nD) (T : ℕ) (h : T < 16) (j : Fin 1024) : EReal := vec3 (outsAt0 m c (pt ⟨T, h⟩).val (pt ⟨T, h⟩).isLt).2.2.2.2.2.1 j

variable (c : Dev nD) (T : Fin 16) (j : Fin 1024)

theorem dg_step (P : Vec Ideal S1x1024 .f32) : vec2 (wDg (acc m c (pt T)) (iblk m c 2 (pt T)) P (iblk m c 4 (pt T))) j = vec2 P j + dgPart m c T j := by
  refine (dg_apply _ _ _ _ j).trans (congrArg (fun a : EReal => vec2 P j + a) (Finset.sum_congr rfl fun i _ => ?_))
  rw [acc_rows, x_rows, scale_vec m c T i]

theorem ds_step (Q : Vec Ideal S1x1x1024 .f32) : vec3 (wDs (acc m c (pt T)) (iblk m c 2 (pt T)) (iblk m c 3 (pt T)) Q) j = vec3 Q j + dsPart m c T j := by
  refine (ds_apply _ _ _ _ j).trans (congrArg (fun a : EReal => vec3 Q j + a) (Finset.sum_congr rfl fun i _ => ?_))
  rw [acc_rows, x_rows, gain_vec]

theorem dh_step (Q : Vec Ideal S1x1x1024 .f32) : vec3 (wDh (acc m c (pt T)) Q) j = vec3 Q j + dhPart m c T j := by
  refine (dh_apply _ _ j).trans (congrArg (fun a : EReal => vec3 Q j + a) (Finset.sum_congr rfl fun i _ => ?_))
  rw [acc_rows]

theorem db_step (Q : Vec Ideal S1x1x1024 .f32) :
    vec3 (wDb (acc m c (pt T)) (iblk m c 2 (pt T)) (iblk m c 6 (pt T)) (iblk m c 7 (pt T)) (iblk m c 3 (pt T)) (iblk m c 4 (pt T)) Q) j = vec3 Q j + dbPart m c T j := by
  refine (db_apply _ _ _ _ _ _ _ j).trans (congrArg (fun a : EReal => vec3 Q j + a) (Finset.sum_congr rfl fun i _ => ?_))
  rw [dx_tile, y_rows]

/-- The first tile of the rows, or of a sequence, starts the sums from zero. -/
theorem dg_first (h : T.val % 16 = 0) : dgAt m c T.val T.isLt j = 0 + dgPart m c T j := by
  obtain ⟨P, Q, R, W, hs, hP, -⟩ := stored_any m c T
  refine (congrFun (congrArg vec2 hs.2.1) j).trans ((dg_step m c T j P).trans ?_)
  rw [hP (by omega)]
  exact congrArg (fun a : EReal => a + dgPart m c T j) (zeros1_apply j)

theorem seq_first (h : T.val % 4 = 0) : dsAt m c T.val T.isLt j = 0 + dsPart m c T j ∧ dhAt m c T.val T.isLt j = 0 + dhPart m c T j ∧ dbAt m c T.val T.isLt j = 0 + dbPart m c T j := by
  obtain ⟨P, Q, R, W, hs, -, -, hQ, -⟩ := stored_any m c T
  obtain ⟨rfl, rfl, rfl⟩ := hQ h
  refine ⟨(congrFun (congrArg vec3 hs.2.2.1) j).trans ((ds_step m c T j _).trans ?_), (congrFun (congrArg vec3 hs.2.2.2.1) j).trans ((dh_step m c T j _).trans ?_),
    (congrFun (congrArg vec3 hs.2.2.2.2.2) j).trans ((db_step m c T j _).trans ?_)⟩
  · exact congrArg (fun a : EReal => a + dsPart m c T j) (zeros2_apply j)
  · exact congrArg (fun a : EReal => a + dhPart m c T j) (zeros3_apply j)
  · exact congrArg (fun a : EReal => a + dbPart m c T j) (zeros4_apply j)

/-- Every other tile adds to what the tile before left. -/
theorem dg_next (h : ¬T.val % 16 = 0) : dgAt m c T.val T.isLt j = dgAt m c (T.val - 1) (Nat.lt_of_le_of_lt (Nat.sub_le _ _) T.isLt) j + dgPart m c T j := by
  obtain ⟨P, Q, R, W, hs, -, hP, -⟩ := stored_any m c T
  have hk := kept_tile m c T (by omega) ⟨T.val - 1, Nat.lt_of_le_of_lt (Nat.sub_le _ _) T.isLt⟩ rfl
  refine (congrFun (congrArg vec2 hs.2.1) j).trans ((dg_step m c T j P).trans ?_)
  rw [hP (by omega), hk.1]
  rfl

theorem seq_next (h : ¬T.val % 4 = 0) :
    dsAt m c T.val T.isLt j = dsAt m c (T.val - 1) (Nat.lt_of_le_of_lt (Nat.sub_le _ _) T.isLt) j + dsPart m c T j
    ∧ dhAt m c T.val T.isLt j = dhAt m c (T.val - 1) (Nat.lt_of_le_of_lt (Nat.sub_le _ _) T.isLt) j + dhPart m c T j
    ∧ dbAt m c T.val T.isLt j = dbAt m c (T.val - 1) (Nat.lt_of_le_of_lt (Nat.sub_le _ _) T.isLt) j + dbPart m c T j := by
  obtain ⟨P, Q, R, W, hs, -, -, -, hQ⟩ := stored_any m c T
  have hk := kept_tile m c T (by omega) ⟨T.val - 1, Nat.lt_of_le_of_lt (Nat.sub_le _ _) T.isLt⟩ rfl
  obtain ⟨hQ1, hQ2, hQ3⟩ := hQ h
  refine ⟨(congrFun (congrArg vec3 hs.2.2.1) j).trans ((ds_step m c T j _).trans ?_), (congrFun (congrArg vec3 hs.2.2.2.1) j).trans ((dh_step m c T j _).trans ?_),
    (congrFun (congrArg vec3 hs.2.2.2.2.2) j).trans ((db_step m c T j _).trans ?_)⟩
  · rw [hQ1, hk.2.1]
    rfl
  · rw [hQ2, hk.2.2.1]
    rfl
  · rw [hQ3, hk.2.2.2]
    rfl

end sums

/-- The sums after the last tile, and after the last tile of a sequence. -/
theorem dg_total (c : Dev nD) (T : Fin 16) (hT : T.val % 16 = 16 - 1) (j : Fin 1024) : dgAt m c T.val T.isLt j = (args m c).dg j := by
  refine (Pipeline.eq_sum_fin_of_reset_step_apply_of_flush (dgAt m c) 16 (fun _ => 0) (dgPart m c) (fun T h j => dg_first m c T j h) (fun T h j => dg_next m c T j h) T hT j).trans ?_
  rw [zero_add]
  refine Fin.sum_mul_add_congr fun s k hl => ?_
  have hr : rowIn ⟨16 * (T.val / 16) + s.val, Pipeline.run_point_lt_of_flush T hT s⟩ k = ⟨s.val * 512 + k.val, hl⟩ := Fin.ext (by simp only [rowIn]; omega)
  rw [hr]

/-- The sequence a tile is of. -/
def seqOf (T : Fin 16) : Fin 4 := ⟨T.val / 4, by omega⟩

/-- The tiles of a sequence have its rows. -/
theorem sum_seq (T : Fin 16) (hT : T.val % 4 = 4 - 1) (f : Fin 8192 → EReal) :
    ∑ s : Fin 4, ∑ k : Fin 512, f (rowIn ⟨4 * (T.val / 4) + s.val, Pipeline.run_point_lt_of_flush T hT s⟩ k) = ∑ i : Fin 2048, f (row (seqOf T) i) :=
  Fin.sum_mul_add_congr fun s k hl => congrArg f (Fin.ext (by simp only [rowIn, row, seqOf]; omega))

theorem ds_total (c : Dev nD) (T : Fin 16) (hT : T.val % 4 = 4 - 1) (j : Fin 1024) : dsAt m c T.val T.isLt j = (args m c).ds (seqOf T) j := by
  refine (Pipeline.eq_sum_fin_of_reset_step_apply_of_flush (dsAt m c) 4 (fun _ => 0) (dsPart m c) (fun T h j => (seq_first m c T j h).1) (fun T h j => (seq_next m c T j h).1) T hT j).trans ?_
  rw [zero_add]
  exact sum_seq T hT fun n => scaleTerm ((args m c).x n) ((args m c).u n) (args m c).g j

theorem dh_total (c : Dev nD) (T : Fin 16) (hT : T.val % 4 = 4 - 1) (j : Fin 1024) : dhAt m c T.val T.isLt j = (args m c).dh (seqOf T) j := by
  refine (Pipeline.eq_sum_fin_of_reset_step_apply_of_flush (dhAt m c) 4 (fun _ => 0) (dhPart m c) (fun T h j => (seq_first m c T j h).2.1) (fun T h j => (seq_next m c T j h).2.1) T hT j).trans ?_
  rw [zero_add]
  exact sum_seq T hT fun n => (args m c).u n j

theorem db_total (c : Dev nD) (T : Fin 16) (hT : T.val % 4 = 4 - 1) (j : Fin 1024) : dbAt m c T.val T.isLt j = (args m c).db (seqOf T) j := by
  refine (Pipeline.eq_sum_fin_of_reset_step_apply_of_flush (dbAt m c) 4 (fun _ => 0) (dbPart m c) (fun T h j => (seq_first m c T j h).2.2) (fun T h j => (seq_next m c T j h).2.2) T hT j).trans ?_
  rw [zero_add]
  exact sum_seq T hT fun n => (args m c).dx n j * (args m c).y n j

theorem final_dg (c : Dev nD) : (dats m 0 c).arrAt 10 cfg0.N = kDg m c := by
  refine (dats m 0 c).arrAt_eq_of_covers 10 _ (by decide +kernel) fun t hf y => ?_
  have h3 := (flush0_10 t).mp hf
  obtain ⟨T, rfl⟩ := pt_of t (by omega)
  obtain ⟨i, j, rfl⟩ : ∃ i j, y = ix2 i j := ⟨y 0, y 1, by funext x; fin_cases x <;> rfl⟩
  have hi : i = 0 := Subsingleton.elim _ _
  subst hi
  blk_simp
  rw [after0_10]
  refine (dg_total m c T (by simp only [pt] at h3; omega) j).trans ?_
  show kDg m c (ix2 0 j) = _
  blk_ext [pt_val, idx_out]

theorem final_ds (c : Dev nD) : (dats m 0 c).arrAt 11 cfg0.N = kDs m c := by
  refine (dats m 0 c).arrAt_eq_of_covers 11 _ (by decide +kernel) fun t hf y => ?_
  have h3 := (flush0_11 t).mp hf
  obtain ⟨T, rfl⟩ := pt_of t (by omega)
  obtain ⟨i, i', j, rfl⟩ : ∃ i i' j, y = ix3 i i' j := ⟨y 0, y 1, y 2, by funext x; fin_cases x <;> rfl⟩
  have hi : i = 0 := Subsingleton.elim _ _
  have hi' : i' = 0 := Subsingleton.elim _ _
  subst hi hi'
  blk_simp
  rw [after0_11]
  refine (ds_total m c T (by simp only [pt] at h3; omega) j).trans ?_
  show kDs m c (ix3 (seqOf T) 0 j) = _
  blk_ext [seqOf, pt_val, idx_out]

theorem final_dh (c : Dev nD) : (dats m 0 c).arrAt 12 cfg0.N = kDh m c := by
  refine (dats m 0 c).arrAt_eq_of_covers 12 _ (by decide +kernel) fun t hf y => ?_
  have h3 := (flush0_12 t).mp hf
  obtain ⟨T, rfl⟩ := pt_of t (by omega)
  obtain ⟨i, i', j, rfl⟩ : ∃ i i' j, y = ix3 i i' j := ⟨y 0, y 1, y 2, by funext x; fin_cases x <;> rfl⟩
  have hi : i = 0 := Subsingleton.elim _ _
  have hi' : i' = 0 := Subsingleton.elim _ _
  subst hi hi'
  blk_simp
  rw [after0_12]
  refine (dh_total m c T (by simp only [pt] at h3; omega) j).trans ?_
  show kDh m c (ix3 (seqOf T) 0 j) = _
  blk_ext [seqOf, pt_val, idx_out]

theorem final_db (c : Dev nD) : (dats m 0 c).arrAt 14 cfg0.N = kDb m c := by
  refine (dats m 0 c).arrAt_eq_of_covers 14 _ (by decide +kernel) fun t hf y => ?_
  have h3 := (flush0_14 t).mp hf
  obtain ⟨T, rfl⟩ := pt_of t (by omega)
  obtain ⟨i, i', j, rfl⟩ : ∃ i i' j, y = ix3 i i' j := ⟨y 0, y 1, y 2, by funext x; fin_cases x <;> rfl⟩
  have hi : i = 0 := Subsingleton.elim _ _
  have hi' : i' = 0 := Subsingleton.elim _ _
  subst hi hi'
  blk_simp
  rw [after0_14]
  refine (db_total m c T (by simp only [pt] at h3; omega) j).trans ?_
  show kDb m c (ix3 (seqOf T) 0 j) = _
  blk_ext [seqOf, pt_val, idx_out]

end Cert.NormBwd
-- ==== Proof.NormGrad.lean ====
/- The gradient through the normalization before the feed-forward layer: the kernel and the reference end with equal results. -/
module

public import proofs.«01_k».proof.Defs
public import proofs.«01_k».proof.Proof.NormKernel
public import proofs.«01_k».proof.Proof.NormRef
public import Idealize.ShloMosaic.Adequacy

@[expose] public section

set_option maxRecDepth 16384

noncomputable section

namespace Cert.NormBwd

open Idealize.ShloMosaic Idealize.ShloMosaic.TcCoe Idealize.SL.Sem

section reference

open Cert.Reference3Ideal Cert.Reference3Ideal.Gen

variable (m : (ℓ : Loc nD τ sig) → Buf (Elt Ideal) ℓ)

/-- The reference's arguments, in a memory. -/
def rArgs (c : Dev nD) : Args :=
  refArgs (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8))

end reference

/-- Two functions on a shape of two axes, or on the indices whose middle coordinate is zero, are equal where they agree at every index. -/
theorem ext2 {n0 n1 : ℕ} {f g : (⟨2, ![n0, n1]⟩ : Shape).Idx → EReal} (h : ∀ (i : Fin n0) (j : Fin n1), f (ix2 i j) = g (ix2 i j)) : f = g := by
  funext q
  obtain ⟨i, j, rfl⟩ : ∃ i j, q = ix2 i j := ⟨q 0, q 1, by funext x; fin_cases x <;> rfl⟩
  exact h i j

theorem ext3 {f g : (⟨3, ![4, 1, 1024]⟩ : Shape).Idx → EReal} (h : ∀ (q : Fin 4) (j : Fin 1024), f (ix3 q 0 j) = g (ix3 q 0 j)) : f = g := by
  funext q
  obtain ⟨i, i', j, rfl⟩ : ∃ i i' j, q = ix3 i i' j := ⟨q 0, q 1, q 2, by funext x; fin_cases x <;> rfl⟩
  have hi : i' = 0 := Subsingleton.elim _ _
  subst hi
  exact h i j

/-- The value claim: from equal arguments the two programs end with equal results. -/
theorem value : Cert.algebraic_Kernel3Ideal_Reference3Ideal (hKernel3Ideal := Cert.Kernel3Ideal.Gen.facts) (hReference3Ideal := Cert.Reference3Ideal.Gen.facts) := by
  intro m g m' g' _ hag
  refine ⟨kDx m, kDg m, kDs m, kDh m, kDy m, kDb m, ?_, ?_⟩
  · exact (θ_run Cert.Kernel3Ideal.defs _ _).mono (fun r h c => ⟨(h c).1.trans (final_dx m c), (h c).2.1.trans (final_dg m c), (h c).2.2.1.trans (final_ds m c),
      (h c).2.2.2.1.trans (final_dh m c), (h c).2.2.2.2.1.trans (final_dy m c), (h c).2.2.2.2.2.1.trans (final_db m c), (h c).2.2.2.2.2.2⟩) (Cert.Kernel3Ideal.Value.run_blocks m g)
  · refine (θ_run Cert.Reference3Ideal.defs _ _).mono (fun r h c => ?_) (Cert.Reference3Ideal.Value.run m' g')
    have ha : rArgs m' c = args m c := by
      obtain ⟨e0, e1, e2, e3, e4, e5, e6, e7, e8⟩ := hag c
      unfold rArgs
      rw [e0, e1, e2, e3, e4, e6, e7, e8]
      rfl
    refine ⟨((h c).1.trans (Cert.Reference3Ideal.Read.val_main_v67_eq _ _)).trans (ext2 fun n j => ?_),
      ((h c).2.1.trans (Cert.Reference3Ideal.Read.val_main_v58_eq _ _ _ _)).trans (ext2 fun n j => ?_),
      ((h c).2.2.1.trans (Cert.Reference3Ideal.Read.val_main_v34_eq _ _ _ _)).trans (ext3 fun q j => ?_),
      ((h c).2.2.2.1.trans (Cert.Reference3Ideal.Read.val_main_v31_eq _ _)).trans (ext3 fun q j => ?_),
      ((h c).2.2.2.2.1.trans (Cert.Reference3Ideal.Read.val_main_v69_eq _ _)).trans (ext2 fun n j => ?_),
      ((h c).2.2.2.2.2.1.trans (Cert.Reference3Ideal.Read.val_main_v66_eq _ _)).trans (ext3 fun q j => ?_), (h c).2.2.2.2.2.2⟩
    · exact (show _ = (rArgs m' c).dx n j from dx_ref _ _ _ _ _ _ _ _ j n).trans (congrArg (fun a : Args => a.dx n j) ha)
    · have hn : n = 0 := Subsingleton.elim _ _
      subst hn
      exact (show _ = (rArgs m' c).dg j from dg_ref _ _ _ _ _ _ _ _ j).trans (congrArg (fun a : Args => a.dg j) ha)
    · exact (show _ = (rArgs m' c).ds q j from ds_ref _ _ _ _ _ _ _ _ q j).trans (congrArg (fun a : Args => a.ds q j) ha)
    · exact (show _ = (rArgs m' c).dh q j from dh_ref _ _ _ _ _ _ _ _ q j).trans (congrArg (fun a : Args => a.dh q j) ha)
    · exact (show _ = (rArgs m' c).dy n j from dy_ref _ _ _ _ _ _ _ _ j n).trans (congrArg (fun a : Args => a.dy n j) ha)
    · exact (show _ = (rArgs m' c).db q j from db_ref _ _ _ _ _ _ _ _ q j).trans (congrArg (fun a : Args => a.db q j) ha)

end Cert.NormBwd
-- ==== Proof.InNormGrad.lean ====
/- The gradient through the first normalization and the gates' product: the kernel and the reference end with equal results. -/
module

public import proofs.«01_k».proof.Defs
public import proofs.«01_k».proof.Proof.InNormKernel
public import proofs.«01_k».proof.Proof.InNormRef
public import proofs.«01_k».proof.Proof.NormGrad
public import Idealize.ShloMosaic.Adequacy

@[expose] public section

set_option maxRecDepth 16384

noncomputable section

namespace Cert.InNorm

open Idealize.ShloMosaic Idealize.ShloMosaic.TcCoe Idealize.SL.Sem
open Cert.NormBwd (ext2 ext3)

section reference

open Cert.Reference27Ideal Cert.Reference27Ideal.Gen

variable (m : (ℓ : Loc nD τ sig) → Buf (Elt Ideal) ℓ)

/-- The reference's arguments, in a memory. -/
def rArgs (c : Dev nD) : Args :=
  refArgs (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg7))

end reference

/-- The value claim: from equal arguments the two programs end with equal results. -/
theorem value : Cert.algebraic_Kernel27Ideal_Reference27Ideal (hKernel27Ideal := Cert.Kernel27Ideal.Gen.facts) (hReference27Ideal := Cert.Reference27Ideal.Gen.facts) := by
  intro m g m' g' _ hag
  refine ⟨kDx m, kDg m, kDs m, kDh m, ?_, ?_⟩
  · exact (θ_run Cert.Kernel27Ideal.defs _ _).mono (fun r h c => ⟨(h c).1.trans (final_dx m c), (h c).2.1.trans (final_dg m c), (h c).2.2.1.trans (final_ds m c),
      (h c).2.2.2.1.trans (final_dh m c), (h c).2.2.2.2⟩) (Cert.Kernel27Ideal.Value.run_blocks m g)
  · refine (θ_run Cert.Reference27Ideal.defs _ _).mono (fun r h c => ?_) (Cert.Reference27Ideal.Value.run m' g')
    have ha : rArgs m' c = args m c := by
      obtain ⟨e0, e1, e2, e3, e4, e5, e6, e7⟩ := hag c
      unfold rArgs
      rw [e0, e1, e2, e3, e4, e5, e7]
      rfl
    refine ⟨((h c).1.trans (Cert.Reference27Ideal.Read.val_main_v61_eq _ _)).trans (ext2 fun n j => ?_),
      ((h c).2.1.trans (Cert.Reference27Ideal.Read.val_main_v60_eq _ _ _ _ _)).trans (ext2 fun n j => ?_),
      ((h c).2.2.1.trans (Cert.Reference27Ideal.Read.val_main_v36_eq _ _ _ _ _)).trans (ext3 fun q j => ?_),
      ((h c).2.2.2.1.trans (Cert.Reference27Ideal.Read.val_main_v33_eq _ _ _)).trans (ext3 fun q j => ?_), (h c).2.2.2.2⟩
    · exact (show _ = (rArgs m' c).dx n j from dx_ref _ _ _ _ _ _ _ j n).trans (congrArg (fun a : Args => a.dx n j) ha)
    · have hn : n = 0 := Subsingleton.elim _ _
      subst hn
      exact (show _ = (rArgs m' c).dg j from dg_ref _ _ _ _ _ _ _ j).trans (congrArg (fun a : Args => a.dg j) ha)
    · exact (show _ = (rArgs m' c).ds q j from ds_ref _ _ _ _ _ _ _ q j).trans (congrArg (fun a : Args => a.ds q j) ha)
    · exact (show _ = (rArgs m' c).dh q j from dh_ref _ _ _ _ _ _ _ q j).trans (congrArg (fun a : Args => a.dh q j) ha)

end Cert.InNorm
-- ==== Proof.AdamSmall2.lean ====
/- The optimiser's step on the gates' bias, the convolution's bias and the gain of the queries: the kernel and the reference end with equal results. -/
module

public import proofs.«01_k».proof.Defs
public import proofs.«01_k».proof.Proof.Gen.Kernel28Ideal.Value
public import proofs.«01_k».proof.Proof.Gen.Reference28Ideal.Run
public import proofs.«01_k».proof.Proof.Adam
public import Idealize.ShloMosaic.Adequacy

@[expose] public section

set_option maxRecDepth 16384

noncomputable section

namespace Cert.AdamSmall2

open Idealize.ShloMosaic Idealize.ShloMosaic.TcCoe Idealize.SL.Sem

open Cert.Kernel28Ideal Cert.Kernel28Ideal.Gen in
/-- The last weight's second moment, which the kernel reads whole arrays for. -/
theorem last_seconds {a0 a3 a6 a9 : Vec Ideal S2x8 .f32} {a1 a4 a7 a10 : Vec Ideal S1x1024 .f32} {a2 a5 a8 a11 : Vec Ideal S1x128 .f32} :
    k0_pay14 a0 a1 a2 a3 a4 a5 a6 a7 a8 a9 a10 a11 = Adam.seconds a5 a11 := by
  unfold k0_pay14
  rw [View.ld_unit_zero (S := S1x128) Value.hz5 _ a5, View.ld_unit_zero (S := S1x128) Value.hz5 _ a11]
  rfl

open Cert.Kernel28Ideal Cert.Kernel28Ideal.Gen in
/-- The last weight's change. -/
theorem last_deltas {a0 a3 a6 a9 : Vec Ideal S2x8 .f32} {a1 a4 a7 a10 : Vec Ideal S1x1024 .f32} {a2 a5 a8 a11 : Vec Ideal S1x128 .f32} :
    k0_pay1 a2 (k0_pay14 a0 a1 a2 a3 a4 a5 a6 a7 a8 a9 a10 a11) (k0_pay13 a5 a8) = Adam.deltas a2 a5 a8 a11 := by
  rw [last_seconds]
  rfl

open Cert.Kernel28Ideal in
/-- The value claim: from equal arguments the two programs end with equal results, three to a weight, each elementwise in the weight's own arrays. -/
theorem value : Cert.algebraic_Kernel28Ideal_Reference28Ideal (hKernel28Ideal := Cert.Kernel28Ideal.Gen.facts) (hReference28Ideal := Cert.Reference28Ideal.Gen.facts) := by
  intro m g m' g' _ hag
  refine ⟨fun c => Adam.deltas (m ((c : Thread nD τ).loc main_arg0)) (m ((c : Thread nD τ).loc main_arg3)) (m ((c : Thread nD τ).loc main_arg6)) (m ((c : Thread nD τ).loc main_arg9)),
    fun c => Adam.firsts (m ((c : Thread nD τ).loc main_arg3)) (m ((c : Thread nD τ).loc main_arg6)),
    fun c => Adam.seconds (m ((c : Thread nD τ).loc main_arg3)) (m ((c : Thread nD τ).loc main_arg9)),
    fun c => Adam.deltas (m ((c : Thread nD τ).loc main_arg1)) (m ((c : Thread nD τ).loc main_arg4)) (m ((c : Thread nD τ).loc main_arg7)) (m ((c : Thread nD τ).loc main_arg10)),
    fun c => Adam.firsts (m ((c : Thread nD τ).loc main_arg4)) (m ((c : Thread nD τ).loc main_arg7)),
    fun c => Adam.seconds (m ((c : Thread nD τ).loc main_arg4)) (m ((c : Thread nD τ).loc main_arg10)),
    fun c => Adam.deltas (m ((c : Thread nD τ).loc main_arg2)) (m ((c : Thread nD τ).loc main_arg5)) (m ((c : Thread nD τ).loc main_arg8)) (m ((c : Thread nD τ).loc main_arg11)),
    fun c => Adam.firsts (m ((c : Thread nD τ).loc main_arg5)) (m ((c : Thread nD τ).loc main_arg8)),
    fun c => Adam.seconds (m ((c : Thread nD τ).loc main_arg5)) (m ((c : Thread nD τ).loc main_arg11)), ?_, ?_⟩
  · refine (θ_run Cert.Kernel28Ideal.defs _ _).mono (fun r h c => ?_) (Cert.Kernel28Ideal.Value.run m g)
    obtain ⟨h0, h1, h2, h3, h4, h5, h6, h7, h8, kept⟩ := h c
    exact ⟨h0, h1, h2, h3, h4, h5, h6.trans last_deltas, h7, h8.trans last_seconds, kept⟩
  · refine (θ_run Cert.Reference28Ideal.defs _ _).mono (fun r h c => ?_) (Cert.Reference28Ideal.Value.run m' g')
    obtain ⟨e0, e1, e2, e3, e4, e5, e6, e7, e8, e9, e10, e11⟩ := hag c
    obtain ⟨h0, h1, h2, h3, h4, h5, h6, h7, h8, kept⟩ := h c
    exact ⟨Adam.deltas_eq h0 e0 e3 e6 e9, Adam.firsts_eq h1 e3 e6, Adam.seconds_eq h2 e3 e9,
    Adam.deltas_eq h3 e1 e4 e7 e10, Adam.firsts_eq h4 e4 e7, Adam.seconds_eq h5 e4 e10,
    Adam.deltas_eq h6 e2 e5 e8 e11, Adam.firsts_eq h7 e5 e8, Adam.seconds_eq h8 e5 e11, kept⟩

end Cert.AdamSmall2
-- ==== Proof.AdamSmall3.lean ====
/- The optimiser's step on the gain of the keys, the relative bias and the gain of the recurrence's heads: the kernel and the reference end with equal results. -/
module

public import proofs.«01_k».proof.Defs
public import proofs.«01_k».proof.Proof.Gen.Kernel29Ideal.Value
public import proofs.«01_k».proof.Proof.Gen.Reference29Ideal.Run
public import proofs.«01_k».proof.Proof.Adam
public import Idealize.ShloMosaic.Adequacy

@[expose] public section

set_option maxRecDepth 16384

noncomputable section

namespace Cert.AdamSmall3

open Idealize.ShloMosaic Idealize.ShloMosaic.TcCoe Idealize.SL.Sem

open Cert.Kernel29Ideal Cert.Kernel29Ideal.Gen in
/-- The last weight's second moment, which the kernel reads whole arrays for. -/
theorem last_seconds {a0 a3 a6 a9 : Vec Ideal S1x128 .f32} {a1 a4 a7 a10 : Vec Ideal S32x12 .f32} {a2 a5 a8 a11 : Vec Ideal S1x1024 .f32} :
    k0_pay14 a0 a1 a2 a3 a4 a5 a6 a7 a8 a9 a10 a11 = Adam.seconds a5 a11 := by
  unfold k0_pay14
  rw [View.ld_unit_zero (S := S1x1024) Value.hz5 _ a5, View.ld_unit_zero (S := S1x1024) Value.hz5 _ a11]
  rfl

open Cert.Kernel29Ideal Cert.Kernel29Ideal.Gen in
/-- The last weight's change. -/
theorem last_deltas {a0 a3 a6 a9 : Vec Ideal S1x128 .f32} {a1 a4 a7 a10 : Vec Ideal S32x12 .f32} {a2 a5 a8 a11 : Vec Ideal S1x1024 .f32} :
    k0_pay1 a2 (k0_pay14 a0 a1 a2 a3 a4 a5 a6 a7 a8 a9 a10 a11) (k0_pay13 a5 a8) = Adam.deltas a2 a5 a8 a11 := by
  rw [last_seconds]
  rfl

open Cert.Kernel29Ideal in
/-- The value claim: from equal arguments the two programs end with equal results, three to a weight, each elementwise in the weight's own arrays. -/
theorem value : Cert.algebraic_Kernel29Ideal_Reference29Ideal (hKernel29Ideal := Cert.Kernel29Ideal.Gen.facts) (hReference29Ideal := Cert.Reference29Ideal.Gen.facts) := by
  intro m g m' g' _ hag
  refine ⟨fun c => Adam.deltas (m ((c : Thread nD τ).loc main_arg0)) (m ((c : Thread nD τ).loc main_arg3)) (m ((c : Thread nD τ).loc main_arg6)) (m ((c : Thread nD τ).loc main_arg9)),
    fun c => Adam.firsts (m ((c : Thread nD τ).loc main_arg3)) (m ((c : Thread nD τ).loc main_arg6)),
    fun c => Adam.seconds (m ((c : Thread nD τ).loc main_arg3)) (m ((c : Thread nD τ).loc main_arg9)),
    fun c => Adam.deltas (m ((c : Thread nD τ).loc main_arg1)) (m ((c : Thread nD τ).loc main_arg4)) (m ((c : Thread nD τ).loc main_arg7)) (m ((c : Thread nD τ).loc main_arg10)),
    fun c => Adam.firsts (m ((c : Thread nD τ).loc main_arg4)) (m ((c : Thread nD τ).loc main_arg7)),
    fun c => Adam.seconds (m ((c : Thread nD τ).loc main_arg4)) (m ((c : Thread nD τ).loc main_arg10)),
    fun c => Adam.deltas (m ((c : Thread nD τ).loc main_arg2)) (m ((c : Thread nD τ).loc main_arg5)) (m ((c : Thread nD τ).loc main_arg8)) (m ((c : Thread nD τ).loc main_arg11)),
    fun c => Adam.firsts (m ((c : Thread nD τ).loc main_arg5)) (m ((c : Thread nD τ).loc main_arg8)),
    fun c => Adam.seconds (m ((c : Thread nD τ).loc main_arg5)) (m ((c : Thread nD τ).loc main_arg11)), ?_, ?_⟩
  · refine (θ_run Cert.Kernel29Ideal.defs _ _).mono (fun r h c => ?_) (Cert.Kernel29Ideal.Value.run m g)
    obtain ⟨h0, h1, h2, h3, h4, h5, h6, h7, h8, kept⟩ := h c
    exact ⟨h0, h1, h2, h3, h4, h5, h6.trans last_deltas, h7, h8.trans last_seconds, kept⟩
  · refine (θ_run Cert.Reference29Ideal.defs _ _).mono (fun r h c => ?_) (Cert.Reference29Ideal.Value.run m' g')
    obtain ⟨e0, e1, e2, e3, e4, e5, e6, e7, e8, e9, e10, e11⟩ := hag c
    obtain ⟨h0, h1, h2, h3, h4, h5, h6, h7, h8, kept⟩ := h c
    exact ⟨Adam.deltas_eq h0 e0 e3 e6 e9, Adam.firsts_eq h1 e3 e6, Adam.seconds_eq h2 e3 e9,
    Adam.deltas_eq h3 e1 e4 e7 e10, Adam.firsts_eq h4 e4 e7, Adam.seconds_eq h5 e4 e10,
    Adam.deltas_eq h6 e2 e5 e8 e11, Adam.firsts_eq h7 e5 e8, Adam.seconds_eq h8 e5 e11, kept⟩

end Cert.AdamSmall3
-- ==== Proof.Spec.lean ====
/- One residue class of one head, on its own: 128 queries against 128 keys. The forward pass of the attention on it and the
   gradient of every operand, over the extended reals; both programs are read as these functions. -/
module

public import Idealize.ShloMosaic.PureOps.Ideal
public import Idealize.ShloMosaic.Lib.Pointwise

@[expose] public section

noncomputable section

namespace Cert.AttnBwd

open Idealize.ShloMosaic

/-- The number whose f32 bits are `b`. -/
abbrev num (b : BitVec 32) : EReal := Ideal.ofBits FTy.f32 b

/-- The mean of the squares of a row, and 1e-6. -/
def ms (x : Fin 128 → EReal) : EReal := Ideal.div (∑ d, x d * x d) (num 1124073472#32) + num 897988541#32

/-- The factor that normalizes a row. -/
def rs (x : Fin 128 → EReal) : EReal := Ideal.rsqrt (ms x)

/-- A row normalized and scaled by its gains. -/
def nrm (x g : Fin 128 → EReal) (d : Fin 128) : EReal := x d * rs x * g d

/-- The factor of a row in its own gradient through `rs`, for the gradient `t` of the normalized row times its gains. -/
def pull (x t : Fin 128 → EReal) : EReal :=
  Ideal.div ((∑ d, x d * t d) * (num 3204448256#32 * Ideal.div (rs x) (ms x))) (num 1124073472#32)

/-- The gradient of a row through its normalization. -/
def back (x t : Fin 128 → EReal) (d : Fin 128) : EReal := t d * rs x + x d * pull x t + pull x t * x d

/-- One class: queries, keys, values, the gradients of the output and of the log-sum-exp, the masked bias, the gains. -/
structure Cls where
  q : Fin 128 → Fin 128 → EReal
  k : Fin 128 → Fin 128 → EReal
  v : Fin 128 → Fin 128 → EReal
  o : Fin 128 → Fin 128 → EReal
  e : Fin 128 → Fin 128 → EReal
  b : Fin 128 → Fin 128 → EReal
  g : Fin 128 → EReal
  h : Fin 128 → EReal

namespace Cls

variable (c : Cls)

def qn (i d : Fin 128) : EReal := nrm (c.q i) c.g d
def kn (i d : Fin 128) : EReal := nrm (c.k i) c.h d

/-- The score of query `i` on key `j`. -/
def s (i j : Fin 128) : EReal := (∑ d, c.qn i d * c.kn j d) * num 1035273459#32 + c.b i j

/-- The weight of key `j` for query `i`, before the division by the sum. -/
def p (i j : Fin 128) : EReal := Ideal.exp (c.s i j - Finset.fold max (num 4286578688#32) (fun x => c.s i x) Finset.univ)

def l (i : Fin 128) : EReal := ∑ j, c.p i j
def pv (i d : Fin 128) : EReal := ∑ j, c.p i j * c.v j d

/-- The gradient of the output over the sum of the weights. -/
def ol (i d : Fin 128) : EReal := Ideal.div (c.o i d) (c.l i)

/-- The gradient of the sum of the weights. -/
def dl (i : Fin 128) : EReal :=
  Ideal.div (∑ d, c.e i d) (c.l i) + (0 - ∑ d, c.o i d * Ideal.div 1 (c.l i * c.l i) * c.pv i d)

/-- The gradient of the scores. -/
def ds (i j : Fin 128) : EReal := (∑ d, c.ol i d * c.v j d + c.dl i) * c.p i j

/-- The gradients of the normalized queries and keys, of the values, and the terms of the gains' gradients. -/
def dqn (i d : Fin 128) : EReal := ∑ j, c.ds i j * num 1035273459#32 * c.kn j d
def dkn (j d : Fin 128) : EReal := ∑ i, c.ds i j * num 1035273459#32 * c.qn i d
def dv (j d : Fin 128) : EReal := ∑ i, c.p i j * c.ol i d
def dq (i d : Fin 128) : EReal := back (c.q i) (fun d => c.dqn i d * c.g d) d
def dk (i d : Fin 128) : EReal := back (c.k i) (fun d => c.dkn i d * c.h d) d
def dg (i d : Fin 128) : EReal := c.q i d * rs (c.q i) * c.dqn i d
def dh (i d : Fin 128) : EReal := c.k i d * rs (c.k i) * c.dkn i d

end Cls

/-- Row `i * 16 + r` of the sequence: row `i` of residue class `r`. -/
def rowOf (r : Fin 16) (i : Fin 128) : Fin 2048 := ⟨i.val * 16 + r.val, by omega⟩

/-- The bias of the current block's keys, −∞ on the keys after the query. -/
def masked (b : Fin 128 → Fin 256 → EReal) (i j : Fin 128) : EReal := if j ≤ i then b i ⟨128 + j.val, by omega⟩ else num 4286578688#32

/-- Column `l` of a head's gradient: queries, keys, values side by side. -/
def lanes (C : Cls) (i : Fin 128) (l : Fin 384) : EReal :=
  if h : l.val < 128 then C.dq i ⟨l.val, h⟩ else if h' : l.val < 256 then C.dk i ⟨l.val - 128, by omega⟩ else C.dv i ⟨l.val - 256, by omega⟩

/-! ## The whole call -/

/-- The arguments: the projected columns, the bias tables, the gains, the gradients of the attention's two results, and the
    array whose last columns receive the gradient. -/
structure Args where
  pa : Fin 4 → Fin 2048 → Fin 4608 → EReal
  bias : Fin 16 → Fin 128 → Fin 256 → EReal
  qg : Fin 128 → EReal
  kg : Fin 128 → EReal
  go : Fin 4 → Fin 2048 → Fin 512 → EReal
  ge : Fin 4 → Fin 2048 → Fin 512 → EReal
  dpa : Fin 4 → Fin 2048 → Fin 4608 → EReal

namespace Args

variable (A : Args)

/-- Residue class `r` of head `h` in batch entry `b`. -/
def cls (b h : Fin 4) (r : Fin 16) : Cls where
  q i d := A.pa b (rowOf r i) ⟨(8 + h.val) * 384 + d.val, by omega⟩
  k i d := A.pa b (rowOf r i) ⟨(8 + h.val) * 384 + 128 + d.val, by omega⟩
  v i d := A.pa b (rowOf r i) ⟨(8 + h.val) * 384 + 256 + d.val, by omega⟩
  o i d := A.go b (rowOf r i) ⟨h.val * 128 + d.val, by omega⟩
  e i d := A.ge b (rowOf r i) ⟨h.val * 128 + d.val, by omega⟩
  b := masked (A.bias ⟨8 + h.val, by omega⟩)
  g := A.qg
  h := A.kg

/-- The four results. -/
def dp (b : Fin 4) (n : Fin 2048) (l : Fin 4608) : EReal :=
  if 3072 ≤ l.val then lanes (A.cls b ⟨(l.val - 3072) / 384, by omega⟩ ⟨n.val % 16, by omega⟩) ⟨n.val / 16, by omega⟩ ⟨(l.val - 3072) % 384, by omega⟩
  else A.dpa b n l
def db (h : Fin 4) (i : Fin 128) (l : Fin 256) : EReal :=
  if 128 ≤ l.val then ∑ b, ∑ r, (A.cls b h r).ds i ⟨l.val - 128, by omega⟩ else 0
def dg (d : Fin 128) : EReal := ∑ b, ∑ h, ∑ r, ∑ i, (A.cls b h r).dg i d
def dh (d : Fin 128) : EReal := ∑ b, ∑ h, ∑ r, ∑ i, (A.cls b h r).dh i d

end Args

end Cert.AttnBwd
-- ==== Proof.Gather.lean ====
/- The kernel's rearrangement of a sequence by the residue of its row index: sixteen strided loads fill the sixteen
   slabs of a scratch, and sixteen strided stores put the slabs of a scratch back in the sequence's order. Both are read
   here at an index. -/
module

public import proofs.«01_k».proof.Proof.Gen.KernelIdeal.Value
public import proofs.«01_k».proof.Proof.Spec
public import Idealize.ShloMosaic.Lib.Pipeline.ValueKit
public import Idealize.ShloMosaic.Lib.Pointwise

@[expose] public section

set_option maxRecDepth 16384

noncomputable section

namespace Cert.AttnBwd

open Cert.KernelIdeal Cert.KernelIdeal.Gen Idealize.ShloMosaic Idealize.ShloMosaic.TcCoe Idealize.SL.Sem

/-- A sequence of 2048 rows sorted by residue class. -/
def classes (x : Vec Ideal S1x2048x128 .f32) : Vec Ideal S16x128x128 .f32 := fun j => x (ix3 0 (rowOf (j 0) (j 1)) (j 2))

/-! ## Sixteen slabs -/

/-- Slab `k` of the sixteen, as a rectangle. -/
def slabRect (k : ℕ) (h : k < 16) : Rect S16x128x128 := Rect.unit (s := S16x128x128) ![k, 0, 0] S1x128x128.size (by
  intro a; fin_cases a
  · show k + 1 ≤ 16; omega
  · show 0 + 128 ≤ 128; omega
  · show 0 + 128 ≤ 128; omega)

theorem slabRect_idx (k : ℕ) (h : k < 16) (i d : Fin 128) : (slabRect k h).idx (ix3 0 i d) = ix3 ⟨k, h⟩ i d := by
  funext a; apply Fin.ext
  fin_cases a
  · show k + 1 * 0 = k; omega
  · show 0 + 1 * i.val = i.val; omega
  · show 0 + 1 * d.val = d.val; omega

theorem not_mem_slabRect (k : ℕ) (h : k < 16) (r : Fin 16) (i d : Fin 128) (hne : r.val ≠ k) : (ix3 r i d : S16x128x128.Idx) ∉ (slabRect k h).set := by
  intro hm
  obtain ⟨x, hx⟩ := (slabRect k h).exists_idx_of_mem hm
  apply hne
  have h0 : ((slabRect k h).idx x 0).val = r.val := congrArg Fin.val (congrFun hx 0)
  have h1 : ((slabRect k h).idx x 0).val = k + 1 * (x 0).val := rfl
  have h2 : (x 0).val < 1 := (x 0).isLt
  omega

/-- The first `k` slabs stored one after the other, the last first. -/
def slabs (z : Fin 16 → Vec Ideal S1x128x128 .f32) : (k : ℕ) → k ≤ 16 → List (View.Piece (Elt Ideal) S16x128x128 .f32)
  | 0, _ => []
  | k + 1, h => ⟨slabRect k h, z ⟨k, h⟩⟩ :: slabs z k (by omega)

theorem canon_slabs (z : Fin 16 → Vec Ideal S1x128x128 .f32) (r : Fin 16) (i d : Fin 128) : ∀ (k : ℕ) (h : k ≤ 16), r.val < k →
    View.canon (Val := Elt Ideal) (slabs z k h) (ix3 r i d) = z r (ix3 0 i d)
  | 0, _, hr => by omega
  | k + 1, h, hr => by
    by_cases e : r.val = k
    · subst e
      have := slabRect_idx r.val h i d
      exact (congrArg (View.canon (Val := Elt Ideal) (slabs z (r.val + 1) h)) this.symm).trans (View.canon_cons_emb _ _ _ _)
    · have hm := View.canon_cons_of_not_mem (Val := Elt Ideal) (⟨slabRect k h, z ⟨k, h⟩⟩ : View.Piece (Elt Ideal) S16x128x128 .f32) (slabs z k (by omega))
        (not_mem_slabRect k h r i d e)
      rw [slabs, hm]
      exact canon_slabs z r i d k _ (by omega)

/-- The rows of class `r`, as a strided rectangle of the sequence. -/
def slabLoad (r : Fin 16) : LoadRect S1x2048x128 := ⟨![0, r.val, 0], S1x128x128.size, ![1, 16, 1], by
  intro a
  right
  have h := r.isLt
  have e1 : (![0, r.val, 0] : Fin 3 → ℕ) 1 = r.val := rfl
  fin_cases a
  · exact (by decide : 0 + 1 * (1 - 1) < 1)
  · show (![0, r.val, 0] : Fin 3 → ℕ) 1 + 16 * (128 - 1) < 2048
    rw [e1]; omega
  · exact (by decide : 0 + 1 * (128 - 1) < 128)⟩

theorem slabLoad_idx (r : Fin 16) (i d : Fin 128) : (slabLoad r).idx (ix3 0 i d) = ix3 0 (rowOf r i) d := by
  funext a; apply Fin.ext
  fin_cases a
  · show 0 + 1 * 0 = 0; omega
  · show r.val + 16 * i.val = i.val * 16 + r.val; omega
  · show 0 + 1 * d.val = d.val; omega

/-- The strided load of the rows of class `r`, in the shape the kernel stores it. -/
def slab (m : Memref sig .tc .vmem S1x2048x128 .f32) (hm : m.IsWhole) (x : Vec Ideal S1x2048x128 .f32) (r : Fin 16) : Vec Ideal S1x128x128 .f32 :=
  shapeCast S1x128x128 (shapeCast S128x128 (s := S1x128x128) (View.readAt (Elt Ideal) m.view (slabLoad r) (hm.unread x)) shapeCasts_S1x128x128_S128x128) shapeCasts_S128x128_S1x128x128

theorem slab_apply (m : Memref sig .tc .vmem S1x2048x128 .f32) (hm : m.IsWhole) (x : Vec Ideal S1x2048x128 .f32) (r : Fin 16) (i d : Fin 128) :
    slab m hm x r (ix3 0 i d) = x (ix3 0 (rowOf r i) d) := by
  unfold slab
  pointwise
  show m.view.read (Elt Ideal) (hm.unread x) ((slabLoad r).idx (ix3 0 i d)) = _
  rw [hm.read_unread]
  exact congrArg x (slabLoad_idx r i d)

theorem gather (v : View sig .tc .vmem S16x128x128 .f32) (m : Memref sig .tc .vmem S1x2048x128 .f32) (hm : m.IsWhole) (x : Vec Ideal S1x2048x128 .f32) :
    v.readCov (Val := Elt Ideal) (slabs (slab m hm x) 16 le_rfl) (Rect.unit (s := S16x128x128) ![0, 0, 0] S16x128x128.size inb_S16x128x128_S16x128x128_0_0_0).toLoadRect = classes x := by
  rw [View.readCov_eq_canon']
  funext j
  obtain ⟨r, i, d, rfl⟩ : ∃ r : Fin 16, ∃ i d : Fin 128, j = ix3 r i d := ⟨j 0, j 1, j 2, by funext a; fin_cases a <;> rfl⟩
  refine Eq.trans ?_ (slab_apply m hm x r i d)
  rw [← canon_slabs (slab m hm x) r i d 16 le_rfl r.isLt]
  congr 1
  funext a; apply Fin.ext
  fin_cases a
  · show 0 + 1 * r.val = r.val; omega
  · show 0 + 1 * i.val = i.val; omega
  · show 0 + 1 * d.val = d.val; omega

/-- Slab `r` of a scratch whose last store covered it whole. -/
theorem slab_of_whole (v : View sig .tc .vmem S16x128x128 .f32) (w : Vec Ideal S16x128x128 .f32) (L : List (View.Piece (Elt Ideal) S16x128x128 .f32))
    (k : ℕ) (hk : k < 16) (i d : Fin 128) :
    v.readCov (Val := Elt Ideal) (⟨Rect.unit (s := S16x128x128) ![0, 0, 0] S16x128x128.size inb_S16x128x128_S16x128x128_0_0_0, w⟩ :: L)
      (slabRect k hk).toLoadRect (ix3 0 i d) = w (ix3 ⟨k, hk⟩ i d) := by
  rw [View.readCov_eq_canon']
  show View.canon (Val := Elt Ideal) _ ((slabRect k hk).idx (ix3 0 i d)) = _
  rw [slabRect_idx]
  refine Eq.trans ?_ (View.canon_cons_emb (Val := Elt Ideal) (Rect.unit (s := S16x128x128) ![0, 0, 0] S16x128x128.size inb_S16x128x128_S16x128x128_0_0_0) w L (ix3 ⟨k, hk⟩ i d))
  congr 1
  funext a; apply Fin.ext
  fin_cases a
  · show k = 0 + 1 * k; omega
  · show i.val = 0 + 1 * i.val; omega
  · show d.val = 0 + 1 * d.val; omega

/-! ## Sixteen strided stores of rows -/

/-- The rows of class `k`, as a rectangle of the sequence. -/
def rowsRect (k : ℕ) (h : k < 16) : Rect S2048x128 := ⟨⟨![k, 0], S128x128.size, ![16, 1], by
  intro a
  right
  have e1 : (![k, 0] : Fin 2 → ℕ) 0 = k := rfl
  fin_cases a
  · show (![k, 0] : Fin 2 → ℕ) 0 + 16 * (128 - 1) < 2048
    rw [e1]; omega
  · exact (by decide : 0 + 1 * (128 - 1) < 128)⟩, (by decide : ∀ a, 0 < (![16, 1] : Fin 2 → ℕ) a)⟩

theorem rowsRect_idx (k : ℕ) (h : k < 16) (i d : Fin 128) : (rowsRect k h).idx (ix2 i d) = ix2 (rowOf ⟨k, h⟩ i) d := by
  funext a; apply Fin.ext
  fin_cases a
  · show k + 16 * i.val = i.val * 16 + k; omega
  · show 0 + 1 * d.val = d.val; omega

theorem not_mem_rowsRect (k : ℕ) (h : k < 16) (r : Fin 16) (i d : Fin 128) (hne : r.val ≠ k) : (ix2 (rowOf r i) d : S2048x128.Idx) ∉ (rowsRect k h).set := by
  intro hm
  obtain ⟨x, hx⟩ := (rowsRect k h).exists_idx_of_mem hm
  apply hne
  have h0 : ((rowsRect k h).idx x 0).val = i.val * 16 + r.val := congrArg Fin.val (congrFun hx 0)
  have h1 : ((rowsRect k h).idx x 0).val = k + 16 * (x 0).val := rfl
  have h2 := r.isLt
  omega

/-- The rows of the first `k` classes stored one after the other, over the stores `L`. -/
def rows (z : Fin 16 → Vec Ideal S128x128 .f32) (L : List (View.Piece (Elt Ideal) S2048x128 .f32)) :
    (k : ℕ) → k ≤ 16 → List (View.Piece (Elt Ideal) S2048x128 .f32)
  | 0, _ => L
  | k + 1, h => ⟨rowsRect k h, z ⟨k, h⟩⟩ :: rows z L k (by omega)

theorem canon_scatter (z : Fin 16 → Vec Ideal S128x128 .f32) (L : List (View.Piece (Elt Ideal) S2048x128 .f32)) (r : Fin 16) (i d : Fin 128) :
    ∀ (k : ℕ) (h : k ≤ 16), r.val < k → View.canon (Val := Elt Ideal) (rows z L k h) (ix2 (rowOf r i) d) = z r (ix2 i d)
  | 0, _, hr => by omega
  | k + 1, h, hr => by
    by_cases e : r.val = k
    · subst e
      have := rowsRect_idx r.val h i d
      exact (congrArg (View.canon (Val := Elt Ideal) (rows z L (r.val + 1) h)) this.symm).trans (View.canon_cons_emb _ _ _ _)
    · have hm := View.canon_cons_of_not_mem (Val := Elt Ideal) (⟨rowsRect k h, z ⟨k, h⟩⟩ : View.Piece (Elt Ideal) S2048x128 .f32) (rows z L k (by omega))
        (not_mem_rowsRect k h r i d e)
      rw [rows, hm]
      exact canon_scatter z L r i d k _ (by omega)

/-- Slab `r` of a scratch just stored whole, in the shape the kernel stores it among the rows. -/
def rowsOf (v : View sig .tc .vmem S16x128x128 .f32) (w : Vec Ideal S16x128x128 .f32) (L : List (View.Piece (Elt Ideal) S16x128x128 .f32)) (r : Fin 16) :
    Vec Ideal S128x128 .f32 :=
  shapeCast S128x128 (shapeCast S128x128 (s := S1x128x128)
    (v.readCov (Val := Elt Ideal) (⟨Rect.unit (s := S16x128x128) ![0, 0, 0] S16x128x128.size inb_S16x128x128_S16x128x128_0_0_0, w⟩ :: L)
      (slabRect r.val r.isLt).toLoadRect) shapeCasts_S1x128x128_S128x128) shapeCasts_S128x128_S128x128

theorem rowsOf_apply (v : View sig .tc .vmem S16x128x128 .f32) (w : Vec Ideal S16x128x128 .f32) (L : List (View.Piece (Elt Ideal) S16x128x128 .f32))
    (r : Fin 16) (i d : Fin 128) : rowsOf v w L r (ix2 i d) = w (ix3 r i d) := by
  unfold rowsOf
  pointwise
  exact slab_of_whole v w L r.val r.isLt i d

/-- The sixteen classes of an array put back in the order of the sequence, and read there. -/
theorem scatter (u : View sig .tc .vmem S2048x128 .f32) (v : View sig .tc .vmem S16x128x128 .f32) (w : Vec Ideal S16x128x128 .f32)
    (L : List (View.Piece (Elt Ideal) S16x128x128 .f32)) (M : List (View.Piece (Elt Ideal) S2048x128 .f32)) (r : Fin 16) (i d : Fin 128) :
    u.readCov (Val := Elt Ideal) (rows (rowsOf v w L) M 16 le_rfl) (Rect.unit (s := S2048x128) ![0, 0] S2048x128.size inb_S2048x128_S2048x128_0_0).toLoadRect
      (ix2 (rowOf r i) d) = w (ix3 r i d) := by
  rw [View.readCov_eq_canon']
  refine Eq.trans ?_ (rowsOf_apply v w L r i d)
  rw [← canon_scatter (rowsOf v w L) M r i d 16 le_rfl r.isLt]
  show View.canon (Val := Elt Ideal) _ ((Rect.unit (s := S2048x128) ![0, 0] S2048x128.size inb_S2048x128_S2048x128_0_0).idx (ix2 (rowOf r i) d)) = _
  congr 1
  funext a; apply Fin.ext
  fin_cases a
  · show 0 + 1 * (rowOf r i).val = (rowOf r i).val; omega
  · show 0 + 1 * d.val = d.val; omega

end Cert.AttnBwd
-- ==== Proof.Point.lean ====
/- What the kernel's body computes at one grid point, from the sorted blocks of its arguments: read at an index, each value
   is the function of one residue class that Spec.lean names. -/
module

public import proofs.«01_k».proof.Proof.Gather
public import proofs.«01_k».proof.Proof.Spec

@[expose] public section

set_option maxRecDepth 16384

noncomputable section

namespace Cert.AttnBwd

open Cert.KernelIdeal Cert.KernelIdeal.Gen Idealize.ShloMosaic Idealize.ShloMosaic.TcCoe Idealize.SL.Sem

variable (Q K V O E : Vec Ideal S16x128x128 .f32) (B : Vec Ideal S1x128x256 .f32) (G H : Vec Ideal S1x128 .f32)

/-- Class `r` of the grid point whose sorted blocks these are. -/
def cls (r : Fin 16) : Cls where
  q i d := Q (ix3 r i d)
  k i d := K (ix3 r i d)
  v i d := V (ix3 r i d)
  o i d := O (ix3 r i d)
  e i d := E (ix3 r i d)
  b := masked fun i j => B (ix3 0 i j)
  g d := G (ix2 0 d)
  h d := H (ix2 0 d)

/-- A sum over the first two of three axes. -/
theorem sum_two (n0 n1 : ℕ) (h : (⟨3, ![n0, n1, 128]⟩ : Shape).Reduces [0, 1] S128) (f : (⟨3, ![n0, n1, 128]⟩ : Shape).Idx → EReal) (d : Fin 128) :
    Ideal.reduceAdd h f (ix1 d) = ∑ r : Fin n0, ∑ i : Fin n1, f (ix3 r i d) := by
  refine (Finset.sum_filter_eq_sum_of_fiber _ (fun k : Fin n0 × Fin n1 => ix3 k.1 k.2 d)
    (fun _ _ e => Prod.ext (congrFun e 0) (congrFun e 1)) (fun i => ?_) f).trans ?_
  · constructor
    · intro e
      refine ⟨(i 0, i 1), ?_⟩
      have := congrFun e 0
      funext a; apply Fin.ext
      match a with
      | ⟨0, _⟩ => rfl
      | ⟨1, _⟩ => rfl
      | ⟨2, _⟩ => exact (congrArg Fin.val this).symm
    · rintro ⟨k, rfl⟩
      funext b; apply Fin.ext
      match b with
      | ⟨0, _⟩ => rfl
  · simp only [Fintype.sum_prod_type]

/-- The mask's bit, at query `i` and key `128 + j` of the two blocks. -/
theorem mask_bit : ∀ i j : Fin 128, IntOp.andi (IntOp.cmpi CmpIPredicate.sge (BitVec.ofNat 32 (128 + j.val)) (BitVec.ofNat 32 i.val))
    (IntOp.cmpi CmpIPredicate.sle (BitVec.ofNat 32 (128 + j.val)) (IntOp.addi (BitVec.ofNat 32 i.val) 128#32)) = if j ≤ i then 1#1 else 0#1 := by
  decide +kernel

theorem pay86_apply (i j : Fin 128) : k0_pay86 B (ix2 i j) = masked (fun i j => B (ix3 0 i j)) i j := by
  pointwise [k0_pay86]
  rw [mask_bit, masked]
  split <;> rfl

/-- The weights, their sums and the products with the values, as the body names them. -/
def wS := k0_pay86 B
def wP := k0_pay101 Q K (k0_pay86 B) G H (k0_pay88 Q)
def wL := k0_pay102 Q K (k0_pay86 B) G H (k0_pay88 Q)
def wPV := k0_pay103 Q K V (k0_pay86 B) G H (k0_pay88 Q)
def wR := k0_pay104 Q K (k0_pay86 B) G H (k0_pay88 Q)
def wQn := k0_pay94 Q G (k0_pay88 Q)
def wDqn := k0_pay110 V (k0_pay100 K H) (wP Q K B G H) (wL Q K B G H) (wPV Q K V B G H) (wR Q K B G H) O E
def wDkn := k0_pay111 V (wQn Q G) (wP Q K B G H) (wL Q K B G H) (wPV Q K V B G H) (wR Q K B G H) O E
def wDq := k0_pay116 Q (k0_pay88 Q) (k0_pay91 (k0_pay89 Q) k0_pay90) (k0_pay93 G) (wDqn Q K V O E B G H)
def wDk := k0_pay115 K (k0_pay96 K) (k0_pay97 K) (k0_pay112 V (wQn Q G) (k0_pay99 H) (wP Q K B G H) (wL Q K B G H) (wPV Q K V B G H) (wR Q K B G H) O E)
  (k0_pay114 K V (wQn Q G) (k0_pay99 H) (wP Q K B G H) (wL Q K B G H) (wPV Q K V B G H) (wR Q K B G H) O E)
def wDv := k0_pay106 (wP Q K B G H) (wL Q K B G H) O
def wDs := k0_pay107 V (wP Q K B G H) (wL Q K B G H) (wPV Q K V B G H) (wR Q K B G H) O E
def wDb := k0_pay108 V (wP Q K B G H) (wL Q K B G H) (wPV Q K V B G H) (wR Q K B G H) O E
def wDh := k0_pay113 V (wQn Q G) (k0_pay98 K) (wP Q K B G H) (wL Q K B G H) (wPV Q K V B G H) (wR Q K B G H) O E

theorem rs_apply (r : Fin 16) (i : Fin 128) : k0_pay88 Q (ix3 r i 0) = rs fun d => Q (ix3 r i d) := by
  pointwise [k0_pay88, k0_pay87]; rfl

theorem rsk_apply (r : Fin 16) (i : Fin 128) : k0_pay96 K (ix3 r i 0) = rs fun d => K (ix3 r i d) := by
  pointwise [k0_pay96, k0_pay95]; rfl

theorem wQn_apply (r : Fin 16) (i d : Fin 128) : wQn Q G (ix3 r i d) = (cls Q K V O E B G H r).qn i d := by
  pointwise [wQn, k0_pay94, k0_pay93, k0_pay92, rs_apply]; rfl

theorem wKn_apply (r : Fin 16) (i d : Fin 128) : k0_pay100 K H (ix3 r i d) = (cls Q K V O E B G H r).kn i d := by
  pointwise [k0_pay100, k0_pay99, k0_pay98, rsk_apply]; rfl

theorem wP_apply (r : Fin 16) (i j : Fin 128) : wP Q K B G H (ix3 r i j) = (cls Q K V O E B G H r).p i j := by
  have hq : ∀ i d, k0_pay94 Q G (k0_pay88 Q) (ix3 r i d) = (cls Q K V O E B G H r).qn i d := fun i d => wQn_apply Q K V O E B G H r i d
  have hk := wKn_apply Q K V O E B G H r
  pointwise [wP, k0_pay101, hq, hk, pay86_apply]
  rfl

theorem wL_apply (r : Fin 16) (i : Fin 128) : wL Q K B G H (ix3 r i 0) = (cls Q K V O E B G H r).l i := by
  have h : ∀ j, k0_pay101 Q K (k0_pay86 B) G H (k0_pay88 Q) (ix3 r i j) = (cls Q K V O E B G H r).p i j := fun j => wP_apply Q K V O E B G H r i j
  pointwise [wL, k0_pay102, h]
  rfl

theorem wPV_apply (r : Fin 16) (i d : Fin 128) : wPV Q K V B G H (ix3 r i d) = (cls Q K V O E B G H r).pv i d := by
  have h : ∀ j, k0_pay101 Q K (k0_pay86 B) G H (k0_pay88 Q) (ix3 r i j) = (cls Q K V O E B G H r).p i j := fun j => wP_apply Q K V O E B G H r i j
  pointwise [wPV, k0_pay103, h]
  rfl

theorem wR_apply (r : Fin 16) (i : Fin 128) : wR Q K B G H (ix3 r i 0) = Ideal.div 1 ((cls Q K V O E B G H r).l i * (cls Q K V O E B G H r).l i) := by
  have h : k0_pay102 Q K (k0_pay86 B) G H (k0_pay88 Q) (ix3 r i 0) = (cls Q K V O E B G H r).l i := wL_apply Q K V O E B G H r i
  pointwise [wR, k0_pay104, h]

theorem wDv_apply (r : Fin 16) (i d : Fin 128) : wDv Q K O B G H (ix3 r i d) = (cls Q K V O E B G H r).dv i d := by
  pointwise [wDv, k0_pay106, k0_pay105, wP_apply Q K V O E B G H, wL_apply Q K V O E B G H]
  rfl

theorem wDs_apply (r : Fin 16) (i j : Fin 128) : wDs Q K V O E B G H (ix3 r i j) = (cls Q K V O E B G H r).ds i j := by
  pointwise [wDs, k0_pay107, k0_pay105, wP_apply Q K V O E B G H, wL_apply Q K V O E B G H, wPV_apply Q K V O E B G H, wR_apply Q K V O E B G H,
    Fin.sum_univ_one, Fin.isValue]
  rfl

theorem wDqn_apply (r : Fin 16) (i d : Fin 128) : wDqn Q K V O E B G H (ix3 r i d) = (cls Q K V O E B G H r).dqn i d := by
  have h : ∀ i j, k0_pay107 V (wP Q K B G H) (wL Q K B G H) (wPV Q K V B G H) (wR Q K B G H) O E (ix3 r i j) = (cls Q K V O E B G H r).ds i j :=
    fun i j => wDs_apply Q K V O E B G H r i j
  pointwise [wDqn, k0_pay110, k0_pay109, h, wKn_apply Q K V O E B G H]
  rfl

theorem wDkn_apply (r : Fin 16) (i d : Fin 128) : wDkn Q K V O E B G H (ix3 r i d) = (cls Q K V O E B G H r).dkn i d := by
  have h : ∀ i j, k0_pay107 V (wP Q K B G H) (wL Q K B G H) (wPV Q K V B G H) (wR Q K B G H) O E (ix3 r i j) = (cls Q K V O E B G H r).ds i j :=
    fun i j => wDs_apply Q K V O E B G H r i j
  pointwise [wDkn, k0_pay111, k0_pay109, h, wQn_apply Q K V O E B G H]
  rfl

theorem wDq_apply (r : Fin 16) (i d : Fin 128) : wDq Q K V O E B G H (ix3 r i d) = (cls Q K V O E B G H r).dq i d := by
  pointwise [wDq, k0_pay116, k0_pay93, k0_pay91, k0_pay90, k0_pay89, wDqn_apply, rs_apply, k0_pay87, Fin.sum_univ_one]
  rfl

theorem wDk_apply (r : Fin 16) (i d : Fin 128) : wDk Q K V O E B G H (ix3 r i d) = (cls Q K V O E B G H r).dk i d := by
  have h : ∀ i d, k0_pay111 V (wQn Q G) (wP Q K B G H) (wL Q K B G H) (wPV Q K V B G H) (wR Q K B G H) O E (ix3 r i d) = (cls Q K V O E B G H r).dkn i d :=
    fun i d => wDkn_apply Q K V O E B G H r i d
  pointwise [wDk, k0_pay115, k0_pay114, k0_pay112, k0_pay99, k0_pay97, h, rsk_apply, k0_pay95, Fin.sum_univ_one]
  rfl

theorem wDb_apply (i j : Fin 128) : wDb Q K V O E B G H (ix2 i j) = ∑ r, (cls Q K V O E B G H r).ds i j := by
  have h : ∀ r, k0_pay107 V (wP Q K B G H) (wL Q K B G H) (wPV Q K V B G H) (wR Q K B G H) O E (ix3 r i j) = (cls Q K V O E B G H r).ds i j :=
    fun r => wDs_apply Q K V O E B G H r i j
  pointwise [wDb, k0_pay108, h, Fin.sum_univ_one]

theorem wDh_apply (d : Fin 128) : wDh Q K V O E B G H (ix2 0 d) = ∑ r, ∑ i, (cls Q K V O E B G H r).dh i d := by
  have h : ∀ r i d, k0_pay111 V (wQn Q G) (wP Q K B G H) (wL Q K B G H) (wPV Q K V B G H) (wR Q K B G H) O E (ix3 r i d) = (cls Q K V O E B G H r).dkn i d :=
    fun r i d => wDkn_apply Q K V O E B G H r i d
  pointwise [wDh, k0_pay113]
  rw [sum_two 1 1 reduces_S1x1x128_S128]
  pointwise [Fin.sum_univ_one]
  rw [sum_two 16 128 reduces_S16x128x128_S128]
  pointwise [h, k0_pay98, rsk_apply]
  rfl

/-- The gradient of the query gains, added to what was there. -/
theorem wDg_apply (a : Vec Ideal S1x128 .f32) (d : Fin 128) :
    k0_pay118 (k0_pay92 Q (k0_pay88 Q)) (wDqn Q K V O E B G H) a (ix2 0 d) = a (ix2 0 d) + ∑ r, ∑ i, (cls Q K V O E B G H r).dg i d := by
  pointwise [k0_pay118]
  rw [sum_two 1 1 reduces_S1x1x128_S128]
  pointwise [Fin.sum_univ_one]
  rw [sum_two 16 128 reduces_S16x128x128_S128]
  pointwise [wDqn_apply, k0_pay92, rs_apply]
  rfl

end Cert.AttnBwd
-- ==== Proof.Words.lean ====
/- The values the kernel's body names at a grid point, in either of its two cases, are the functions of Point.lean at the
   sorted blocks of the point's arguments. -/
module

public import proofs.«01_k».proof.Proof.Point

@[expose] public section

set_option maxRecDepth 16384

noncomputable section

namespace Cert.AttnBwd

open Cert.KernelIdeal Cert.KernelIdeal.Gen Idealize.ShloMosaic Idealize.ShloMosaic.TcCoe Idealize.SL.Sem

/-- A load of a whole buffer reads its contents. -/
theorem load_whole {S : Shape} (m : Memref sig .tc .vmem S .f32) (hm : m.IsWhole) (x : Vec Ideal S .f32) (off : Fin S.rank → ℕ) (h0 : ∀ a, off a = 0)
    (inb : ∀ a, off a + S.size a ≤ S.size a) :
    View.readAt (Elt Ideal) m.view (Rect.unit (s := S) off S.size inb).toLoadRect (hm.unread x) = x := by
  funext j
  show m.view.read (Elt Ideal) (hm.unread x) ((Rect.unit (s := S) off S.size inb).idx j) = _
  rw [hm.read_unread]
  congr 1
  funext a; apply Fin.ext
  rw [Rect.idx_unit_val, h0]
  exact Nat.zero_add _

section B
variable (c : Dev nD) (a2 : Memref sig .tc .vmem S1x2048x128 .f32) (h2 : a2.IsWhole) (a3 : Memref sig .tc .vmem S1x2048x128 .f32) (h3 : a3.IsWhole)
  (a4 : Memref sig .tc .vmem S1x2048x128 .f32) (h4 : a4.IsWhole) (a5 : Memref sig .tc .vmem S1x128x256 .f32) (h5 : a5.IsWhole)
  (a6 : Memref sig .tc .vmem S1x128 .f32) (h6 : a6.IsWhole) (a7 : Memref sig .tc .vmem S1x128 .f32) (h7 : a7.IsWhole)
  (a8 : Memref sig .tc .vmem S1x2048x128 .f32) (h8 : a8.IsWhole) (a9 : Memref sig .tc .vmem S1x2048x128 .f32) (h9 : a9.IsWhole)
  (a15 a16 a17 a18 a19 : Memref sig .tc .vmem S16x128x128 .f32) (a20 : Memref sig .tc .vmem S2048x128 .f32)
  (x0 x1 x2 : Vec Ideal S1x2048x128 .f32) (x3 : Vec Ideal S1x128x256 .f32) (x4 x5 : Vec Ideal S1x128 .f32) (x6 x7 : Vec Ideal S1x2048x128 .f32)

theorem b405 : kernelRun0_B.sl.v405 c a2 h2 a15 x0 = classes x0 := gather _ _ _ _
theorem b406 : kernelRun0_B.sl.v406 c a3 h3 a16 x1 = classes x1 := gather _ _ _ _
theorem b407 : kernelRun0_B.sl.v407 c a4 h4 a17 x2 = classes x2 := gather _ _ _ _
theorem b475 : kernelRun0_B.sl.v475 c a8 h8 a18 x6 = classes x6 := gather _ _ _ _
theorem b476 : kernelRun0_B.sl.v476 c a9 h9 a19 x7 = classes x7 := gather _ _ _ _
theorem bBias : kernelRun0_B.sl.r c a5 h5 x3 = k0_pay86 x3 :=
  congrArg k0_pay86 (load_whole a5 h5 x3 _ (by decide) inb_S1x128x256_S1x128x256_0_0_0)
theorem bGain : kernelRun0_B.sl.r_1 c a6 h6 x4 = x4 := load_whole a6 h6 x4 _ (by decide) inb_S1x128_S1x128_0_0
theorem bGainK : kernelRun0_B.sl.r_2 c a7 h7 x5 = x5 := load_whole a7 h7 x5 _ (by decide) inb_S1x128_S1x128_0_0

/-- The gradient of the normalized queries. -/
theorem bDqn : kernelRun0_B.sl.r_20 c a2 h2 a3 h3 a4 h4 a5 h5 a6 h6 a7 h7 a8 h8 a9 h9 a15 a16 a17 a18 a19 x0 x1 x2 x3 x4 x5 x6 x7
    = wDqn (classes x0) (classes x1) (classes x2) (classes x6) (classes x7) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The normalized queries before their gains. -/
theorem bRaw : kernelRun0_B.sl.r_6 c a2 h2 a15 x0
    = k0_pay92 (classes x0) (k0_pay88 (classes x0)) := by
  simp only [kernelRun0_B.sl.r_6, kernelRun0_B.sl.r_3, b405]

/-- The gradient of the queries. -/
theorem bDq : kernelRun0_B.sl.r_25 c a2 h2 a3 h3 a4 h4 a5 h5 a6 h6 a7 h7 a8 h8 a9 h9 a15 a16 a17 a18 a19 x0 x1 x2 x3 x4 x5 x6 x7
    = wDq (classes x0) (classes x1) (classes x2) (classes x6) (classes x7) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The gradient of the keys. -/
theorem bDk : kernelRun0_B.sl.r_24 c a2 h2 a3 h3 a4 h4 a5 h5 a6 h6 a7 h7 a8 h8 a9 h9 a15 a16 a17 a18 a19 x0 x1 x2 x3 x4 x5 x6 x7
    = wDk (classes x0) (classes x1) (classes x2) (classes x6) (classes x7) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The gradient of the values. -/
theorem bDv : kernelRun0_B.sl.r_18 c a2 h2 a3 h3 a5 h5 a6 h6 a7 h7 a8 h8 a15 a16 a18 x0 x1 x3 x4 x5 x6
    = wDv (classes x0) (classes x1) (classes x6) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The gradient of the bias. -/
theorem bDb : kernelRun0_B.sl.r_19 c a2 h2 a3 h3 a4 h4 a5 h5 a6 h6 a7 h7 a8 h8 a9 h9 a15 a16 a17 a18 a19 x0 x1 x2 x3 x4 x5 x6 x7
    = wDb (classes x0) (classes x1) (classes x2) (classes x6) (classes x7) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The gradient of the key gains. -/
theorem bDh : kernelRun0_B.sl.r_22 c a2 h2 a3 h3 a4 h4 a5 h5 a6 h6 a7 h7 a8 h8 a9 h9 a15 a16 a17 a18 a19 x0 x1 x2 x3 x4 x5 x6 x7
    = wDh (classes x0) (classes x1) (classes x2) (classes x6) (classes x7) x3 x4 x5 := by
  simp only [kernelRun0_B.sl.r_25, kernelRun0_B.sl.r_24, kernelRun0_B.sl.r_23, kernelRun0_B.sl.r_22, kernelRun0_B.sl.r_21, kernelRun0_B.sl.r_20, kernelRun0_B.sl.r_19,
    kernelRun0_B.sl.r_18, kernelRun0_B.sl.r_17, kernelRun0_B.sl.r_16, kernelRun0_B.sl.r_15, kernelRun0_B.sl.r_14, kernelRun0_B.sl.r_13, kernelRun0_B.sl.r_12,
    kernelRun0_B.sl.r_11, kernelRun0_B.sl.r_10, kernelRun0_B.sl.r_9, kernelRun0_B.sl.r_8, kernelRun0_B.sl.r_7, kernelRun0_B.sl.r_6, kernelRun0_B.sl.r_5,
    kernelRun0_B.sl.r_4, kernelRun0_B.sl.r_3, b405, b406, b407, b475, b476, bBias, bGain, bGainK]
  rfl

/-- The gradient of the queries, put back in the order of the sequence. -/
theorem bRowsQ (r : Fin 16) (i d : Fin 128) : kernelRun0_B.sl.v655 c a2 h2 a3 h3 a4 h4 a5 h5 a6 h6 a7 h7 a8 h8 a9 h9 a15 a16 a17 a18 a19 a20 x0 x1 x2 x3 x4 x5 x6 x7 (ix2 (rowOf r i) d)
    = wDq (classes x0) (classes x1) (classes x2) (classes x6) (classes x7) x3 x4 x5 (ix3 r i d) := by
  refine (scatter a20.view a15.view _ _ _ r i d).trans ?_
  rw [k0_pay120, shapeCast_id]
  exact congrFun (bDq ..) _

/-- The gradient of the keys, put back in the order of the sequence. -/
theorem bRowsK (r : Fin 16) (i d : Fin 128) : kernelRun0_B.sl.v743 c a2 h2 a3 h3 a4 h4 a5 h5 a6 h6 a7 h7 a8 h8 a9 h9 a15 a16 a17 a18 a19 a20 x0 x1 x2 x3 x4 x5 x6 x7 (ix2 (rowOf r i) d)
    = wDk (classes x0) (classes x1) (classes x2) (classes x6) (classes x7) x3 x4 x5 (ix3 r i d) := by
  refine (scatter a20.view a15.view _ _ _ r i d).trans ?_
  rw [k0_pay140, shapeCast_id]
  exact congrFun (bDk ..) _

/-- The gradient of the values, put back in the order of the sequence. -/
theorem bRowsV (r : Fin 16) (i d : Fin 128) : kernelRun0_B.sl.v831 c a2 h2 a3 h3 a4 h4 a5 h5 a6 h6 a7 h7 a8 h8 a9 h9 a15 a16 a17 a18 a19 a20 x0 x1 x2 x3 x4 x5 x6 x7 (ix2 (rowOf r i) d)
    = wDv (classes x0) (classes x1) (classes x6) x3 x4 x5 (ix3 r i d) := by
  refine (scatter a20.view a15.view _ _ _ r i d).trans ?_
  rw [k0_pay159, shapeCast_id]
  exact congrFun (bDv ..) _

end B

/-! In the first grid point's case the body is the same but for what it accumulates onto. -/

section A
variable (c : Dev nD) (a2 : Memref sig .tc .vmem S1x2048x128 .f32) (h2 : a2.IsWhole) (a3 : Memref sig .tc .vmem S1x2048x128 .f32) (h3 : a3.IsWhole)
  (a4 : Memref sig .tc .vmem S1x2048x128 .f32) (h4 : a4.IsWhole) (a5 : Memref sig .tc .vmem S1x128x256 .f32) (h5 : a5.IsWhole)
  (a6 : Memref sig .tc .vmem S1x128 .f32) (h6 : a6.IsWhole) (a7 : Memref sig .tc .vmem S1x128 .f32) (h7 : a7.IsWhole)
  (a8 : Memref sig .tc .vmem S1x2048x128 .f32) (h8 : a8.IsWhole) (a9 : Memref sig .tc .vmem S1x2048x128 .f32) (h9 : a9.IsWhole)
  (a15 a16 a17 a18 a19 : Memref sig .tc .vmem S16x128x128 .f32) (a20 : Memref sig .tc .vmem S2048x128 .f32)
  (x0 x1 x2 : Vec Ideal S1x2048x128 .f32) (x3 : Vec Ideal S1x128x256 .f32) (x4 x5 : Vec Ideal S1x128 .f32) (x6 x7 : Vec Ideal S1x2048x128 .f32)

/-- The gradient of the normalized queries. -/
theorem aDqn : kernelRun0_A.sl.r_20 c a2 h2 a3 h3 a4 h4 a5 h5 a6 h6 a7 h7 a8 h8 a9 h9 a15 a16 a17 a18 a19 x0 x1 x2 x3 x4 x5 x6 x7
    = wDqn (classes x0) (classes x1) (classes x2) (classes x6) (classes x7) x3 x4 x5 :=
  (rfl : _ = kernelRun0_B.sl.r_20 c a2 h2 a3 h3 a4 h4 a5 h5 a6 h6 a7 h7 a8 h8 a9 h9 a15 a16 a17 a18 a19 x0 x1 x2 x3 x4 x5 x6 x7).trans (bDqn ..)

/-- The normalized queries before their gains. -/
theorem aRaw : kernelRun0_A.sl.r_6 c a2 h2 a15 x0
    = k0_pay92 (classes x0) (k0_pay88 (classes x0)) :=
  (rfl : _ = kernelRun0_B.sl.r_6 c a2 h2 a15 x0).trans (bRaw ..)

/-- The gradient of the queries. -/
theorem aDq : kernelRun0_A.sl.r_25 c a2 h2 a3 h3 a4 h4 a5 h5 a6 h6 a7 h7 a8 h8 a9 h9 a15 a16 a17 a18 a19 x0 x1 x2 x3 x4 x5 x6 x7
    = wDq (classes x0) (classes x1) (classes x2) (classes x6) (classes x7) x3 x4 x5 :=
  (rfl : _ = kernelRun0_B.sl.r_25 c a2 h2 a3 h3 a4 h4 a5 h5 a6 h6 a7 h7 a8 h8 a9 h9 a15 a16 a17 a18 a19 x0 x1 x2 x3 x4 x5 x6 x7).trans (bDq ..)

/-- The gradient of the keys. -/
theorem aDk : kernelRun0_A.sl.r_24 c a2 h2 a3 h3 a4 h4 a5 h5 a6 h6 a7 h7 a8 h8 a9 h9 a15 a16 a17 a18 a19 x0 x1 x2 x3 x4 x5 x6 x7
    = wDk (classes x0) (classes x1) (classes x2) (classes x6) (classes x7) x3 x4 x5 :=
  (rfl : _ = kernelRun0_B.sl.r_24 c a2 h2 a3 h3 a4 h4 a5 h5 a6 h6 a7 h7 a8 h8 a9 h9 a15 a16 a17 a18 a19 x0 x1 x2 x3 x4 x5 x6 x7).trans (bDk ..)

/-- The gradient of the values. -/
theorem aDv : kernelRun0_A.sl.r_18 c a2 h2 a3 h3 a5 h5 a6 h6 a7 h7 a8 h8 a15 a16 a18 x0 x1 x3 x4 x5 x6
    = wDv (classes x0) (classes x1) (classes x6) x3 x4 x5 :=
  (rfl : _ = kernelRun0_B.sl.r_18 c a2 h2 a3 h3 a5 h5 a6 h6 a7 h7 a8 h8 a15 a16 a18 x0 x1 x3 x4 x5 x6).trans (bDv ..)

/-- The gradient of the bias. -/
theorem aDb : kernelRun0_A.sl.r_19 c a2 h2 a3 h3 a4 h4 a5 h5 a6 h6 a7 h7 a8 h8 a9 h9 a15 a16 a17 a18 a19 x0 x1 x2 x3 x4 x5 x6 x7
    = wDb (classes x0) (classes x1) (classes x2) (classes x6) (classes x7) x3 x4 x5 :=
  (rfl : _ = kernelRun0_B.sl.r_19 c a2 h2 a3 h3 a4 h4 a5 h5 a6 h6 a7 h7 a8 h8 a9 h9 a15 a16 a17 a18 a19 x0 x1 x2 x3 x4 x5 x6 x7).trans (bDb ..)

/-- The gradient of the key gains. -/
theorem aDh : kernelRun0_A.sl.r_22 c a2 h2 a3 h3 a4 h4 a5 h5 a6 h6 a7 h7 a8 h8 a9 h9 a15 a16 a17 a18 a19 x0 x1 x2 x3 x4 x5 x6 x7
    = wDh (classes x0) (classes x1) (classes x2) (classes x6) (classes x7) x3 x4 x5 :=
  (rfl : _ = kernelRun0_B.sl.r_22 c a2 h2 a3 h3 a4 h4 a5 h5 a6 h6 a7 h7 a8 h8 a9 h9 a15 a16 a17 a18 a19 x0 x1 x2 x3 x4 x5 x6 x7).trans (bDh ..)

/-- The gradient of the queries, put back in the order of the sequence. -/
theorem aRowsQ (r : Fin 16) (i d : Fin 128) : kernelRun0_A.sl.v655 c a2 h2 a3 h3 a4 h4 a5 h5 a6 h6 a7 h7 a8 h8 a9 h9 a15 a16 a17 a18 a19 a20 x0 x1 x2 x3 x4 x5 x6 x7 (ix2 (rowOf r i) d)
    = wDq (classes x0) (classes x1) (classes x2) (classes x6) (classes x7) x3 x4 x5 (ix3 r i d) :=
  (rfl : _ = kernelRun0_B.sl.v655 c a2 h2 a3 h3 a4 h4 a5 h5 a6 h6 a7 h7 a8 h8 a9 h9 a15 a16 a17 a18 a19 a20 x0 x1 x2 x3 x4 x5 x6 x7 (ix2 (rowOf r i) d)).trans (bRowsQ ..)

/-- The gradient of the keys, put back in the order of the sequence. -/
theorem aRowsK (r : Fin 16) (i d : Fin 128) : kernelRun0_A.sl.v743 c a2 h2 a3 h3 a4 h4 a5 h5 a6 h6 a7 h7 a8 h8 a9 h9 a15 a16 a17 a18 a19 a20 x0 x1 x2 x3 x4 x5 x6 x7 (ix2 (rowOf r i) d)
    = wDk (classes x0) (classes x1) (classes x2) (classes x6) (classes x7) x3 x4 x5 (ix3 r i d) :=
  (rfl : _ = kernelRun0_B.sl.v743 c a2 h2 a3 h3 a4 h4 a5 h5 a6 h6 a7 h7 a8 h8 a9 h9 a15 a16 a17 a18 a19 a20 x0 x1 x2 x3 x4 x5 x6 x7 (ix2 (rowOf r i) d)).trans (bRowsK ..)

/-- The gradient of the values, put back in the order of the sequence. -/
theorem aRowsV (r : Fin 16) (i d : Fin 128) : kernelRun0_A.sl.v831 c a2 h2 a3 h3 a4 h4 a5 h5 a6 h6 a7 h7 a8 h8 a9 h9 a15 a16 a17 a18 a19 a20 x0 x1 x2 x3 x4 x5 x6 x7 (ix2 (rowOf r i) d)
    = wDv (classes x0) (classes x1) (classes x6) x3 x4 x5 (ix3 r i d) :=
  (rfl : _ = kernelRun0_B.sl.v831 c a2 h2 a3 h3 a4 h4 a5 h5 a6 h6 a7 h7 a8 h8 a9 h9 a15 a16 a17 a18 a19 a20 x0 x1 x2 x3 x4 x5 x6 x7 (ix2 (rowOf r i) d)).trans (bRowsV ..)

end A

end Cert.AttnBwd
-- ==== Proof.Out.lean ====
/- What a grid point of the kernel leaves in its four outputs. -/
module

public import proofs.«01_k».proof.Proof.Words
public import Idealize.ShloMosaic.Lib.WritesUnit

@[expose] public section

set_option maxRecDepth 16384

noncomputable section

namespace Cert.AttnBwd

open Cert.KernelIdeal Cert.KernelIdeal.Gen Idealize.ShloMosaic Idealize.ShloMosaic.TcCoe Idealize.SL.Sem

/-- The lanes from `k` on of a head's gradient, as a rectangle. -/
def laneRect (k : ℕ) (h : k + 128 ≤ 384) : Rect S1x2048x384 := Rect.unit (s := S1x2048x384) ![0, 0, k] S1x2048x128.size (by
  intro a; fin_cases a
  · show 0 + 1 ≤ 1; omega
  · show 0 + 2048 ≤ 2048; omega
  · show k + 128 ≤ 384; exact h)

theorem laneRect_idx (k : ℕ) (h : k + 128 ≤ 384) (n : Fin 2048) (d : Fin 128) :
    (laneRect k h).idx (ix3 0 n d) = ix3 0 n (⟨k + d.val, by omega⟩ : Fin 384) := by
  funext a; apply Fin.ext
  fin_cases a
  · show 0 + 1 * 0 = 0; omega
  · show 0 + 1 * n.val = n.val; omega
  · show k + 1 * d.val = k + d.val; omega

theorem not_mem_laneRect (k : ℕ) (h : k + 128 ≤ 384) (n : Fin 2048) (l : Fin 384) (hne : l.val < k ∨ k + 128 ≤ l.val) :
    (ix3 0 n l : S1x2048x384.Idx) ∉ (laneRect k h).set := by
  intro hm
  obtain ⟨x, hx⟩ := (laneRect k h).exists_idx_of_mem hm
  have h0 : ((laneRect k h).idx x 2).val = l.val := congrArg Fin.val (congrFun hx 2)
  have h1 : ((laneRect k h).idx x 2).val = k + 1 * (x 2).val := rfl
  have h2 : (x 2).val < 128 := (x 2).isLt
  omega

/-- The store of the lanes from `k` on decides the lanes it covers … -/
theorem canon_lane (k : ℕ) (h : k + 128 ≤ 384) (w : Vec Ideal S1x2048x128 .bf16) (L : List (View.Piece (Elt Ideal) S1x2048x384 .bf16)) (n : Fin 2048) (l : Fin 384)
    (d : Fin 128) (hd : l.val = k + d.val) :
    View.canon (Val := Elt Ideal) (s := S1x2048x384) (e := .bf16) (⟨laneRect k h, w⟩ :: L) (ix3 0 n l) = w (ix3 0 n d) := by
  have e : (ix3 0 n l : S1x2048x384.Idx) = ix3 0 n (⟨k + d.val, by omega⟩ : Fin 384) := congrArg (ix3 0 n) (Fin.ext hd)
  rw [e]
  exact (congrArg (View.canon (Val := Elt Ideal) (⟨laneRect k h, w⟩ :: L)) (laneRect_idx k h n d).symm).trans (View.canon_cons_emb _ _ _ _)

/-- … and leaves the others. -/
theorem canon_lane_ne (k : ℕ) (h : k + 128 ≤ 384) (w : Vec Ideal S1x2048x128 .bf16) (L : List (View.Piece (Elt Ideal) S1x2048x384 .bf16)) (n : Fin 2048) (l : Fin 384)
    (hne : l.val < k ∨ k + 128 ≤ l.val) :
    View.canon (Val := Elt Ideal) (s := S1x2048x384) (e := .bf16) (⟨laneRect k h, w⟩ :: L) (ix3 0 n l) = View.canon (Val := Elt Ideal) L (ix3 0 n l) :=
  View.canon_cons_of_not_mem (Val := Elt Ideal) (⟨laneRect k h, w⟩ : View.Piece (Elt Ideal) S1x2048x384 .bf16) L (not_mem_laneRect k h n l hne)

/-- Three stores side by side along the lanes, whose rows are the gradients of class `C`. -/
theorem canon_lanes (w0 w1 w2 : Vec Ideal S1x2048x128 .bf16) (C : Cls) (n : Fin 2048) (i : Fin 128) (l : Fin 384)
    (e0 : ∀ d, w0 (ix3 0 n d) = C.dq i d) (e1 : ∀ d, w1 (ix3 0 n d) = C.dk i d) (e2 : ∀ d, w2 (ix3 0 n d) = C.dv i d) :
    View.canon (Val := Elt Ideal) (s := S1x2048x384) (e := .bf16)
      [⟨laneRect 256 (by omega), w2⟩, ⟨laneRect 128 (by omega), w1⟩, ⟨laneRect 0 (by omega), w0⟩] (ix3 0 n l) = lanes C i l := by
  unfold lanes
  by_cases h : l.val < 128
  · rw [dif_pos h, canon_lane_ne _ _ _ _ _ _ (by omega), canon_lane_ne _ _ _ _ _ _ (by omega), canon_lane _ _ _ _ _ _ ⟨l.val, h⟩ (by simp), e0]
  · rw [dif_neg h]
    by_cases h' : l.val < 256
    · rw [dif_pos h', canon_lane_ne _ _ _ _ _ _ (by omega), canon_lane _ _ _ _ _ _ ⟨l.val - 128, by omega⟩ (by simp only []; omega), e1]
    · rw [dif_neg h', canon_lane _ _ _ _ _ _ ⟨l.val - 256, by omega⟩ (by simp only []; omega), e2]

/-- What a point stores of its rows, in the output's shape and element type. -/
theorem pay139_apply (w : Vec Ideal S2048x128 .f32) (n : Fin 2048) (d : Fin 128) : k0_pay139 w (ix3 0 n d) = w (ix2 n d) := by pointwise [k0_pay139]
theorem pay158_apply (w : Vec Ideal S2048x128 .f32) (n : Fin 2048) (d : Fin 128) : k0_pay158 w (ix3 0 n d) = w (ix2 n d) := by pointwise [k0_pay158]
theorem pay2_apply (w : Vec Ideal S2048x128 .f32) (n : Fin 2048) (d : Fin 128) : k0_pay2 w (ix3 0 n d) = w (ix2 n d) := by pointwise [k0_pay2]

variable (m : (ℓ : Loc nD τ sig) → Buf (Elt Ideal) ℓ)

/-- Residue class `r` at grid point `t`. -/
def clsAt (c : Dev nD) (t : Fin cfg0.N) (r : Fin 16) : Cls :=
  cls (classes (iblk m c 0 t)) (classes (iblk m c 1 t)) (classes (iblk m c 2 t)) (classes (iblk m c 6 t)) (classes (iblk m c 7 t)) (iblk m c 3 t) (iblk m c 4 t) (iblk m c 5 t) r

/-- Point `t` leaves the gradient of its head's queries, keys and values. -/
theorem out8 (c : Dev nD) (t : Fin cfg0.N) (r : Fin 16) (i : Fin 128) (l : Fin 384) :
    (outsAt0 m c t.val t.isLt).1 (ix3 0 (rowOf r i) l) = lanes (clsAt m c t r) i l := by
  by_cases h0 : t.val % 16 = 0
  · rw [outsAt0_A m c t h0]
    dsimp only
    unfold out0_A_8
    rw [View.read_writes_junk_eq_canon]
    refine canon_lanes _ _ _ _ _ _ _ (fun d => ?_) (fun d => ?_) (fun d => ?_)
    · exact (pay139_apply _ _ _).trans ((aRowsQ ..).trans (wDq_apply ..))
    · exact (pay158_apply _ _ _).trans ((aRowsK ..).trans (wDk_apply ..))
    · exact (pay2_apply _ _ _).trans ((aRowsV ..).trans (wDv_apply ..))
  · rw [outsAt0_B m c t h0]
    dsimp only
    unfold out0_B_8
    rw [View.read_writes_junk_eq_canon]
    refine canon_lanes _ _ _ _ _ _ _ (fun d => ?_) (fun d => ?_) (fun d => ?_)
    · exact (pay139_apply _ _ _).trans ((bRowsQ ..).trans (wDq_apply ..))
    · exact (pay158_apply _ _ _).trans ((bRowsK ..).trans (wDk_apply ..))
    · exact (pay2_apply _ _ _).trans ((bRowsV ..).trans (wDv_apply ..))

/-! ## The gradients summed over the points -/

/-- The store of a head's slot over other stores: the slot's second half reads the store, the rest what was there. -/
theorem slot_store (v : View sig .tc .vmem S4x128x256 .f32) (f : v.ty.Contents (Elt Ideal)) (k : Fin 4) (off : Fin 3 → ℕ) (heq : off = ![k.val, 0, 128])
    (inb : ∀ a, off a + S1x128x128.size a ≤ S4x128x256.size a) (w : Vec Ideal S1x128x128 .f32) (L : List (View.Piece (Elt Ideal) S4x128x256 .f32))
    (a : Fin 4) (i : Fin 128) (l : Fin 256) :
    v.read (Elt Ideal) (v.writes (Elt Ideal) f ((⟨Rect.unit (s := S4x128x256) off S1x128x128.size inb, w⟩ : View.Piece (Elt Ideal) S4x128x256 .f32) :: L)) (ix3 a i l)
      = if h : a = k ∧ 128 ≤ l.val then w (ix3 0 i ⟨l.val - 128, by omega⟩) else v.read (Elt Ideal) (v.writes (Elt Ideal) f L) (ix3 a i l) := by
  by_cases h : a = k ∧ 128 ≤ l.val
  · rw [dif_pos h]
    obtain ⟨rfl, hl⟩ := h
    refine View.read_writes_cons_unit_of_mem v f inb w L _ (ix3 0 i ⟨l.val - 128, by omega⟩) heq fun x => ?_
    fin_cases x
    · show a.val = a.val + 0; omega
    · show i.val = 0 + i.val; omega
    · show l.val = 128 + (l.val - 128); omega
  · rw [dif_neg h]
    by_cases ha : a = k
    · refine View.read_writes_cons_unit_of_not_mem v f inb w L _ heq 2 (Or.inl ?_)
      show l.val < 128
      have := fun hl => h ⟨ha, hl⟩
      omega
    · refine View.read_writes_cons_unit_of_not_mem v f inb w L _ heq 0 ?_
      show a.val < k.val ∨ k.val + 1 ≤ a.val
      have : a.val ≠ k.val := fun e => ha (Fin.ext e)
      omega

/-- The load of a head's slot. -/
theorem slot_load (v : View sig .tc .vmem S4x128x256 .f32) (f : v.ty.Contents (Elt Ideal)) (k : Fin 4) (off : Fin 3 → ℕ) (heq : off = ![k.val, 0, 128])
    (inb : ∀ a, off a + S1x128x128.size a ≤ S4x128x256.size a) (i j : Fin 128) :
    View.readAt (Elt Ideal) v (Rect.unit (s := S4x128x256) off S1x128x128.size inb).toLoadRect f (ix3 0 i j)
      = v.read (Elt Ideal) f (ix3 k i ⟨128 + j.val, by omega⟩) := by
  subst heq
  show v.read (Elt Ideal) f ((Rect.unit (s := S4x128x256) _ S1x128x128.size inb).idx (ix3 0 i j)) = _
  congr 1
  funext x; apply Fin.ext
  fin_cases x
  · show k.val + 1 * 0 = k.val; omega
  · show 0 + 1 * i.val = i.val; omega
  · show 128 + 1 * j.val = 128 + j.val; omega

theorem pay117_apply (w : Vec Ideal S128x128 .f32) (x : Vec Ideal S1x128x128 .f32) (i j : Fin 128) : k0_pay117 w x (ix3 0 i j) = x (ix3 0 i j) + w (ix2 i j) := by
  pointwise [k0_pay117]

/-- What point `t` adds to entry `(i, l)` of slot `a`: to its own head's second half the gradient of the scores. -/
def addB (c : Dev nD) (t : Fin cfg0.N) (a : Fin 4) (i : Fin 128) (l : Fin 256) : EReal :=
  if a.val = t.val % 4 ∧ 128 ≤ l.val then ∑ r, (clsAt m c t r).ds i ⟨l.val - 128, by omega⟩ else 0

/-- A slot's load `x`, added to and stored back. -/
theorem slot_add (v : View sig .tc .vmem S4x128x256 .f32) (f : v.ty.Contents (Elt Ideal)) (k : Fin 4) (off : Fin 3 → ℕ) (heq : off = ![k.val, 0, 128])
    (inb : ∀ a, off a + S1x128x128.size a ≤ S4x128x256.size a) (w : Vec Ideal S128x128 .f32) (L : List (View.Piece (Elt Ideal) S4x128x256 .f32))
    (y : Vec Ideal S4x128x256 .f32) (hy : v.read (Elt Ideal) (v.writes (Elt Ideal) f L) = y) (x : Vec Ideal S1x128x128 .f32)
    (hx : ∀ i j : Fin 128, x (ix3 0 i j) = y (ix3 k i ⟨128 + j.val, by omega⟩)) (a : Fin 4) (i : Fin 128) (l : Fin 256) :
    v.read (Elt Ideal) (v.writes (Elt Ideal) f ((⟨Rect.unit (s := S4x128x256) off S1x128x128.size inb, k0_pay117 w x⟩
        : View.Piece (Elt Ideal) S4x128x256 .f32) :: L)) (ix3 a i l)
      = y (ix3 a i l) + if a.val = k.val ∧ 128 ≤ l.val then w (ix2 i ⟨l.val - 128, by omega⟩) else 0 := by
  rw [slot_store v f k off heq, hy]
  by_cases h : a = k ∧ 128 ≤ l.val
  · rw [dif_pos h, if_pos ⟨congrArg Fin.val h.1, h.2⟩, pay117_apply, hx]
    have e : (ix3 k i (⟨128 + (l.val - 128), by omega⟩ : Fin 256) : S4x128x256.Idx) = ix3 a i l :=
      congrArg₂ (fun (x : Fin 4) (z : Fin 256) => (ix3 x i z : S4x128x256.Idx)) h.1.symm (Fin.ext (show 128 + (l.val - 128) = l.val by omega))
    exact congrArg (fun z => y z + _) e
  · rw [dif_neg h, if_neg fun h' => h ⟨Fin.ext h'.1, h'.2⟩, add_zero]

theorem coord1 : ∀ t : Fin cfg0.N, ((grid0.coords t) 1).val = t.val % 4 := (by decide +kernel : ∀ t : Fin grid0.N, ((grid0.coords t) 1).val = t.val % 4)

/-- The slots before the first point adds to them. -/
theorem zero9 : View.canon (Val := Elt Ideal) (kernelRun0_A.sl.H9_1 (F := Ideal)) = fun _ => 0 := by
  unfold kernelRun0_A.sl.H9_1
  rw [View.canon_cons_unit_lit]
  · funext j
    pointwise [k0_pay3]
  · decide

/-- The first point leaves its own term in the slots. -/
theorem out9_first (c : Dev nD) (t : Fin cfg0.N) (h0 : t.val % 16 = 0) (a : Fin 4) (i : Fin 128) (l : Fin 256) :
    (outsAt0 m c t.val t.isLt).2.1 (ix3 a i l) = 0 + addB m c t a i l := by
  rw [outsAt0_A m c t h0]
  dsimp only
  unfold out0_A_9
  refine (slot_add _ _ ⟨t.val % 4, by omega⟩ _ (by rw [k0_off1_eq, coord1]) _ _ _ (fun _ => 0) ?_ _ (fun i j => ?_) a i l).trans ?_
  · rw [View.read_writes_junk_eq_canon]
    exact zero9
  · refine (slot_load _ _ ⟨t.val % 4, by omega⟩ _ (by rw [k0_off1_eq, coord1]) _ i j).trans ?_
    rw [View.read_writes_junk_eq_canon]
    exact congrFun zero9 _
  · unfold addB
    simp only [aDb, wDb_apply]
    rfl

/-- A later point adds its term to the slots. -/
theorem out9_next (c : Dev nD) (t : Fin cfg0.N) (h0 : ¬ t.val % 16 = 0) (a : Fin 4) (i : Fin 128) (l : Fin 256) :
    (outsAt0 m c t.val t.isLt).2.1 (ix3 a i l) = (outsAt0 m c (t.val - 1) (Nat.lt_of_le_of_lt (Nat.sub_le _ _) t.isLt)).2.1 (ix3 a i l) + addB m c t a i l := by
  rw [outsAt0_B m c t h0]
  dsimp only
  unfold out0_B_9
  refine (slot_add _ _ ⟨t.val % 4, by omega⟩ _ (by rw [k0_off1_eq, coord1]) _ _ [] _ ((hs0_9 t).read_unread _) _ (fun i j => ?_) a i l).trans ?_
  · refine (slot_load _ _ ⟨t.val % 4, by omega⟩ _ (by rw [k0_off1_eq, coord1]) _ i j).trans ?_
    exact congrFun ((hs0_9 t).read_unread _) _
  · unfold addB
    simp only [bDb, wDb_apply]
    rfl

theorem pay119_apply (w x : Vec Ideal S1x128 .f32) (d : Fin 128) : k0_pay119 w x (ix2 0 d) = x (ix2 0 d) + w (ix2 0 d) := by
  pointwise [k0_pay119]

/-- What point `t` adds to the gains' gradients. -/
def addG (c : Dev nD) (t : Fin cfg0.N) (d : Fin 128) : EReal := ∑ r, ∑ i, (clsAt m c t r).dg i d
def addH (c : Dev nD) (t : Fin cfg0.N) (d : Fin 128) : EReal := ∑ r, ∑ i, (clsAt m c t r).dh i d

theorem zero10 (c : Dev nD) (a : Memref sig .tc .vmem S1x128 .f32) : kernelRun0_A.sl.v564 (F := Ideal) c a = fun _ => 0 := by
  unfold kernelRun0_A.sl.v564 kernelRun0_A.sl.H10_1
  rw [View.readCov_unit_lit]
  · funext j
    pointwise [k0_pay4]
  · decide

theorem zero11 (c : Dev nD) (a : Memref sig .tc .vmem S1x128 .f32) : kernelRun0_A.sl.v568 (F := Ideal) c a = fun _ => 0 := by
  unfold kernelRun0_A.sl.v568 kernelRun0_A.sl.H11_1
  rw [View.readCov_unit_lit]
  · funext j
    pointwise [k0_pay5]
  · decide

theorem out10_first (c : Dev nD) (t : Fin cfg0.N) (h0 : t.val % 16 = 0) (d : Fin 128) :
    (outsAt0 m c t.val t.isLt).2.2.1 (ix2 0 d) = 0 + addG m c t d := by
  rw [outsAt0_A m c t h0]
  dsimp only
  unfold out0_A_10
  rw [View.read_writes_junk_eq_canon]
  refine (congrFun (View.canon_cons_unit_lit _ _ _ (by decide)) _).trans ?_
  unfold kernelRun0_A.sl.r_26
  rw [aRaw, aDqn, zero10]
  exact wDg_apply ..

theorem out10_next (c : Dev nD) (t : Fin cfg0.N) (h0 : ¬ t.val % 16 = 0) (d : Fin 128) :
    (outsAt0 m c t.val t.isLt).2.2.1 (ix2 0 d) = (outsAt0 m c (t.val - 1) (Nat.lt_of_le_of_lt (Nat.sub_le _ _) t.isLt)).2.2.1 (ix2 0 d) + addG m c t d := by
  rw [outsAt0_B m c t h0]
  dsimp only
  unfold out0_B_10
  rw [View.read_writes_junk_eq_canon]
  refine (congrFun (View.canon_cons_unit_lit _ _ _ (by decide)) _).trans ?_
  unfold kernelRun0_B.sl.r_26
  rw [bRaw, bDqn, load_whole _ _ _ _ (by decide)]
  exact wDg_apply ..

theorem out11_first (c : Dev nD) (t : Fin cfg0.N) (h0 : t.val % 16 = 0) (d : Fin 128) :
    (outsAt0 m c t.val t.isLt).2.2.2 (ix2 0 d) = 0 + addH m c t d := by
  rw [outsAt0_A m c t h0]
  dsimp only
  unfold out0_A_11
  rw [View.read_writes_junk_eq_canon]
  refine (congrFun (View.canon_cons_unit_lit _ _ _ (by decide)) _).trans ?_
  rw [zero11]
  exact (pay119_apply _ _ _).trans (congrArg (0 + ·) ((congrFun (aDh ..) _).trans (wDh_apply ..)))

theorem out11_next (c : Dev nD) (t : Fin cfg0.N) (h0 : ¬ t.val % 16 = 0) (d : Fin 128) :
    (outsAt0 m c t.val t.isLt).2.2.2 (ix2 0 d) = (outsAt0 m c (t.val - 1) (Nat.lt_of_le_of_lt (Nat.sub_le _ _) t.isLt)).2.2.2 (ix2 0 d) + addH m c t d := by
  rw [outsAt0_B m c t h0]
  dsimp only
  unfold out0_B_11
  rw [View.read_writes_junk_eq_canon]
  refine (congrFun (View.canon_cons_unit_lit _ _ _ (by decide)) _).trans ?_
  refine (pay119_apply _ _ _).trans ?_
  congr 1
  · exact congrFun (load_whole _ _ _ _ (by decide) _) _
  · exact (congrFun (bDh ..) _).trans (wDh_apply ..)

end Cert.AttnBwd
-- ==== Proof.Layout.lean ====
/- Rows by residue class, and the columns of the projected gradient by head. -/
module

public import proofs.«01_k».proof.Proof.Spec

@[expose] public section

noncomputable section

namespace Cert.AttnBwd

/-- Every row is row `n / 16` of class `n % 16`. -/
theorem row_split (n : Fin 2048) : n = rowOf ⟨n.val % 16, by omega⟩ ⟨n.val / 16, by omega⟩ := Fin.ext (by simp only [rowOf]; omega)

/-- Column `l` of head `h` in the whole array. -/
theorem dp_at (A : Args) (b h : Fin 4) (n : Fin 2048) (l : Fin 384) :
    lanes (A.cls b h ⟨n.val % 16, by omega⟩) ⟨n.val / 16, by omega⟩ l = A.dp b n ⟨(8 + h.val) * 384 + l.val, by omega⟩ := by
  unfold Args.dp
  have e1 : ((8 + h.val) * 384 + l.val - 3072) / 384 = h.val := by omega
  have e2 : ((8 + h.val) * 384 + l.val - 3072) % 384 = l.val := by omega
  simp only [e1, e2]
  rw [if_pos (by omega)]

end Cert.AttnBwd
-- ==== Proof.Final.lean ====
/- The kernel's four result arrays after the run. -/
module

public import proofs.«01_k».proof.Proof.Out
public import proofs.«01_k».proof.Proof.Layout

@[expose] public section

set_option maxRecDepth 16384

noncomputable section

namespace Cert.AttnBwd

open Cert.KernelIdeal Cert.KernelIdeal.Gen Idealize.ShloMosaic Idealize.ShloMosaic.TcCoe Idealize.SL.Sem

variable (m : (ℓ : Loc nD τ sig) → Buf (Elt Ideal) ℓ)

/-- The kernel's arguments on device `c`. -/
def kArgs (c : Dev nD) : Args where
  pa b n l := m ((c : Thread nD τ).loc main_arg0) (ix3 b n l)
  bias h i j := m ((c : Thread nD τ).loc main_arg1) (ix3 h i j)
  qg d := m ((c : Thread nD τ).loc main_arg2) (ix2 0 d)
  kg d := m ((c : Thread nD τ).loc main_arg3) (ix2 0 d)
  go b n l := m ((c : Thread nD τ).loc main_arg4) (ix3 b n l)
  ge b n l := m ((c : Thread nD τ).loc main_arg5) (ix3 b n l)
  dpa b n l := m ((c : Thread nD τ).loc main_arg6) (ix3 b n l)

/-- Where each window is at point `t`: batch entry `t / 4`, head `t % 4`. -/
theorem idx : ∀ t : Fin cfg0.N, win0_0.index t = ![t.val / 4, 0, 3 * (8 + t.val % 4)] ∧ win0_1.index t = ![t.val / 4, 0, 3 * (8 + t.val % 4) + 1]
    ∧ win0_2.index t = ![t.val / 4, 0, 3 * (8 + t.val % 4) + 2] ∧ win0_3.index t = ![8 + t.val % 4, 0, 0] ∧ win0_4.index t = ![0, 0] ∧ win0_5.index t = ![0, 0]
    ∧ win0_6.index t = ![t.val / 4, 0, t.val % 4] ∧ win0_7.index t = ![t.val / 4, 0, t.val % 4] ∧ win0_8.index t = ![t.val / 4, 0, 8 + t.val % 4] :=
  (by decide +kernel : ∀ t : Fin grid0.N, _)

theorem clsAt_eq (c : Dev nD) (t : Fin cfg0.N) (r : Fin 16) (hb : t.val / 4 < 4) :
    clsAt m c t r = (kArgs m c).cls ⟨t.val / 4, hb⟩ ⟨t.val % 4, by omega⟩ r := by
  have hN : t.val < 16 := t.isLt
  unfold clsAt cls Args.cls kArgs
  congr 1
  · funext i d
    show iblk m c 0 t (ix3 0 (rowOf r i) d) = _
    rw [← V_main_arg0 m c]; blk_ext [iblk, idx t]
  · funext i d
    show iblk m c 1 t (ix3 0 (rowOf r i) d) = _
    rw [← V_main_arg0 m c]; blk_ext [iblk, idx t]
  · funext i d
    show iblk m c 2 t (ix3 0 (rowOf r i) d) = _
    rw [← V_main_arg0 m c]; blk_ext [iblk, idx t]
  · funext i d
    show iblk m c 6 t (ix3 0 (rowOf r i) d) = _
    rw [← V_main_arg4 m c]; blk_ext [iblk, idx t]
  · funext i d
    show iblk m c 7 t (ix3 0 (rowOf r i) d) = _
    rw [← V_main_arg5 m c]; blk_ext [iblk, idx t]
  · congr 1
    funext i j
    rw [← V_main_arg1 m c]; blk_ext [iblk, idx t]
  · funext d
    rw [← V_main_arg2 m c]; blk_ext [iblk, idx t]
  · funext d
    rw [← V_main_arg3 m c]; blk_ext [iblk, idx t]

/-- The results as arrays. -/
def kDp (c : Dev nD) : Vec Ideal S4x2048x4608 .bf16 := fun j => (kArgs m c).dp (j 0) (j 1) (j 2)
def kDb (c : Dev nD) : Vec Ideal S4x128x256 .f32 := fun j => (kArgs m c).db (j 0) (j 1) (j 2)
def kDg (c : Dev nD) : Vec Ideal S1x128 .f32 := fun j => (kArgs m c).dg (j 1)
def kDh (c : Dev nD) : Vec Ideal S1x128 .f32 := fun j => (kArgs m c).dh (j 1)

theorem point8 (c : Dev nD) (t : Fin cfg0.N) (n : Fin 2048) (l : Fin 384) (hb : t.val / 4 < 4 := by omega) :
    (outsAt0 m c t.val t.isLt).1 (ix3 0 n l)
      = lanes ((kArgs m c).cls ⟨t.val / 4, hb⟩ ⟨t.val % 4, by omega⟩ ⟨n.val % 16, by omega⟩) ⟨n.val / 16, by omega⟩ l := by
  rw [← clsAt_eq, ← out8, ← row_split]

/-- The gradient of the projected columns. -/
theorem final8 (c : Dev nD) : (dats m 0 c).arrAt 8 cfg0.N = kDp m c := by
  refine (dats m 0 c).arrAt_eq_of_coversWhere_of_agree 8 _ (fun β => 8 ≤ β 2) (by decide +kernel) (fun t hf y => ?_) (fun j hj => ?_)
  · rw [after0_8]
    have hN : t.val < 16 := t.isLt
    obtain ⟨n, l, rfl⟩ : ∃ (n : Fin 2048) (l : Fin 384), y = (ix3 0 n l : S1x2048x384.Idx) := ⟨y 1, y 2, by funext a; fin_cases a; exacts [Subsingleton.elim (α := Fin 1) _ _, rfl, rfl]⟩
    have e : ((cfg0.win 8).blk t).view.emb (ix3 0 n l : S1x2048x384.Idx) = (ix3 ⟨t.val / 4, by omega⟩ n ⟨(8 + t.val % 4) * 384 + l.val, by omega⟩ : S4x2048x4608.Idx) := by
      blk_ext [idx t]
    rw [e]
    refine (point8 m c t n l).trans ?_
    exact dp_at _ _ _ _ _
  · have : ¬ 8 ≤ (cfg0.win 8).cell j 2 := hj
    blk_simp [Pipeline.Window.cell_apply] at this
    rw [A_eq]
    have e : (cfg0.win 8).arr.view.emb j = j := rfl
    rw [e]
    refine Eq.trans ?_ (if_neg (show ¬ 3072 ≤ (j 2).val by omega)).symm
    show V m c main_v0_0 j = m ((c : Thread nD τ).loc main_arg6) (ix3 (j 0) (j 1) (j 2))
    have e3 : (ix3 (j 0) (j 1) (j 2) : S4x2048x4608.Idx) = j := by funext x; fin_cases x <;> rfl
    rw [e3]
    entry_read
    rfl

theorem sum_addB (c : Dev nD) (a : Fin 4) (i : Fin 128) (l : Fin 256) : ∑ t, addB m c t a i l = (kArgs m c).db a i l := by
  unfold Args.db
  by_cases hl : 128 ≤ l.val
  · rw [if_pos hl]
    rw [Fin.sum_divmod_congr (A := 4) (S := 4) (f := fun b h => if h = a then ∑ r, ((kArgs m c).cls b h r).ds i ⟨l.val - 128, by omega⟩ else 0) fun t ha hs => ?_]
    · exact Finset.sum_congr rfl fun b _ => by rw [Finset.sum_ite_eq' Finset.univ a, if_pos (Finset.mem_univ a)]
    · unfold addB
      simp only [clsAt_eq m c t _ ha]
      by_cases e : a.val = t.val % 4
      · rw [if_pos ⟨e, hl⟩, if_pos (Fin.ext e.symm)]
      · rw [if_neg fun h => e h.1, if_neg fun h => e (congrArg Fin.val h).symm]
  · rw [if_neg hl]
    exact Finset.sum_eq_zero fun t _ => if_neg fun h => hl h.2

/-- The gradient of the bias. -/
theorem final9 (c : Dev nD) : (dats m 0 c).arrAt 9 cfg0.N = kDb m c := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0) (fun t i => addB m c t (i 0) (i 1) (i 2))
    (fun t h i => ?_) (fun t h i => ?_) (le_of_eq N_0) t0_15 rfl j, zero_add]
  · exact sum_addB m c (j 0) (j 1) (j 2)
  · obtain ⟨a, k, l, rfl⟩ : ∃ a k l, i = ix3 a k l := ⟨i 0, i 1, i 2, by funext x; fin_cases x <;> rfl⟩
    exact out9_first m c t h a k l
  · obtain ⟨a, k, l, rfl⟩ : ∃ a k l, i = ix3 a k l := ⟨i 0, i 1, i 2, by funext x; fin_cases x <;> rfl⟩
    exact out9_next m c t h a k l

/-- The gradient of the query gains. -/
theorem final10 (c : Dev nD) : (dats m 0 c).arrAt 10 cfg0.N = kDg m c := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0) (fun t i => addG m c t (i 1))
    (fun t h i => ?_) (fun t h i => ?_) (le_of_eq N_0) t0_15 rfl j, zero_add]
  · unfold kDg Args.dg
    refine Fin.sum_divmod_congr fun t ha hs => ?_
    unfold addG
    simp only [clsAt_eq m c t _ ha]
  · obtain ⟨d, rfl⟩ : ∃ d, i = ix2 0 d := ⟨i 1, by funext x; fin_cases x; exacts [Subsingleton.elim (α := Fin 1) _ _, rfl]⟩
    exact out10_first m c t h d
  · obtain ⟨d, rfl⟩ : ∃ d, i = ix2 0 d := ⟨i 1, by funext x; fin_cases x; exacts [Subsingleton.elim (α := Fin 1) _ _, rfl]⟩
    exact out10_next m c t h d

/-- The gradient of the key gains. -/
theorem final11 (c : Dev nD) : (dats m 0 c).arrAt 11 cfg0.N = kDh m c := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => 0) (fun t i => addH m c t (i 1))
    (fun t h i => ?_) (fun t h i => ?_) (le_of_eq N_0) t0_15 rfl j, zero_add]
  · unfold kDh Args.dh
    refine Fin.sum_divmod_congr fun t ha hs => ?_
    unfold addH
    simp only [clsAt_eq m c t _ ha]
  · obtain ⟨d, rfl⟩ : ∃ d, i = ix2 0 d := ⟨i 1, by funext x; fin_cases x; exacts [Subsingleton.elim (α := Fin 1) _ _, rfl]⟩
    exact out11_first m c t h d
  · obtain ⟨d, rfl⟩ : ∃ d, i = ix2 0 d := ⟨i 1, by funext x; fin_cases x; exacts [Subsingleton.elim (α := Fin 1) _ _, rfl]⟩
    exact out11_next m c t h d

end Cert.AttnBwd
-- ==== Proof.RefRows.lean ====
/- The reference read at an index, first part: its arguments as rows, and the normalized rows by residue class. -/
module

public import proofs.«01_k».proof.Proof.Gen.ReferenceIdeal.Read
public import proofs.«01_k».proof.Proof.Spec
public import Idealize.ShloMosaic.Lib.Pipeline.ValueKit
public import Idealize.ShloMosaic.Lib.Pointwise

@[expose] public section

set_option maxRecDepth 16384

noncomputable section

namespace Cert.AttnBwd.Ref

open Cert.ReferenceIdeal Cert.ReferenceIdeal.Gen Cert.ReferenceIdeal.Read Idealize.ShloMosaic Idealize.ShloMosaic.TcCoe Idealize.SL.Sem

variable (x0 : Vec Ideal S4x2048x4608 .f32) (x1 : Vec Ideal S16x128x256 .f32) (x2 x3 : Vec Ideal S1x128 .f32) (x4 x5 : Vec Ideal S4x2048x512 .f32)
  (x6 : Vec Ideal S4x2048x4608 .bf16)

/-- The reference's arguments. -/
def args : Args where
  pa b n l := x0 (ix3 b n l)
  bias h i j := x1 (ix3 h i j)
  qg d := x2 (ix2 0 d)
  kg d := x3 (ix2 0 d)
  go b n l := x4 (ix3 b n l)
  ge b n l := x5 (ix3 b n l)
  dpa b n l := x6 (ix3 b n l)

/-- Class `r` of head `h` in batch entry `b`. -/
abbrev C (b h : Fin 4) (r : Fin 16) : Cls := (args x0 x1 x2 x3 x4 x5 x6).cls b h r

/-- The rows of queries, keys, values and of the two gradients the reference is given. -/
theorem q_apply (b h : Fin 4) (r : Fin 16) (i d : Fin 128) :
    val_main_v3 (F := Ideal) x0 (ix4 b (rowOf r i) h d) = (C x0 x1 x2 x3 x4 x5 x6 b h r).q i d := by
  pointwise [val_main_v3, val_main_v2, val_main_v1, val_main_v0]
  rfl

theorem k_apply (b h : Fin 4) (r : Fin 16) (i d : Fin 128) :
    val_main_v5 (F := Ideal) x0 (ix4 b (rowOf r i) h d) = (C x0 x1 x2 x3 x4 x5 x6 b h r).k i d := by
  pointwise [val_main_v5, val_main_v4, val_main_v1, val_main_v0]
  rfl

theorem v_apply (b h : Fin 4) (r : Fin 16) (i d : Fin 128) :
    val_main_v53 (F := Ideal) x0 (ix5 b r h i d) = (C x0 x1 x2 x3 x4 x5 x6 b h r).v i d := by
  pointwise [val_main_v53, val_main_v52, val_main_v7, val_main_v6, val_main_v1, val_main_v0]
  rfl

theorem o_apply (b h : Fin 4) (r : Fin 16) (i d : Fin 128) :
    val_main_v118 (F := Ideal) x4 (ix5 b r h i d) = (C x0 x1 x2 x3 x4 x5 x6 b h r).o i d := by
  pointwise [val_main_v118, val_main_v117, val_main_v11]
  rfl

theorem e_apply (b h : Fin 4) (r : Fin 16) (i : Fin 128) :
    val_main_v119 (F := Ideal) x5 (ix5 b r h i 0) = ∑ d, (C x0 x1 x2 x3 x4 x5 x6 b h r).e i d := by
  pointwise [val_main_v119, val_main_v116, val_main_v115, val_main_v114, val_main_v113, val_main_v112, val_main_v12, val_main_cst_21, val_main_cst_22, Fin.sum_univ_one]
  rfl

/-- Queries: the mean of squares, the factor that normalizes, and the row normalized. -/
theorem msq_apply (b h : Fin 4) (r : Fin 16) (i : Fin 128) :
    val_main_v19 (F := Ideal) x0 (ix4 b (rowOf r i) h 0) = ms ((C x0 x1 x2 x3 x4 x5 x6 b h r).q i) := by
  pointwise [val_main_v19, val_main_v18, val_main_v17, val_main_v16, val_main_v15, val_main_v14, val_main_v13, val_main_cst, val_main_cst_0, val_main_cst_1, q_apply x0 x1 x2 x3 x4 x5 x6]
  rfl

theorem rsq_apply (b h : Fin 4) (r : Fin 16) (i : Fin 128) :
    val_main_v20 (F := Ideal) x0 (ix4 b (rowOf r i) h 0) = rs ((C x0 x1 x2 x3 x4 x5 x6 b h r).q i) := by
  pointwise [val_main_v20, msq_apply x0 x1 x2 x3 x4 x5 x6]
  rfl

theorem facq_apply (b h : Fin 4) (r : Fin 16) (i : Fin 128) :
    val_main_v23 (F := Ideal) x0 (ix4 b (rowOf r i) h 0) = num 3204448256#32 * Ideal.div (rs ((C x0 x1 x2 x3 x4 x5 x6 b h r).q i)) (ms ((C x0 x1 x2 x3 x4 x5 x6 b h r).q i)) := by
  pointwise [val_main_v23, val_main_v22, val_main_v21, val_main_cst_2, rsq_apply x0 x1 x2 x3 x4 x5 x6, msq_apply x0 x1 x2 x3 x4 x5 x6]

theorem rawq_apply (b h : Fin 4) (r : Fin 16) (i d : Fin 128) :
    val_main_v25 (F := Ideal) x0 (ix4 b (rowOf r i) h d) = (C x0 x1 x2 x3 x4 x5 x6 b h r).q i d * rs ((C x0 x1 x2 x3 x4 x5 x6 b h r).q i) := by
  pointwise [val_main_v25, val_main_v24, rsq_apply x0 x1 x2 x3 x4 x5 x6, q_apply x0 x1 x2 x3 x4 x5 x6]

theorem gainq_apply (b h : Fin 4) (r : Fin 16) (i d : Fin 128) :
    val_main_v27 (F := Ideal) x2 (ix4 b (rowOf r i) h d) = (C x0 x1 x2 x3 x4 x5 x6 b h r).g d := by
  pointwise [val_main_v27, val_main_v26, val_main_v9]
  rfl

theorem qn_apply (b h : Fin 4) (r : Fin 16) (i d : Fin 128) :
    val_main_v30 (F := Ideal) x0 x2 (ix5 b r h i d) = (C x0 x1 x2 x3 x4 x5 x6 b h r).qn i d := by
  pointwise [val_main_v30, val_main_v29, val_main_v28]
  exact congrArg₂ (· * ·) (rawq_apply x0 x1 x2 x3 x4 x5 x6 b h r i d) (gainq_apply x0 x1 x2 x3 x4 x5 x6 b h r i d)

/-- Keys: the mean of squares, the factor that normalizes, and the row normalized. -/
theorem msk_apply (b h : Fin 4) (r : Fin 16) (i : Fin 128) :
    val_main_v37 (F := Ideal) x0 (ix4 b (rowOf r i) h 0) = ms ((C x0 x1 x2 x3 x4 x5 x6 b h r).k i) := by
  pointwise [val_main_v37, val_main_v36, val_main_v35, val_main_v34, val_main_v33, val_main_v32, val_main_v31, val_main_cst_3, val_main_cst_4, val_main_cst_5, k_apply x0 x1 x2 x3 x4 x5 x6]
  rfl

theorem rsk_apply (b h : Fin 4) (r : Fin 16) (i : Fin 128) :
    val_main_v38 (F := Ideal) x0 (ix4 b (rowOf r i) h 0) = rs ((C x0 x1 x2 x3 x4 x5 x6 b h r).k i) := by
  pointwise [val_main_v38, msk_apply x0 x1 x2 x3 x4 x5 x6]
  rfl

theorem fack_apply (b h : Fin 4) (r : Fin 16) (i : Fin 128) :
    val_main_v41 (F := Ideal) x0 (ix4 b (rowOf r i) h 0) = num 3204448256#32 * Ideal.div (rs ((C x0 x1 x2 x3 x4 x5 x6 b h r).k i)) (ms ((C x0 x1 x2 x3 x4 x5 x6 b h r).k i)) := by
  pointwise [val_main_v41, val_main_v40, val_main_v39, val_main_cst_6, rsk_apply x0 x1 x2 x3 x4 x5 x6, msk_apply x0 x1 x2 x3 x4 x5 x6]

theorem rawk_apply (b h : Fin 4) (r : Fin 16) (i d : Fin 128) :
    val_main_v43 (F := Ideal) x0 (ix4 b (rowOf r i) h d) = (C x0 x1 x2 x3 x4 x5 x6 b h r).k i d * rs ((C x0 x1 x2 x3 x4 x5 x6 b h r).k i) := by
  pointwise [val_main_v43, val_main_v42, rsk_apply x0 x1 x2 x3 x4 x5 x6, k_apply x0 x1 x2 x3 x4 x5 x6]

theorem gaink_apply (b h : Fin 4) (r : Fin 16) (i d : Fin 128) :
    val_main_v45 (F := Ideal) x3 (ix4 b (rowOf r i) h d) = (C x0 x1 x2 x3 x4 x5 x6 b h r).h d := by
  pointwise [val_main_v45, val_main_v44, val_main_v10]
  rfl

theorem kn_apply (b h : Fin 4) (r : Fin 16) (i d : Fin 128) :
    val_main_v48 (F := Ideal) x0 x3 (ix5 b r h i d) = (C x0 x1 x2 x3 x4 x5 x6 b h r).kn i d := by
  pointwise [val_main_v48, val_main_v47, val_main_v46]
  exact congrArg₂ (· * ·) (rawk_apply x0 x1 x2 x3 x4 x5 x6 b h r i d) (gaink_apply x0 x1 x2 x3 x4 x5 x6 b h r i d)

end Cert.AttnBwd.Ref
-- ==== Proof.RefAttn.lean ====
/- The reference read at an index, second part: the attention of each residue class and the gradients inside it. -/
module

public import proofs.«01_k».proof.Proof.RefRows

@[expose] public section

set_option maxRecDepth 16384

noncomputable section

namespace Cert.AttnBwd.Ref

open Cert.ReferenceIdeal Cert.ReferenceIdeal.Gen Cert.ReferenceIdeal.Read Idealize.ShloMosaic Idealize.ShloMosaic.TcCoe Idealize.SL.Sem

variable (x0 : Vec Ideal S4x2048x4608 .f32) (x1 : Vec Ideal S16x128x256 .f32) (x2 x3 : Vec Ideal S1x128 .f32) (x4 x5 : Vec Ideal S4x2048x512 .f32)
  (x6 : Vec Ideal S4x2048x4608 .bf16)

theorem bot_bits : num 4286578688#32 = ⊥ := by
  simp [num, Ideal.ofBits, Ideal.ieee]

/-- Selecting −∞ on the later keys adds the masked bias. -/
theorem sel_masked (t : Fin 128 → Fin 256 → EReal) (X : EReal) (i j : Fin 128) :
    Scalar.select (if j ≤ i then 1#1 else 0#1) (X + t i ⟨128 + j.val, by omega⟩ : EReal) (num 4286578688#32) = X + masked t i j := by
  unfold masked
  by_cases hj : j ≤ i
  · rw [if_pos hj, if_pos hj]
    rfl
  · rw [if_neg hj, if_neg hj, bot_bits, EReal.add_bot]
    rfl

/-- A sum over 256 keys whose first half is zero. -/
theorem sum_hi (f : Fin 256 → EReal) (h : ∀ j : Fin 128, f ⟨j.val, by omega⟩ = 0) : ∑ j, f j = ∑ j : Fin 128, f ⟨128 + j.val, by omega⟩ := by
  rw [Fin.sum_univ_two_halves 128 128 rfl, Finset.sum_eq_zero fun j _ => h j, zero_add]

/-- A maximum over 256 keys whose first half is −∞. -/
theorem max_hi (f : Fin 256 → EReal) (a : EReal) (h : ∀ j : Fin 128, f ⟨j.val, by omega⟩ = ⊥) :
    Finset.fold max a f Finset.univ = Finset.fold max a (fun j : Fin 128 => f ⟨128 + j.val, by omega⟩) Finset.univ := by
  apply le_antisymm
  · refine Finset.fold_max_le _ |>.mpr ⟨(Finset.le_fold_max _).mpr (Or.inl le_rfl), fun k _ => ?_⟩
    by_cases hk : k.val < 128
    · have : f k = ⊥ := h ⟨k.val, hk⟩
      rw [this]; exact bot_le
    · refine (Finset.le_fold_max _).mpr (Or.inr ⟨⟨k.val - 128, by omega⟩, Finset.mem_univ _, le_of_eq (congrArg f (Fin.ext ?_))⟩)
      show k.val = 128 + (k.val - 128)
      omega
  · refine Finset.fold_max_le _ |>.mpr ⟨(Finset.le_fold_max _).mpr (Or.inl le_rfl), fun k _ => ?_⟩
    exact (Finset.le_fold_max _).mpr (Or.inr ⟨_, Finset.mem_univ _, le_rfl⟩)

/-! ## The keys and values of the block before the first are zero; their weights are zero -/

theorem kcat_lo (b h : Fin 4) (r : Fin 16) (j d : Fin 128) : val_main_v50 (F := Ideal) x0 x3 (ix5 b r h (⟨j.val, by omega⟩ : Fin 256) d) = 0 := by
  pointwise [val_main_v50, val_main_v49, val_main_cst_7]
theorem kcat_hi (b h : Fin 4) (r : Fin 16) (j d : Fin 128) : val_main_v50 (F := Ideal) x0 x3 (ix5 b r h (⟨128 + j.val, by omega⟩ : Fin 256) d) = (C x0 x1 x2 x3 x4 x5 x6 b h r).kn j d := by
  pointwise [val_main_v50]
  exact kn_apply x0 x1 x2 x3 x4 x5 x6 b h r j d
theorem vcat_lo (b h : Fin 4) (r : Fin 16) (j d : Fin 128) : val_main_v55 (F := Ideal) x0 (ix5 b r h (⟨j.val, by omega⟩ : Fin 256) d) = 0 := by
  pointwise [val_main_v55, val_main_v54, val_main_cst_9]
theorem vcat_hi (b h : Fin 4) (r : Fin 16) (j d : Fin 128) : val_main_v55 (F := Ideal) x0 (ix5 b r h (⟨128 + j.val, by omega⟩ : Fin 256) d) = (C x0 x1 x2 x3 x4 x5 x6 b h r).v j d := by
  pointwise [val_main_v55]
  exact v_apply x0 x1 x2 x3 x4 x5 x6 b h r j d

theorem bits_lo : ∀ i j : Fin 128, IntOp.andi (IntOp.andi
      (IntOp.cmpi CmpIPredicate.sge (IntOp.subi (IntOp.addi (128#32) (BitVec.ofNat 32 i.val)) (BitVec.ofNat 32 j.val)) 0#32)
      (IntOp.cmpi CmpIPredicate.sle (IntOp.subi (IntOp.addi (128#32) (BitVec.ofNat 32 i.val)) (BitVec.ofNat 32 j.val)) 128#32))
    (IntOp.cmpi CmpIPredicate.sge (IntOp.subi (BitVec.ofNat 32 j.val) 128#32) 0#32) = 0#1 := by
  decide +kernel
theorem bits_hi : ∀ i j : Fin 128, IntOp.andi (IntOp.andi
      (IntOp.cmpi CmpIPredicate.sge (IntOp.subi (IntOp.addi (128#32) (BitVec.ofNat 32 i.val)) (BitVec.ofNat 32 (128 + j.val))) 0#32)
      (IntOp.cmpi CmpIPredicate.sle (IntOp.subi (IntOp.addi (128#32) (BitVec.ofNat 32 i.val)) (BitVec.ofNat 32 (128 + j.val))) 128#32))
    (IntOp.cmpi CmpIPredicate.sge (IntOp.subi (BitVec.ofNat 32 (128 + j.val)) 128#32) 0#32) = if j ≤ i then 1#1 else 0#1 := by
  decide +kernel

/-- The mask: no key of the first half, and of the second those not after the query. -/
theorem mask_lo (b h : Fin 4) (r : Fin 16) (i j : Fin 128) : val_main_v84_1 (F := Ideal) (ix5 b r h i (⟨j.val, by omega⟩ : Fin 256)) = 0#1 := by
  pointwise [val_main_v84_1, val_main_v83, val_main_v76, val_main_v75, val_main_v74, val_main_v73, val_main_v72, val_main_v71, val_main_v70, val_main_v69,
    val_main_v68, val_main_v67, val_main_v66, val_main_v65, val_main_v64, val_main_v63, val_main_v62, val_main_v61, val_main_v60, val_main_v59, val_main_v58,
    val_main_v57, val_main_c, val_main_c_11, val_main_c_12, val_main_c_13, val_main_c_14]
  exact bits_lo i j
theorem mask_hi (b h : Fin 4) (r : Fin 16) (i j : Fin 128) : val_main_v84_1 (F := Ideal) (ix5 b r h i (⟨128 + j.val, by omega⟩ : Fin 256)) = if j ≤ i then 1#1 else 0#1 := by
  pointwise [val_main_v84_1, val_main_v83, val_main_v76, val_main_v75, val_main_v74, val_main_v73, val_main_v72, val_main_v71, val_main_v70, val_main_v69,
    val_main_v68, val_main_v67, val_main_v66, val_main_v65, val_main_v64, val_main_v63, val_main_v62, val_main_v61, val_main_v60, val_main_v59, val_main_v58,
    val_main_v57, val_main_c, val_main_c_11, val_main_c_12, val_main_c_13, val_main_c_14]
  exact bits_hi i j

/-- The scores. -/
theorem s_lo (b h : Fin 4) (r : Fin 16) (i j : Fin 128) : val_main_v84_0 (F := Ideal) x0 x1 x2 x3 (ix5 b r h i (⟨j.val, by omega⟩ : Fin 256)) = ⊥ := by
  pointwise [val_main_v84_0, mask_lo, val_main_call0_v2, val_main_call0_v0, val_main_cst_16]
  exact bot_bits
theorem s_hi (b h : Fin 4) (r : Fin 16) (i j : Fin 128) : val_main_v84_0 (F := Ideal) x0 x1 x2 x3 (ix5 b r h i (⟨128 + j.val, by omega⟩ : Fin 256)) = (C x0 x1 x2 x3 x4 x5 x6 b h r).s i j := by
  pointwise [val_main_v84_0, mask_hi, val_main_call0_v2, val_main_call0_v0, val_main_cst_16, val_main_v82, val_main_v81, val_main_v80, val_main_v79, val_main_v78, val_main_v77,
    val_main_v8, val_main_cst_15, qn_apply x0 x1 x2 x3 x4 x5 x6, kcat_hi x0 x1 x2 x3 x4 x5 x6]
  exact sel_masked ((args x0 x1 x2 x3 x4 x5 x6).bias ⟨8 + h.val, by omega⟩) ((∑ d, (C x0 x1 x2 x3 x4 x5 x6 b h r).qn i d * (C x0 x1 x2 x3 x4 x5 x6 b h r).kn j d) * num 1035273459#32) i j

theorem max_apply (b h : Fin 4) (r : Fin 16) (i : Fin 128) : val_main_v85 (F := Ideal) x0 x1 x2 x3 (ix4 b r h i) = Finset.fold max (num 4286578688#32) (fun j => (C x0 x1 x2 x3 x4 x5 x6 b h r).s i j) Finset.univ := by
  pointwise [val_main_v85, val_main_cst_17]
  refine (max_hi _ _ (s_lo x0 x1 x2 x3 b h r i)).trans ?_
  exact congrArg (fun f => Finset.fold max (num 4286578688#32) f Finset.univ) (funext fun j => s_hi x0 x1 x2 x3 x4 x5 x6 b h r i j)

/-- The weights. -/
theorem p_lo (b h : Fin 4) (r : Fin 16) (i j : Fin 128) : val_main_v94 (F := Ideal) x0 x1 x2 x3 (ix5 b r h i (⟨j.val, by omega⟩ : Fin 256)) = 0 := by
  pointwise [val_main_v94, val_main_v93, s_lo x0 x1 x2 x3, val_main_v92, val_main_v91]
  rw [EReal.bot_sub]
  rfl
theorem p_hi (b h : Fin 4) (r : Fin 16) (i j : Fin 128) : val_main_v94 (F := Ideal) x0 x1 x2 x3 (ix5 b r h i (⟨128 + j.val, by omega⟩ : Fin 256)) = (C x0 x1 x2 x3 x4 x5 x6 b h r).p i j := by
  pointwise [val_main_v94, val_main_v93, s_hi x0 x1 x2 x3 x4 x5 x6, val_main_v92, val_main_v91, max_apply x0 x1 x2 x3 x4 x5 x6]
  rfl

/-- Their sum, the weighted sum of the values, and the sum's inverse square. -/
theorem l_apply (b h : Fin 4) (r : Fin 16) (i : Fin 128) : val_main_v96 (F := Ideal) x0 x1 x2 x3 (ix5 b r h i 0) = (C x0 x1 x2 x3 x4 x5 x6 b h r).l i := by
  pointwise [val_main_v96, val_main_v95, val_main_cst_19]
  refine (sum_hi _ (p_lo x0 x1 x2 x3 b h r i)).trans ?_
  exact Finset.sum_congr rfl fun j _ => p_hi x0 x1 x2 x3 x4 x5 x6 b h r i j
theorem pv_apply (b h : Fin 4) (r : Fin 16) (i d : Fin 128) : val_main_v97 (F := Ideal) x0 x1 x2 x3 (ix5 b r h i d) = (C x0 x1 x2 x3 x4 x5 x6 b h r).pv i d := by
  pointwise [val_main_v97]
  refine (sum_hi _ fun j => ?_).trans ?_
  · rw [p_lo, zero_mul]
  · exact Finset.sum_congr rfl fun j _ => congrArg₂ (· * ·) (p_hi x0 x1 x2 x3 x4 x5 x6 b h r i j) (vcat_hi x0 x1 x2 x3 x4 x5 x6 b h r j d)

end Cert.AttnBwd.Ref
-- ==== Proof.RefDs.lean ====
/- The reference read at an index, third part: the gradient of the scores of each residue class. -/
module

public import proofs.«01_k».proof.Proof.RefAttn

@[expose] public section

set_option maxRecDepth 16384

noncomputable section

namespace Cert.AttnBwd.Ref

open Cert.ReferenceIdeal Cert.ReferenceIdeal.Gen Cert.ReferenceIdeal.Read Idealize.ShloMosaic Idealize.ShloMosaic.TcCoe Idealize.SL.Sem

variable (x0 : Vec Ideal S4x2048x4608 .f32) (x1 : Vec Ideal S16x128x256 .f32) (x2 x3 : Vec Ideal S1x128 .f32) (x4 x5 : Vec Ideal S4x2048x512 .f32)
  (x6 : Vec Ideal S4x2048x4608 .bf16)

/-- The output's gradient over the sum of the weights. -/
theorem ol_apply (b h : Fin 4) (r : Fin 16) (i d : Fin 128) : val_main_v129 (F := Ideal) x0 x1 x2 x3 x4 (ix5 b r h i d) = (C x0 x1 x2 x3 x4 x5 x6 b h r).ol i d := by
  pointwise [val_main_v129, val_main_v128, o_apply x0 x1 x2 x3 x4 x5 x6, l_apply x0 x1 x2 x3 x4 x5 x6]
  rfl

/-- One over the square of the sum of the weights. -/
theorem inv_apply (b h : Fin 4) (r : Fin 16) (i : Fin 128) : val_main_v102 (F := Ideal) x0 x1 x2 x3 (ix5 b r h i 0) = Ideal.div 1 ((C x0 x1 x2 x3 x4 x5 x6 b h r).l i * (C x0 x1 x2 x3 x4 x5 x6 b h r).l i) := by
  pointwise [val_main_v102, val_main_v101, val_main_v100, val_main_cst_20, l_apply x0 x1 x2 x3 x4 x5 x6]

/-- The part of the sum's gradient that comes from the output. -/
theorem share_apply (b h : Fin 4) (r : Fin 16) (i : Fin 128) : val_main_v124 (F := Ideal) x0 x1 x2 x3 x4 (ix4 b r h i) = ∑ d, (C x0 x1 x2 x3 x4 x5 x6 b h r).o i d * Ideal.div 1 ((C x0 x1 x2 x3 x4 x5 x6 b h r).l i * (C x0 x1 x2 x3 x4 x5 x6 b h r).l i) * (C x0 x1 x2 x3 x4 x5 x6 b h r).pv i d := by
  pointwise [val_main_v124, val_main_v123, val_main_v122, val_main_v121, val_main_cst_23, inv_apply x0 x1 x2 x3 x4 x5 x6, o_apply x0 x1 x2 x3 x4 x5 x6, pv_apply x0 x1 x2 x3 x4 x5 x6]

/-- The gradient of the sum of the weights. -/
theorem dl_apply (b h : Fin 4) (r : Fin 16) (i : Fin 128) : val_main_v127 (F := Ideal) x0 x1 x2 x3 x4 x5 (ix5 b r h i 0) = (C x0 x1 x2 x3 x4 x5 x6 b h r).dl i := by
  pointwise [val_main_v127, val_main_v126, val_main_v125, val_main_v120, e_apply x0 x1 x2 x3 x4 x5 x6, l_apply x0 x1 x2 x3 x4 x5 x6, share_apply x0 x1 x2 x3 x4 x5 x6]
  unfold Cls.dl
  rw [zero_sub]

/-- The gradient of the weights. -/
theorem dp_hi (b h : Fin 4) (r : Fin 16) (i j : Fin 128) : val_main_v132 (F := Ideal) x0 x1 x2 x3 x4 (ix5 b r h i (⟨128 + j.val, by omega⟩ : Fin 256)) = ∑ d, (C x0 x1 x2 x3 x4 x5 x6 b h r).ol i d * (C x0 x1 x2 x3 x4 x5 x6 b h r).v j d := by
  pointwise [val_main_v132, ol_apply x0 x1 x2 x3 x4 x5 x6, vcat_hi x0 x1 x2 x3 x4 x5 x6]
theorem dw_hi (b h : Fin 4) (r : Fin 16) (i j : Fin 128) : val_main_v136 (F := Ideal) x0 x1 x2 x3 x4 x5 (ix5 b r h i (⟨128 + j.val, by omega⟩ : Fin 256)) = (C x0 x1 x2 x3 x4 x5 x6 b h r).ds i j := by
  pointwise [val_main_v136, val_main_v135, val_main_v134, val_main_v133, val_main_cst_24, Fin.sum_univ_one, dp_hi x0 x1 x2 x3 x4 x5 x6, dl_apply x0 x1 x2 x3 x4 x5 x6, p_hi x0 x1 x2 x3 x4 x5 x6]
  rfl

/-- A later key has weight 0. -/
theorem p_later (c : Cls) {t : Fin 128 → Fin 256 → EReal} (hc : c.b = masked t) {i j : Fin 128} (hj : ¬j ≤ i) : c.p i j = 0 := by
  have hs : c.s i j = ⊥ := by
    unfold Cls.s
    rw [hc]
    unfold masked
    rw [if_neg hj, bot_bits, EReal.add_bot]
  unfold Cls.p
  rw [hs, EReal.bot_sub]
  rfl

/-- The gradient of the scores. -/
theorem ds_lo (b h : Fin 4) (r : Fin 16) (i j : Fin 128) : val_main_v137 (F := Ideal) x0 x1 x2 x3 x4 x5 (ix5 b r h i (⟨j.val, by omega⟩ : Fin 256)) = 0 := by
  pointwise [val_main_v137, mask_lo, val_main_call1_v0, val_main_call1_cst]
theorem ds_hi (b h : Fin 4) (r : Fin 16) (i j : Fin 128) : val_main_v137 (F := Ideal) x0 x1 x2 x3 x4 x5 (ix5 b r h i (⟨128 + j.val, by omega⟩ : Fin 256)) = (C x0 x1 x2 x3 x4 x5 x6 b h r).ds i j := by
  pointwise [val_main_v137, mask_hi, val_main_call1_v0, val_main_call1_cst, dw_hi x0 x1 x2 x3 x4 x5 x6]
  by_cases hj : j ≤ i
  · rw [if_pos hj]
    rfl
  · rw [if_neg hj]
    refine Eq.trans (b := (0 : EReal)) rfl ?_
    unfold Cls.ds
    rw [p_later (C x0 x1 x2 x3 x4 x5 x6 b h r) (t := (args x0 x1 x2 x3 x4 x5 x6).bias ⟨8 + h.val, by omega⟩) rfl hj, mul_zero]

end Cert.AttnBwd.Ref
-- ==== Proof.RefGrad.lean ====
/- The reference read at an index, third part: the gradients of the operands. -/
module

public import proofs.«01_k».proof.Proof.RefDs

@[expose] public section

set_option maxRecDepth 16384

noncomputable section

namespace Cert.AttnBwd.Ref

open Cert.ReferenceIdeal Cert.ReferenceIdeal.Gen Cert.ReferenceIdeal.Read Idealize.ShloMosaic Idealize.ShloMosaic.TcCoe Idealize.SL.Sem

variable (x0 : Vec Ideal S4x2048x4608 .f32) (x1 : Vec Ideal S16x128x256 .f32) (x2 x3 : Vec Ideal S1x128 .f32) (x4 x5 : Vec Ideal S4x2048x512 .f32)
  (x6 : Vec Ideal S4x2048x4608 .bf16)

theorem row_mod (r : Fin 16) (i : Fin 128) : (⟨(rowOf r i).val % 16, Nat.mod_lt _ (by omega)⟩ : Fin 16) = r := Fin.ext (by unfold rowOf; dsimp only; omega)
theorem row_div (r : Fin 16) (i : Fin 128) : (⟨(rowOf r i).val / 16, by omega⟩ : Fin 128) = i := Fin.ext (by unfold rowOf; dsimp only; omega)

/-- Row `i * 16 + r` of the sequence is row `i` of class `r`. -/
theorem at_row {γ : Type} (f : Fin 16 → Fin 128 → γ) (r : Fin 16) (i : Fin 128) :
    f ⟨(rowOf r i).val % 16, Nat.mod_lt _ (by omega)⟩ ⟨(rowOf r i).val / 16, by omega⟩ = f r i := by
  rw [row_mod, row_div]

/-- The gradients of the normalized queries and keys and of the values, by class. -/
theorem dqn_class (b h : Fin 4) (r : Fin 16) (i d : Fin 128) : val_main_v144 (F := Ideal) x0 x1 x2 x3 x4 x5 (ix5 b r h i d) = (C x0 x1 x2 x3 x4 x5 x6 b h r).dqn i d := by
  pointwise [val_main_v144, val_main_v142, val_main_v141, val_main_cst_27]
  refine (sum_hi _ fun j => ?_).trans ?_
  · rw [ds_lo, zero_mul, zero_mul]
  · refine Finset.sum_congr rfl fun j _ => ?_
    rw [ds_hi x0 x1 x2 x3 x4 x5 x6, kcat_hi x0 x1 x2 x3 x4 x5 x6]
theorem dkn_class (b h : Fin 4) (r : Fin 16) (i d : Fin 128) : val_main_v143 (F := Ideal) x0 x1 x2 x3 x4 x5 (ix5 b r h (⟨128 + i.val, by omega⟩ : Fin 256) d) = (C x0 x1 x2 x3 x4 x5 x6 b h r).dkn i d := by
  pointwise [val_main_v143, val_main_v142, val_main_v141, val_main_cst_27, qn_apply x0 x1 x2 x3 x4 x5 x6, ds_hi x0 x1 x2 x3 x4 x5 x6]
  rfl
theorem dv_class (b h : Fin 4) (r : Fin 16) (i d : Fin 128) : val_main_v131 (F := Ideal) x0 x1 x2 x3 x4 (ix5 b r h (⟨128 + i.val, by omega⟩ : Fin 256) d) = (C x0 x1 x2 x3 x4 x5 x6 b h r).dv i d := by
  pointwise [val_main_v131, val_main_v130, ol_apply x0 x1 x2 x3 x4 x5 x6, p_hi x0 x1 x2 x3 x4 x5 x6]
  exact Finset.sum_congr rfl fun j _ => mul_comm _ _

/-- The same in the order of the sequence. -/
theorem dqn_apply (b h : Fin 4) (r : Fin 16) (i d : Fin 128) : val_main_v174 (F := Ideal) x0 x1 x2 x3 x4 x5 (ix4 b (rowOf r i) h d) = (C x0 x1 x2 x3 x4 x5 x6 b h r).dqn i d := by
  pointwise [val_main_v174, val_main_v173]
  exact (at_row (fun r i => val_main_v144 (F := Ideal) x0 x1 x2 x3 x4 x5 (ix5 b r h i d)) r i).trans (dqn_class x0 x1 x2 x3 x4 x5 x6 b h r i d)
theorem dkn_apply (b h : Fin 4) (r : Fin 16) (i d : Fin 128) : val_main_v152 (F := Ideal) x0 x1 x2 x3 x4 x5 (ix4 b (rowOf r i) h d) = (C x0 x1 x2 x3 x4 x5 x6 b h r).dkn i d := by
  pointwise [val_main_v152, val_main_v151, val_main_v150]
  exact (at_row (fun r i => val_main_v143 (F := Ideal) x0 x1 x2 x3 x4 x5 (ix5 b r h (⟨128 + i.val, by omega⟩ : Fin 256) d)) r i).trans (dkn_class x0 x1 x2 x3 x4 x5 x6 b h r i d)
theorem dv_apply (b h : Fin 4) (r : Fin 16) (i d : Fin 128) : val_main_v148 (F := Ideal) x0 x1 x2 x3 x4 (ix4 b (rowOf r i) h d) = (C x0 x1 x2 x3 x4 x5 x6 b h r).dv i d := by
  pointwise [val_main_v148, val_main_v147, val_main_v146]
  exact (at_row (fun r i => val_main_v131 (F := Ideal) x0 x1 x2 x3 x4 (ix5 b r h (⟨128 + i.val, by omega⟩ : Fin 256) d)) r i).trans (dv_class x0 x1 x2 x3 x4 x5 x6 b h r i d)

/-- The gradient of the normalized queries times their gains. -/
theorem gq_apply (b h : Fin 4) (r : Fin 16) (i d : Fin 128) : val_main_v178 (F := Ideal) x2 (ix4 b (rowOf r i) h d) = (C x0 x1 x2 x3 x4 x5 x6 b h r).g d := by
  pointwise [val_main_v178, val_main_v26, val_main_v9]
  rfl
theorem tq_apply (b h : Fin 4) (r : Fin 16) (i d : Fin 128) : val_main_v179 (F := Ideal) x0 x1 x2 x3 x4 x5 (ix4 b (rowOf r i) h d) = (C x0 x1 x2 x3 x4 x5 x6 b h r).dqn i d * (C x0 x1 x2 x3 x4 x5 x6 b h r).g d := by
  rw [val_main_v179_apply, dqn_apply x0 x1 x2 x3 x4 x5 x6, gq_apply x0 x1 x2 x3 x4 x5 x6]
  rfl

/-- Its product with the queries, summed over a row. -/
theorem dotq_apply (b h : Fin 4) (r : Fin 16) (i : Fin 128) : val_main_v182 (F := Ideal) x0 x1 x2 x3 x4 x5 (ix3 b (rowOf r i) h) = ∑ d, (C x0 x1 x2 x3 x4 x5 x6 b h r).q i d * ((C x0 x1 x2 x3 x4 x5 x6 b h r).dqn i d * (C x0 x1 x2 x3 x4 x5 x6 b h r).g d) := by
  pointwise [val_main_v182, val_main_cst_35]
  refine Finset.sum_congr rfl fun d _ => ?_
  rw [val_main_v181_apply, tq_apply x0 x1 x2 x3 x4 x5 x6, q_apply x0 x1 x2 x3 x4 x5 x6]
  rfl
theorem dotq_col (b h : Fin 4) (r : Fin 16) (i : Fin 128) : val_main_v183 (F := Ideal) x0 x1 x2 x3 x4 x5 (ix4 b (rowOf r i) h 0) = ∑ d, (C x0 x1 x2 x3 x4 x5 x6 b h r).q i d * ((C x0 x1 x2 x3 x4 x5 x6 b h r).dqn i d * (C x0 x1 x2 x3 x4 x5 x6 b h r).g d) := by
  pointwise [val_main_v183]
  exact dotq_apply x0 x1 x2 x3 x4 x5 x6 b h r i

/-- The factor of a row in its own gradient, as one column, as a sum over that column, and repeated along the row. -/
theorem widthq_apply (b h : Fin 4) (r : Fin 16) (i : Fin 128) : val_main_v187 (F := Ideal) (ix4 b (rowOf r i) h 0) = num 1124073472#32 := by
  pointwise [val_main_v187, val_main_cst_36]
theorem pullq_apply (b h : Fin 4) (r : Fin 16) (i : Fin 128) : val_main_v188 (F := Ideal) x0 x1 x2 x3 x4 x5 (ix4 b (rowOf r i) h 0) = pull ((C x0 x1 x2 x3 x4 x5 x6 b h r).q i) (fun d => (C x0 x1 x2 x3 x4 x5 x6 b h r).dqn i d * (C x0 x1 x2 x3 x4 x5 x6 b h r).g d) := by
  rw [val_main_v188_apply, val_main_v186_apply, dotq_col x0 x1 x2 x3 x4 x5 x6, facq_apply x0 x1 x2 x3 x4 x5 x6, widthq_apply]
  rfl
theorem pullq_sum (b h : Fin 4) (r : Fin 16) (i : Fin 128) : val_main_v189 (F := Ideal) x0 x1 x2 x3 x4 x5 (ix3 b (rowOf r i) h) = pull ((C x0 x1 x2 x3 x4 x5 x6 b h r).q i) (fun d => (C x0 x1 x2 x3 x4 x5 x6 b h r).dqn i d * (C x0 x1 x2 x3 x4 x5 x6 b h r).g d) := by
  pointwise [val_main_v189, val_main_cst_37, Fin.sum_univ_one]
  exact pullq_apply x0 x1 x2 x3 x4 x5 x6 b h r i
theorem pullq_row (b h : Fin 4) (r : Fin 16) (i d : Fin 128) : val_main_v190 (F := Ideal) x0 x1 x2 x3 x4 x5 (ix4 b (rowOf r i) h d) = pull ((C x0 x1 x2 x3 x4 x5 x6 b h r).q i) (fun d => (C x0 x1 x2 x3 x4 x5 x6 b h r).dqn i d * (C x0 x1 x2 x3 x4 x5 x6 b h r).g d) := by
  pointwise [val_main_v190]
  exact pullq_sum x0 x1 x2 x3 x4 x5 x6 b h r i

/-- The gradient of the queries. -/
theorem scaleq_row (b h : Fin 4) (r : Fin 16) (i d : Fin 128) : val_main_v184 (F := Ideal) x0 (ix4 b (rowOf r i) h d) = rs ((C x0 x1 x2 x3 x4 x5 x6 b h r).q i) := by
  pointwise [val_main_v184]
  exact rsq_apply x0 x1 x2 x3 x4 x5 x6 b h r i
theorem dq_apply (b h : Fin 4) (r : Fin 16) (i d : Fin 128) : val_main_v194 (F := Ideal) x0 x1 x2 x3 x4 x5 (ix4 b (rowOf r i) h d) = (C x0 x1 x2 x3 x4 x5 x6 b h r).dq i d := by
  rw [val_main_v194_apply, val_main_v193_apply, val_main_v192_apply, val_main_v191_apply, val_main_v185_apply, pullq_row x0 x1 x2 x3 x4 x5 x6, scaleq_row x0 x1 x2 x3 x4 x5 x6, tq_apply x0 x1 x2 x3 x4 x5 x6, q_apply x0 x1 x2 x3 x4 x5 x6]
  rfl

/-- The gradient of the normalized keys times their gains. -/
theorem gk_apply (b h : Fin 4) (r : Fin 16) (i d : Fin 128) : val_main_v156 (F := Ideal) x3 (ix4 b (rowOf r i) h d) = (C x0 x1 x2 x3 x4 x5 x6 b h r).h d := by
  pointwise [val_main_v156, val_main_v44, val_main_v10]
  rfl
theorem tk_apply (b h : Fin 4) (r : Fin 16) (i d : Fin 128) : val_main_v157 (F := Ideal) x0 x1 x2 x3 x4 x5 (ix4 b (rowOf r i) h d) = (C x0 x1 x2 x3 x4 x5 x6 b h r).dkn i d * (C x0 x1 x2 x3 x4 x5 x6 b h r).h d := by
  rw [val_main_v157_apply, dkn_apply x0 x1 x2 x3 x4 x5 x6, gk_apply x0 x1 x2 x3 x4 x5 x6]
  rfl

/-- Its product with the keys, summed over a row. -/
theorem dotk_apply (b h : Fin 4) (r : Fin 16) (i : Fin 128) : val_main_v160 (F := Ideal) x0 x1 x2 x3 x4 x5 (ix3 b (rowOf r i) h) = ∑ d, (C x0 x1 x2 x3 x4 x5 x6 b h r).k i d * ((C x0 x1 x2 x3 x4 x5 x6 b h r).dkn i d * (C x0 x1 x2 x3 x4 x5 x6 b h r).h d) := by
  pointwise [val_main_v160, val_main_cst_30]
  refine Finset.sum_congr rfl fun d _ => ?_
  rw [val_main_v159_apply, tk_apply x0 x1 x2 x3 x4 x5 x6, k_apply x0 x1 x2 x3 x4 x5 x6]
  rfl
theorem dotk_col (b h : Fin 4) (r : Fin 16) (i : Fin 128) : val_main_v161 (F := Ideal) x0 x1 x2 x3 x4 x5 (ix4 b (rowOf r i) h 0) = ∑ d, (C x0 x1 x2 x3 x4 x5 x6 b h r).k i d * ((C x0 x1 x2 x3 x4 x5 x6 b h r).dkn i d * (C x0 x1 x2 x3 x4 x5 x6 b h r).h d) := by
  pointwise [val_main_v161]
  exact dotk_apply x0 x1 x2 x3 x4 x5 x6 b h r i

/-- The factor of a row in its own gradient, as one column, as a sum over that column, and repeated along the row. -/
theorem widthk_apply (b h : Fin 4) (r : Fin 16) (i : Fin 128) : val_main_v165 (F := Ideal) (ix4 b (rowOf r i) h 0) = num 1124073472#32 := by
  pointwise [val_main_v165, val_main_cst_31]
theorem pullk_apply (b h : Fin 4) (r : Fin 16) (i : Fin 128) : val_main_v166 (F := Ideal) x0 x1 x2 x3 x4 x5 (ix4 b (rowOf r i) h 0) = pull ((C x0 x1 x2 x3 x4 x5 x6 b h r).k i) (fun d => (C x0 x1 x2 x3 x4 x5 x6 b h r).dkn i d * (C x0 x1 x2 x3 x4 x5 x6 b h r).h d) := by
  rw [val_main_v166_apply, val_main_v164_apply, dotk_col x0 x1 x2 x3 x4 x5 x6, fack_apply x0 x1 x2 x3 x4 x5 x6, widthk_apply]
  rfl
theorem pullk_sum (b h : Fin 4) (r : Fin 16) (i : Fin 128) : val_main_v167 (F := Ideal) x0 x1 x2 x3 x4 x5 (ix3 b (rowOf r i) h) = pull ((C x0 x1 x2 x3 x4 x5 x6 b h r).k i) (fun d => (C x0 x1 x2 x3 x4 x5 x6 b h r).dkn i d * (C x0 x1 x2 x3 x4 x5 x6 b h r).h d) := by
  pointwise [val_main_v167, val_main_cst_32, Fin.sum_univ_one]
  exact pullk_apply x0 x1 x2 x3 x4 x5 x6 b h r i
theorem pullk_row (b h : Fin 4) (r : Fin 16) (i d : Fin 128) : val_main_v168 (F := Ideal) x0 x1 x2 x3 x4 x5 (ix4 b (rowOf r i) h d) = pull ((C x0 x1 x2 x3 x4 x5 x6 b h r).k i) (fun d => (C x0 x1 x2 x3 x4 x5 x6 b h r).dkn i d * (C x0 x1 x2 x3 x4 x5 x6 b h r).h d) := by
  pointwise [val_main_v168]
  exact pullk_sum x0 x1 x2 x3 x4 x5 x6 b h r i

/-- The gradient of the keys. -/
theorem scalek_row (b h : Fin 4) (r : Fin 16) (i d : Fin 128) : val_main_v162 (F := Ideal) x0 (ix4 b (rowOf r i) h d) = rs ((C x0 x1 x2 x3 x4 x5 x6 b h r).k i) := by
  pointwise [val_main_v162]
  exact rsk_apply x0 x1 x2 x3 x4 x5 x6 b h r i
theorem dk_apply (b h : Fin 4) (r : Fin 16) (i d : Fin 128) : val_main_v172 (F := Ideal) x0 x1 x2 x3 x4 x5 (ix4 b (rowOf r i) h d) = (C x0 x1 x2 x3 x4 x5 x6 b h r).dk i d := by
  rw [val_main_v172_apply, val_main_v171_apply, val_main_v170_apply, val_main_v169_apply, val_main_v163_apply, pullk_row x0 x1 x2 x3 x4 x5 x6, scalek_row x0 x1 x2 x3 x4 x5 x6, tk_apply x0 x1 x2 x3 x4 x5 x6, k_apply x0 x1 x2 x3 x4 x5 x6]
  rfl

/-- The terms of the gains' gradients. -/
theorem dg_apply (b h : Fin 4) (r : Fin 16) (i d : Fin 128) : val_main_v175 (F := Ideal) x0 x1 x2 x3 x4 x5 (ix4 b (rowOf r i) h d) = (C x0 x1 x2 x3 x4 x5 x6 b h r).dg i d := by
  pointwise [val_main_v175, dqn_apply x0 x1 x2 x3 x4 x5 x6, rawq_apply x0 x1 x2 x3 x4 x5 x6]
  rfl
theorem dh_apply (b h : Fin 4) (r : Fin 16) (i d : Fin 128) : val_main_v153 (F := Ideal) x0 x1 x2 x3 x4 x5 (ix4 b (rowOf r i) h d) = (C x0 x1 x2 x3 x4 x5 x6 b h r).dh i d := by
  pointwise [val_main_v153, dkn_apply x0 x1 x2 x3 x4 x5 x6, rawk_apply x0 x1 x2 x3 x4 x5 x6]
  rfl

end Cert.AttnBwd.Ref
-- ==== Proof.RefResults.lean ====
/- The reference read at an index, last part: the four results. -/
module

public import proofs.«01_k».proof.Proof.RefGrad
public import proofs.«01_k».proof.Proof.Layout
public import Idealize.ShloMosaic.Lib.Pipeline.ValueKit.Acc

@[expose] public section

set_option maxRecDepth 16384

noncomputable section

namespace Cert.AttnBwd.Ref

open Cert.ReferenceIdeal Cert.ReferenceIdeal.Gen Cert.ReferenceIdeal.Read Idealize.ShloMosaic Idealize.ShloMosaic.TcCoe Idealize.SL.Sem

variable (x0 : Vec Ideal S4x2048x4608 .f32) (x1 : Vec Ideal S16x128x256 .f32) (x2 x3 : Vec Ideal S1x128 .f32) (x4 x5 : Vec Ideal S4x2048x512 .f32)
  (x6 : Vec Ideal S4x2048x4608 .bf16)

theorem zero_bits : num 0#32 = 0 := by simp [num, Ideal.ofBits, Ideal.ieee]

/-- The host's sum over the first two of five axes, and over the first three of four. -/
theorem reduce_heads (n0 n1 : ℕ) (h : (⟨5, ![n0, n1, 4, 128, 256]⟩ : Shape).ReducesTo [0, 1] S4x128x256) (f : (⟨5, ![n0, n1, 4, 128, 256]⟩ : Shape).Idx → EReal)
    (a : Fin 4) (i : Fin 128) (l : Fin 256) : Ideal.hostReduceAdd h f (num 0#32) (ix3 a i l) = ∑ b : Fin n0, ∑ r : Fin n1, f (ix5 b r a i l) := by
  unfold Ideal.hostReduceAdd
  rw [zero_bits, zero_add]
  refine (Finset.sum_filter_eq_sum_of_fiber _ (fun k : Fin n0 × Fin n1 => ix5 k.1 k.2 a i l)
    (fun _ _ e => Prod.ext (congrFun e 0) (congrFun e 1)) (fun y => ?_) f).trans ?_
  · constructor
    · intro e
      refine ⟨(y 0, y 1), ?_⟩
      have e0 := congrFun e 0
      have e1 := congrFun e 1
      have e2 := congrFun e 2
      funext x; apply Fin.ext
      match x with
      | ⟨0, _⟩ => rfl
      | ⟨1, _⟩ => rfl
      | ⟨2, _⟩ => exact (congrArg Fin.val e0).symm
      | ⟨3, _⟩ => exact (congrArg Fin.val e1).symm
      | ⟨4, _⟩ => exact (congrArg Fin.val e2).symm
    · rintro ⟨k, rfl⟩
      funext x; apply Fin.ext
      match x with
      | ⟨0, _⟩ => rfl
      | ⟨1, _⟩ => rfl
      | ⟨2, _⟩ => rfl
  · simp only [Fintype.sum_prod_type]
theorem reduce_rows (n0 n1 n2 : ℕ) (h : (⟨4, ![n0, n1, n2, 128]⟩ : Shape).ReducesTo [0, 1, 2] S128) (f : (⟨4, ![n0, n1, n2, 128]⟩ : Shape).Idx → EReal) (d : Fin 128) :
    Ideal.hostReduceAdd h f (num 0#32) (ix1 d) = ∑ b : Fin n0, ∑ n : Fin n1, ∑ g : Fin n2, f (ix4 b n g d) := by
  unfold Ideal.hostReduceAdd
  rw [zero_bits, zero_add]
  refine (Finset.sum_filter_eq_sum_of_fiber _ (fun k : Fin n0 × Fin n1 × Fin n2 => ix4 k.1 k.2.1 k.2.2 d)
    (fun _ _ e => Prod.ext (congrFun e 0) (Prod.ext (congrFun e 1) (congrFun e 2))) (fun y => ?_) f).trans ?_
  · constructor
    · intro e
      refine ⟨(y 0, y 1, y 2), ?_⟩
      have e0 := congrFun e 0
      funext x; apply Fin.ext
      match x with
      | ⟨0, _⟩ => rfl
      | ⟨1, _⟩ => rfl
      | ⟨2, _⟩ => rfl
      | ⟨3, _⟩ => exact (congrArg Fin.val e0).symm
    · rintro ⟨k, rfl⟩
      funext x; apply Fin.ext
      match x with
      | ⟨0, _⟩ => rfl
  · simp only [Fintype.sum_prod_type]

/-- A sum over the rows of the sequence, class by class. -/
theorem sum_rows (f : Fin 2048 → EReal) : ∑ n, f n = ∑ r, ∑ i, f (rowOf r i) := by
  rw [Finset.sum_comm]
  exact Fin.sum_divmod_congr (S := 16) (f := fun i r => f (rowOf r i)) (fun t _ _ => congrArg f (row_split t)) rfl

/-- The gradient of the bias table. -/
theorem db_total (h : Fin 4) (i : Fin 128) (l : Fin 256) : val_main_v138 (F := Ideal) x0 x1 x2 x3 x4 x5 (ix3 h i l) = (args x0 x1 x2 x3 x4 x5 x6).db h i l := by
  unfold val_main_v138 val_main_cst_25
  refine (reduce_heads 4 16 _ _ h i l).trans ?_
  unfold Args.db
  by_cases hl : 128 ≤ l.val
  · rw [if_pos hl]
    obtain ⟨j, rfl⟩ : ∃ j : Fin 128, l = ⟨128 + j.val, Nat.add_lt_add_left j.isLt 128⟩ := ⟨⟨l.val - 128, by omega⟩, Fin.ext (by dsimp only; omega)⟩
    have e : (⟨128 + j.val - 128, by omega⟩ : Fin 128) = j := Fin.ext (by dsimp only; omega)
    dsimp only
    rw [e]
    exact Finset.sum_congr rfl fun b _ => Finset.sum_congr rfl fun r _ => ds_hi x0 x1 x2 x3 x4 x5 x6 b h r i j
  · rw [if_neg hl]
    obtain ⟨j, rfl⟩ : ∃ j : Fin 128, l = ⟨j.val, Nat.lt_trans j.isLt (by decide)⟩ := ⟨⟨l.val, by omega⟩, rfl⟩
    exact Finset.sum_eq_zero fun b _ => Finset.sum_eq_zero fun r _ => ds_lo x0 x1 x2 x3 x4 x5 b h r i j
theorem db_result : val_main_v140 (F := Ideal) x0 x1 x2 x3 x4 x5 = fun j => (args x0 x1 x2 x3 x4 x5 x6).db (j 0) (j 1) (j 2) := by
  funext j
  obtain ⟨h, i, l, rfl⟩ : ∃ h i l, j = ix3 h i l := ⟨j 0, j 1, j 2, by funext x; fin_cases x <;> rfl⟩
  unfold val_main_v140 val_main_cst_26
  refine (reduce_heads 1 1 _ _ h i l).trans ?_
  simp only [Fin.sum_univ_one]
  pointwise [val_main_v139]
  exact db_total x0 x1 x2 x3 x4 x5 x6 h i l

/-- The gradients of the two gains. -/
theorem dg_total (d : Fin 128) : val_main_v176 (F := Ideal) x0 x1 x2 x3 x4 x5 (ix1 d) = (args x0 x1 x2 x3 x4 x5 x6).dg d := by
  unfold val_main_v176 val_main_cst_33
  refine (reduce_rows 4 2048 4 _ _ d).trans ?_
  unfold Args.dg
  refine Finset.sum_congr rfl fun b _ => ?_
  refine (sum_rows fun n => ∑ h, val_main_v175 (F := Ideal) x0 x1 x2 x3 x4 x5 (ix4 b n h d)).trans ?_
  simp only [dg_apply x0 x1 x2 x3 x4 x5 x6]
  exact (Finset.sum_congr rfl fun r _ => Finset.sum_comm).trans Finset.sum_comm
theorem dg_result : val_main_v203 (F := Ideal) x0 x1 x2 x3 x4 x5 = fun j => (args x0 x1 x2 x3 x4 x5 x6).dg (j 1) := by
  funext j
  obtain ⟨a, d, rfl⟩ : ∃ a d, j = ix2 a d := ⟨j 0, j 1, by funext x; fin_cases x <;> rfl⟩
  pointwise [val_main_v203]
  unfold val_main_v180 val_main_cst_34
  refine (reduce_rows 1 1 1 _ _ d).trans ?_
  simp only [Fin.sum_univ_one]
  pointwise [val_main_v177]
  exact dg_total x0 x1 x2 x3 x4 x5 x6 d

theorem dh_total (d : Fin 128) : val_main_v154 (F := Ideal) x0 x1 x2 x3 x4 x5 (ix1 d) = (args x0 x1 x2 x3 x4 x5 x6).dh d := by
  unfold val_main_v154 val_main_cst_28
  refine (reduce_rows 4 2048 4 _ _ d).trans ?_
  unfold Args.dh
  refine Finset.sum_congr rfl fun b _ => ?_
  refine (sum_rows fun n => ∑ h, val_main_v153 (F := Ideal) x0 x1 x2 x3 x4 x5 (ix4 b n h d)).trans ?_
  simp only [dh_apply x0 x1 x2 x3 x4 x5 x6]
  exact (Finset.sum_congr rfl fun r _ => Finset.sum_comm).trans Finset.sum_comm
theorem dh_result : val_main_v204 (F := Ideal) x0 x1 x2 x3 x4 x5 = fun j => (args x0 x1 x2 x3 x4 x5 x6).dh (j 1) := by
  funext j
  obtain ⟨a, d, rfl⟩ : ∃ a d, j = ix2 a d := ⟨j 0, j 1, by funext x; fin_cases x <;> rfl⟩
  pointwise [val_main_v204]
  unfold val_main_v158 val_main_cst_29
  refine (reduce_rows 1 1 1 _ _ d).trans ?_
  simp only [Fin.sum_univ_one]
  pointwise [val_main_v155]
  exact dh_total x0 x1 x2 x3 x4 x5 x6 d

/-- The gradient of the projected columns: queries, keys and values of each head side by side. -/
theorem lane_q (b h : Fin 4) (n : Fin 2048) (d : Fin 128) : val_main_v198 (F := Ideal) x0 x1 x2 x3 x4 x5 (ix5 b n h 0 d) = val_main_v194 (F := Ideal) x0 x1 x2 x3 x4 x5 (ix4 b n h d) := by
  pointwise [val_main_v198, val_main_v195]
theorem lane_k (b h : Fin 4) (n : Fin 2048) (d : Fin 128) : val_main_v198 (F := Ideal) x0 x1 x2 x3 x4 x5 (ix5 b n h 1 d) = val_main_v172 (F := Ideal) x0 x1 x2 x3 x4 x5 (ix4 b n h d) := by
  pointwise [val_main_v198, val_main_v196]
theorem lane_v (b h : Fin 4) (n : Fin 2048) (d : Fin 128) : val_main_v198 (F := Ideal) x0 x1 x2 x3 x4 x5 (ix5 b n h 2 d) = val_main_v148 (F := Ideal) x0 x1 x2 x3 x4 (ix4 b n h d) := by
  pointwise [val_main_v198, val_main_v197]
theorem kept (b : Fin 4) (n : Fin 2048) (l : Fin 3072) : val_main_v202 (F := Ideal) x0 x1 x2 x3 x4 x5 x6 (ix3 b n ⟨l.val, by omega⟩) = x6 (ix3 b n ⟨l.val, by omega⟩) := by
  pointwise [val_main_v202, val_main_v201]
theorem moved (b : Fin 4) (n : Fin 2048) (l : Fin 1536) : val_main_v202 (F := Ideal) x0 x1 x2 x3 x4 x5 x6 (ix3 b n ⟨3072 + l.val, by omega⟩) = val_main_v199 (F := Ideal) x0 x1 x2 x3 x4 x5 (ix3 b n l) := by
  pointwise [val_main_v202]
  exact val_main_v200_apply x0 x1 x2 x3 x4 x5 _
theorem column (b h : Fin 4) (n : Fin 2048) (p : Fin 3) (d : Fin 128) :
    val_main_v199 (F := Ideal) x0 x1 x2 x3 x4 x5 (ix3 b n ⟨(h.val * 3 + p.val) * 128 + d.val, by omega⟩) = val_main_v198 (F := Ideal) x0 x1 x2 x3 x4 x5 (ix5 b n h p d) := by
  rw [val_main_v199_apply]
  refine congrArg (val_main_v198 (F := Ideal) x0 x1 x2 x3 x4 x5) ?_
  funext x; apply Fin.ext
  match x with
  | ⟨0, _⟩ => show ((b.val * 2048 + n.val) * 1536 + ((h.val * 3 + p.val) * 128 + d.val)) / 3145728 = b.val; omega
  | ⟨1, _⟩ => show ((b.val * 2048 + n.val) * 1536 + ((h.val * 3 + p.val) * 128 + d.val)) / 1536 % 2048 = n.val; omega
  | ⟨2, _⟩ => show ((b.val * 2048 + n.val) * 1536 + ((h.val * 3 + p.val) * 128 + d.val)) / 384 % 4 = h.val; omega
  | ⟨3, _⟩ => show ((b.val * 2048 + n.val) * 1536 + ((h.val * 3 + p.val) * 128 + d.val)) / 128 % 3 = p.val; omega
  | ⟨4, _⟩ => show ((b.val * 2048 + n.val) * 1536 + ((h.val * 3 + p.val) * 128 + d.val)) % 128 = d.val; omega
theorem dp_class (b h : Fin 4) (n : Fin 2048) (p : Fin 3) (d : Fin 128) :
    val_main_v202 (F := Ideal) x0 x1 x2 x3 x4 x5 x6 (ix3 b n ⟨3072 + ((h.val * 3 + p.val) * 128 + d.val), by omega⟩)
      = lanes ((args x0 x1 x2 x3 x4 x5 x6).cls b h ⟨n.val % 16, by omega⟩) ⟨n.val / 16, by omega⟩ ⟨p.val * 128 + d.val, by omega⟩ := by
  refine (moved x0 x1 x2 x3 x4 x5 x6 b n ⟨(h.val * 3 + p.val) * 128 + d.val, by omega⟩).trans ((column x0 x1 x2 x3 x4 x5 b h n p d).trans ?_)
  generalize hr : (⟨n.val % 16, by omega⟩ : Fin 16) = r
  generalize hi : (⟨n.val / 16, by omega⟩ : Fin 128) = i
  obtain rfl : n = rowOf r i := by rw [← hr, ← hi]; exact row_split n
  unfold lanes
  match p with
  | ⟨0, _⟩ =>
    rw [dif_pos (by show 0 * 128 + d.val < 128; omega)]
    exact (lane_q x0 x1 x2 x3 x4 x5 b h _ d).trans ((dq_apply x0 x1 x2 x3 x4 x5 x6 b h r i d).trans (congrArg _ (Fin.ext (by show d.val = 0 * 128 + d.val; omega))))
  | ⟨1, _⟩ =>
    rw [dif_neg (by show ¬1 * 128 + d.val < 128; omega), dif_pos (by show 1 * 128 + d.val < 256; omega)]
    exact (lane_k x0 x1 x2 x3 x4 x5 b h _ d).trans ((dk_apply x0 x1 x2 x3 x4 x5 x6 b h r i d).trans (congrArg _ (Fin.ext (by show d.val = 1 * 128 + d.val - 128; omega))))
  | ⟨2, _⟩ =>
    rw [dif_neg (by show ¬2 * 128 + d.val < 128; omega), dif_neg (by show ¬2 * 128 + d.val < 256; omega)]
    exact (lane_v x0 x1 x2 x3 x4 x5 b h _ d).trans ((dv_apply x0 x1 x2 x3 x4 x5 x6 b h r i d).trans (congrArg _ (Fin.ext (by show d.val = 2 * 128 + d.val - 256; omega))))
theorem dp_result : val_main_v202 (F := Ideal) x0 x1 x2 x3 x4 x5 x6 = fun j => (args x0 x1 x2 x3 x4 x5 x6).dp (j 0) (j 1) (j 2) := by
  funext j
  obtain ⟨b, n, l, rfl⟩ : ∃ b n l, j = ix3 b n l := ⟨j 0, j 1, j 2, by funext x; fin_cases x <;> rfl⟩
  by_cases hl : 3072 ≤ l.val
  · have e := dp_class x0 x1 x2 x3 x4 x5 x6 b ⟨(l.val - 3072) / 384, by omega⟩ n ⟨(l.val - 3072) % 384 / 128, by omega⟩ ⟨l.val % 128, by omega⟩
    rw [dp_at] at e
    have e1 : (⟨3072 + (((l.val - 3072) / 384 * 3 + (l.val - 3072) % 384 / 128) * 128 + l.val % 128), by omega⟩ : Fin 4608) = l := Fin.ext (by dsimp only; omega)
    have e2 : (⟨(8 + (l.val - 3072) / 384) * 384 + ((l.val - 3072) % 384 / 128 * 128 + l.val % 128), by omega⟩ : Fin 4608) = l := Fin.ext (by dsimp only; omega)
    dsimp only at e
    rw [e1, e2] at e
    exact e
  · refine (kept x0 x1 x2 x3 x4 x5 x6 b n ⟨l.val, by omega⟩).trans ?_
    show _ = (args x0 x1 x2 x3 x4 x5 x6).dp b n l
    unfold Args.dp
    rw [if_neg hl]
    rfl

end Cert.AttnBwd.Ref
-- ==== Proof.ReluGrad.lean ====
/- The gradient through the squared relu: the kernel and the reference end with equal results. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Lib.Pipeline.ValueKit

@[expose] public section

set_option maxRecDepth 16384

noncomputable section

namespace Cert.ReluGrad

open Idealize.ShloMosaic Idealize.ShloMosaic.TcCoe Idealize.SL.Sem

/-- The kernel's f32 constant 2. -/
abbrev two : EReal := Ideal.ofBits .f32 0x40000000#32

/-- The gradient of the hidden values before the squared relu, at row `i` and column `j`: the product of the row of the output's gradient
with the column's weights, times twice the positive part of the hidden value. -/
def grad (D : Fin 8192 → Fin 1024 → EReal) (W : Fin 4096 → Fin 1024 → EReal) (P : Fin 8192 → Fin 4096 → EReal) (i : Fin 8192) (j : Fin 4096) : EReal :=
  (∑ k : Fin 1024, D i k * W j k) * (two * max (P i j) 0)

section kernel

open Cert.Kernel2Ideal Cert.Kernel2Ideal.Gen

variable (m : (ℓ : Loc nD τ sig) → Buf (Elt Ideal) ℓ)

/-- What one grid point stores, at an index of the block. -/
theorem pay_apply (x0 : Vec Ideal S1024x1024 .bf16) (x1 : Vec Ideal S2048x1024 .bf16) (x2 : Vec Ideal S1024x2048 .bf16) (i : Fin 1024) (j : Fin 2048) :
    k0_pay1 (F := Ideal) x0 x1 x2 (ix2 i j) = (∑ k : Fin 1024, x0 (ix2 i k) * x1 (ix2 j k)) * (two * max (x2 (ix2 i j)) 0) := by
  pointwise [k0_pay1]

/-- The block of every window at a grid point. -/
theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The kernel's result array after the run. -/
def kGrad (c : Dev nD) : Vec Ideal S8192x4096 .bf16 := fun q =>
  grad (fun i k => m ((c : Thread nD τ).loc main_arg0) (ix2 i k)) (fun j k => m ((c : Thread nD τ).loc main_arg1) (ix2 j k))
    (fun i j => m ((c : Thread nD τ).loc main_arg2) (ix2 i j)) (q 0) (q 1)

theorem final (c : Dev nD) : (dats m 0 c).arrAt 3 cfg0.N = kGrad m c := by
  refine (dats m 0 c).arrAt_eq_of_covers 3 _ (by decide +kernel) fun t hf y => ?_
  blk_simp
  rw [after0_3]
  frame_out
  obtain ⟨i, j, rfl⟩ : ∃ i j, y = ix2 i j := ⟨y 0, y 1, by funext x; fin_cases x <;> rfl⟩
  refine (pay_apply _ _ _ i j).trans ?_
  unfold kGrad grad
  refine congrArg₂ (fun a b : EReal => a * b) (Finset.sum_congr rfl fun k _ => congrArg₂ (fun a b : EReal => a * b) ?_ ?_) (congrArg (fun p : EReal => two * max p 0) ?_) <;>
    blk_ext [iblk, V, idx t]

end kernel

section reference

open Cert.Reference2Ideal Cert.Reference2Ideal.Read

/-- Where the hidden value is not positive its gradient is zero: the factor is zero. -/
theorem select_pos (p a : EReal) : (if (0 : EReal) < p then a * (two * max p 0) else 0) = a * (two * max p 0) := by
  split
  · rfl
  · rename_i h
    rw [max_eq_right (not_lt.mp h), mul_zero, mul_zero]

variable (x0 : (⟨S8192x1024, .bf16⟩ : BufTy).Contents (Elt Ideal)) (x1 : (⟨S4096x1024, .bf16⟩ : BufTy).Contents (Elt Ideal)) (x2 : (⟨S8192x4096, .bf16⟩ : BufTy).Contents (Elt Ideal))

theorem product_apply (i : Fin 8192) (j : Fin 4096) : val_main_v11 (F := Ideal) x0 x1 (ix2 i j) = ∑ k : Fin 1024, x0 (ix2 i k) * x1 (ix2 j k) := by
  rw [val_main_v11_apply]
  refine Finset.sum_congr rfl fun k _ => ?_
  pointwise [val_main_v10, val_main_v0]
  blk_point []

theorem factor_apply (i : Fin 8192) (j : Fin 4096) : val_main_v8 (F := Ideal) x2 (ix2 i j) = two * max (x2 (ix2 i j)) 0 := by
  pointwise [val_main_v8, val_main_v7, val_main_cst_1, val_main_v2, val_main_v1, val_main_call0_v0, val_main_call0_cst]

theorem result : val_main_v15 (F := Ideal) x0 x1 x2 = fun q => grad (fun i k => x0 (ix2 i k)) (fun j k => x1 (ix2 j k)) (fun i j => x2 (ix2 i j)) (q 0) (q 1) := by
  funext q
  obtain ⟨i, j, rfl⟩ : ∃ i j, q = ix2 i j := ⟨q 0, q 1, by funext x; fin_cases x <;> rfl⟩
  refine Eq.trans ?_ (select_pos (x2 (ix2 i j)) _)
  rw [val_main_v15_apply, val_main_v14_apply, val_main_v12_apply, product_apply, factor_apply]
  pointwise [val_main_v4, val_main_v3, val_main_cst, val_main_v13, val_main_cst_2, val_main_v1]

end reference

/-- The value claim: from equal arguments the two programs end with equal results. -/
theorem value : Cert.algebraic_Kernel2Ideal_Reference2Ideal (hKernel2Ideal := Cert.Kernel2Ideal.Gen.facts) (hReference2Ideal := Cert.Reference2Ideal.Gen.facts) := by
  intro m g m' g' _ hag
  refine ⟨kGrad m, ?_, ?_⟩
  · exact (θ_run Cert.Kernel2Ideal.defs _ _).mono (fun r h c => ⟨(h c).1.trans (final m c), (h c).2⟩) (Cert.Kernel2Ideal.Value.run_blocks m g)
  · refine (θ_run Cert.Reference2Ideal.defs _ _).mono (fun r h c => ?_) (Cert.Reference2Ideal.Value.run m' g')
    obtain ⟨e0, e1, e2⟩ := hag c
    refine ⟨((h c).1.trans (Cert.Reference2Ideal.Read.val_main_v15_eq _ _ _)).trans ((result _ _ _).trans ?_), (h c).2⟩
    all_goals
      rw [e0, e1, e2]
      rfl

end Cert.ReluGrad
-- ==== Proof.GradFf1.lean ====
/- The gradient of the first feed-forward weights: the kernel and the reference end with equal results. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Whole
public import Idealize.ShloMosaic.Adequacy

@[expose] public section

set_option maxRecDepth 16384

noncomputable section

namespace Cert.GradFf1

open Idealize.ShloMosaic Idealize.ShloMosaic.TcCoe Idealize.SL.Sem

section kernel

open Cert.Kernel4Ideal Cert.Kernel4Ideal.Gen

variable (m : (ℓ : Loc nD τ sig) → Buf (Elt Ideal) ℓ)

/-- The zeros a tile starts from. -/
theorem zeros_apply (i : Fin 1024) (j : Fin 2048) : k0_pay1 (F := Ideal) (ix2 i j) = 0 := by pointwise [k0_pay1]

/-- One step adds the product over its 2048 rows. -/
theorem step_apply (a : Vec Ideal S1024x2048 .f32) (x0 : Vec Ideal S2048x1024 .bf16) (x1 : Vec Ideal S2048x2048 .bf16) (i : Fin 1024) (j : Fin 2048) :
    k0_pay2 (F := Ideal) a x0 x1 (ix2 i j) = a (ix2 i j) + ∑ k : Fin 2048, x0 (ix2 k i) * x1 (ix2 k j) := by
  pointwise [k0_pay2]

theorem cast_apply (a : Vec Ideal S1024x2048 .f32) (q : S1024x2048.Idx) : k0_pay3 (F := Ideal) a q = a q := rfl

/-- What a point adds to its tile. -/
def part (c : Dev nD) (t : Fin cfg0.N) (q : S1024x2048.Idx) : EReal :=
  Whole.weightGrad (fun k i => iblk m c 0 t (ix2 k i)) (fun k j => iblk m c 1 t (ix2 k j)) (q 0 : Fin 1024) (q 1 : Fin 2048)

theorem first (c : Dev nD) (t : Fin cfg0.N) (h : t.val % 4 = 0) (q : S1024x2048.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x2048) (off := ![0, 0]) _ inb_S1024x2048_S1024x2048_0_0 _ (by decide)) _).trans ?_)
  exact zeros_apply i j

theorem next (c : Dev nD) (t : Fin cfg0.N) (h : ¬t.val % 4 = 0) (q : S1024x2048.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x2048.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x2048) (off := ![0, 0]) _ inb_S1024x2048_S1024x2048_0_0 _ (by decide)) _).trans ?_
  symm
  exact (congrFun (Whole.store _ _ _ (by decide) _ _ _) _).trans rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The kernel's result array after the run. -/
def kGrad (c : Dev nD) : Vec Ideal S1024x4096 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference4Ideal Cert.Reference4Ideal.Read

variable (x0 : (⟨S8192x1024, .bf16⟩ : BufTy).Contents (Elt Ideal)) (x1 : (⟨S8192x4096, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel4Ideal_Reference4Ideal (hKernel4Ideal := Cert.Kernel4Ideal.Gen.facts) (hReference4Ideal := Cert.Reference4Ideal.Gen.facts) := by
  intro m g m' g' _ hag
  refine ⟨kGrad m, ?_, ?_⟩
  · exact (θ_run Cert.Kernel4Ideal.defs _ _).mono (fun r h c => ⟨(h c).1.trans (final m c), (h c).2⟩) (Cert.Kernel4Ideal.Value.run_blocks m g)
  · refine (θ_run Cert.Reference4Ideal.defs _ _).mono (fun r h c => ?_) (Cert.Reference4Ideal.Value.run m' g')
    obtain ⟨e0, e1⟩ := hag c
    refine ⟨((h c).1.trans (Cert.Reference4Ideal.Read.val_main_v6_eq _ _)).trans ((result _ _).trans ?_), (h c).2⟩
    all_goals
      rw [e0, e1]
      rfl

end Cert.GradFf1
-- ==== Proof.GradFf2.lean ====
/- The gradient of the second feed-forward weights: the kernel and the reference end with equal results. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Whole
public import Idealize.ShloMosaic.Adequacy

@[expose] public section

set_option maxRecDepth 16384

noncomputable section

namespace Cert.GradFf2

open Idealize.ShloMosaic Idealize.ShloMosaic.TcCoe Idealize.SL.Sem

section kernel

open Cert.Kernel5Ideal Cert.Kernel5Ideal.Gen

variable (m : (ℓ : Loc nD τ sig) → Buf (Elt Ideal) ℓ)

/-- The zeros a tile starts from. -/
theorem zeros_apply (i : Fin 1024) (j : Fin 1024) : k0_pay1 (F := Ideal) (ix2 i j) = 0 := by pointwise [k0_pay1]

/-- One step adds the product over its 2048 rows. -/
theorem step_apply (a : Vec Ideal S1024x1024 .f32) (x0 : Vec Ideal S2048x1024 .bf16) (x1 : Vec Ideal S2048x1024 .bf16) (i : Fin 1024) (j : Fin 1024) :
    k0_pay2 (F := Ideal) a x0 x1 (ix2 i j) = a (ix2 i j) + ∑ k : Fin 2048, x0 (ix2 k i) * x1 (ix2 k j) := by
  pointwise [k0_pay2]

theorem cast_apply (a : Vec Ideal S1024x1024 .f32) (q : S1024x1024.Idx) : k0_pay3 (F := Ideal) a q = a q := rfl

/-- What a point adds to its tile. -/
def part (c : Dev nD) (t : Fin cfg0.N) (q : S1024x1024.Idx) : EReal :=
  Whole.weightGrad (fun k i => iblk m c 0 t (ix2 k i)) (fun k j => iblk m c 1 t (ix2 k j)) (q 0 : Fin 1024) (q 1 : Fin 1024)

theorem first (c : Dev nD) (t : Fin cfg0.N) (h : t.val % 4 = 0) (q : S1024x1024.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1024) (off := ![0, 0]) _ inb_S1024x1024_S1024x1024_0_0 _ (by decide)) _).trans ?_)
  exact zeros_apply i j

theorem next (c : Dev nD) (t : Fin cfg0.N) (h : ¬t.val % 4 = 0) (q : S1024x1024.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x1024.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x1024) (off := ![0, 0]) _ inb_S1024x1024_S1024x1024_0_0 _ (by decide)) _).trans ?_
  symm
  exact (congrFun (Whole.store _ _ _ (by decide) _ _ _) _).trans rfl

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The kernel's result array after the run. -/
def kGrad (c : Dev nD) : Vec Ideal S4096x1024 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference5Ideal Cert.Reference5Ideal.Read

variable (x0 : (⟨S8192x4096, .bf16⟩ : BufTy).Contents (Elt Ideal)) (x1 : (⟨S8192x1024, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel5Ideal_Reference5Ideal (hKernel5Ideal := Cert.Kernel5Ideal.Gen.facts) (hReference5Ideal := Cert.Reference5Ideal.Gen.facts) := by
  intro m g m' g' _ hag
  refine ⟨kGrad m, ?_, ?_⟩
  · exact (θ_run Cert.Kernel5Ideal.defs _ _).mono (fun r h c => ⟨(h c).1.trans (final m c), (h c).2⟩) (Cert.Kernel5Ideal.Value.run_blocks m g)
  · refine (θ_run Cert.Reference5Ideal.defs _ _).mono (fun r h c => ?_) (Cert.Reference5Ideal.Value.run m' g')
    obtain ⟨e0, e1⟩ := hag c
    refine ⟨((h c).1.trans (Cert.Reference5Ideal.Read.val_main_v6_eq _ _)).trans ((result _ _).trans ?_), (h c).2⟩
    all_goals
      rw [e0, e1]
      rfl

end Cert.GradFf2
-- ==== Proof.Hidden.lean ====
/- The feed-forward hidden values before and after the squared relu: the kernel's result arrays, the reference's results, and their equality. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Lib.Pipeline.ValueKit

@[expose] public section

set_option maxRecDepth 16384

noncomputable section

namespace Cert.Hidden

open Idealize.ShloMosaic Idealize.ShloMosaic.TcCoe Idealize.SL.Sem

/-- The hidden value at row `i` and column `j`, before the squared relu. -/
def before (U : Fin 8192 → Fin 1024 → EReal) (W : Fin 1024 → Fin 4096 → EReal) (i : Fin 8192) (j : Fin 4096) : EReal := ∑ k : Fin 1024, U i k * W k j

/-- The same after it. -/
def after (U : Fin 8192 → Fin 1024 → EReal) (W : Fin 1024 → Fin 4096 → EReal) (i : Fin 8192) (j : Fin 4096) : EReal :=
  max (before U W i j) 0 * max (before U W i j) 0

section kernel

open Cert.Kernel6Ideal Cert.Kernel6Ideal.Gen

variable (m : (ℓ : Loc nD τ sig) → Buf (Elt Ideal) ℓ)

theorem product_apply (x0 : Vec Ideal S1024x1024 .bf16) (x1 : Vec Ideal S1024x2048 .bf16) (i : Fin 1024) (j : Fin 2048) :
    k0_pay1 (F := Ideal) x0 x1 (ix2 i j) = ∑ k : Fin 1024, x0 (ix2 i k) * x1 (ix2 k j) := by
  pointwise [k0_pay1]

theorem before_apply (x0 : Vec Ideal S1024x1024 .bf16) (x1 : Vec Ideal S1024x2048 .bf16) (i : Fin 1024) (j : Fin 2048) :
    k0_pay2 (F := Ideal) x0 x1 (ix2 i j) = ∑ k : Fin 1024, x0 (ix2 i k) * x1 (ix2 k j) := product_apply x0 x1 i j

theorem after_apply (x0 : Vec Ideal S1024x1024 .bf16) (x1 : Vec Ideal S1024x2048 .bf16) (i : Fin 1024) (j : Fin 2048) :
    k0_pay3 (F := Ideal) x0 x1 (ix2 i j) = max (∑ k : Fin 1024, x0 (ix2 i k) * x1 (ix2 k j) : EReal) 0 * max (∑ k : Fin 1024, x0 (ix2 i k) * x1 (ix2 k j) : EReal) 0 := by
  rw [← product_apply]
  pointwise [k0_pay3]

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The kernel's arguments on device `c`. -/
def kU (c : Dev nD) (i : Fin 8192) (k : Fin 1024) : EReal := m ((c : Thread nD τ).loc main_arg0) (ix2 i k)
def kW (c : Dev nD) (k : Fin 1024) (j : Fin 4096) : EReal := m ((c : Thread nD τ).loc main_arg1) (ix2 k j)

/-- The kernel's two result arrays after the run. -/
def kBefore (c : Dev nD) : Vec Ideal S8192x4096 .bf16 := fun q => before (kU m c) (kW m c) (q 0) (q 1)
def kAfter (c : Dev nD) : Vec Ideal S8192x4096 .bf16 := fun q => after (kU m c) (kW m c) (q 0) (q 1)

/-- A block's product is the array's, where the block lies. -/
theorem block_product (c : Dev nD) (t : Fin cfg0.N) (i : Fin 1024) (j : Fin 2048) (p : Fin 8192) (q : Fin 4096) (hp : p.val = t.val / 2 * 1024 + i.val) (hq : q.val = t.val % 2 * 2048 + j.val) :
    (∑ k : Fin 1024, (show EReal from iblk m c 0 t (ix2 i k)) * (show EReal from iblk m c 1 t (ix2 k j))) = before (kU m c) (kW m c) p q := by
  unfold before kU kW
  refine Finset.sum_congr rfl fun k _ => congrArg₂ (fun a b : EReal => a * b) ?_ ?_ <;> blk_ext [iblk, V, idx t]

theorem final2 (c : Dev nD) : (dats m 0 c).arrAt 2 cfg0.N = kBefore m c := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext x; fin_cases x <;> rfl⟩
  refine (before_apply _ _ i j).trans (block_product m c t i j _ _ ?_ ?_) <;> blk_simp [idx t]

theorem final3 (c : Dev nD) : (dats m 0 c).arrAt 3 cfg0.N = kAfter m c := by
  refine (dats m 0 c).arrAt_eq_of_covers 3 _ (by decide +kernel) fun t hf y => ?_
  blk_simp
  rw [after0_3]
  frame_out
  obtain ⟨i, j, rfl⟩ : ∃ i j, y = ix2 i j := ⟨y 0, y 1, by funext x; fin_cases x <;> rfl⟩
  refine (after_apply _ _ i j).trans (congrArg (fun p : EReal => max p 0 * max p 0) (block_product m c t i j _ _ ?_ ?_)) <;> blk_simp [idx t]

end kernel

section reference

open Cert.Reference6Ideal Cert.Reference6Ideal.Read

variable (x0 : (⟨S8192x1024, .bf16⟩ : BufTy).Contents (Elt Ideal)) (x1 : (⟨S1024x4096, .bf16⟩ : BufTy).Contents (Elt Ideal))

theorem ref_product (i : Fin 8192) (j : Fin 4096) : val_main_v2 (F := Ideal) x0 x1 (ix2 i j) = before (fun i k => x0 (ix2 i k)) (fun k j => x1 (ix2 k j)) i j := by
  pointwise [val_main_v2, val_main_v0, val_main_v1]
  rfl

theorem ref_before : val_main_v3 (F := Ideal) x0 x1 = fun q => before (fun i k => x0 (ix2 i k)) (fun k j => x1 (ix2 k j)) (q 0) (q 1) := by
  funext q
  obtain ⟨i, j, rfl⟩ : ∃ i j, q = ix2 i j := ⟨q 0, q 1, by funext x; fin_cases x <;> rfl⟩
  exact (val_main_v3_apply x0 x1 _).trans (ref_product x0 x1 i j)

theorem ref_after : val_main_v6 (F := Ideal) x0 x1 = fun q => after (fun i k => x0 (ix2 i k)) (fun k j => x1 (ix2 k j)) (q 0) (q 1) := by
  funext q
  obtain ⟨i, j, rfl⟩ : ∃ i j, q = ix2 i j := ⟨q 0, q 1, by funext x; fin_cases x <;> rfl⟩
  have e : val_main_v4 (F := Ideal) x0 x1 (ix2 i j) = max (before (fun i k => x0 (ix2 i k)) (fun k j => x1 (ix2 k j)) i j) 0 := by
    rw [← ref_product]
    pointwise [val_main_v4, val_main_call0_v0, val_main_call0_cst]
  rw [val_main_v6_apply, val_main_v5_apply, e]
  rfl

end reference

/-- The value claim: from equal arguments the two programs end with equal results. -/
theorem value : Cert.algebraic_Kernel6Ideal_Reference6Ideal (hKernel6Ideal := Cert.Kernel6Ideal.Gen.facts) (hReference6Ideal := Cert.Reference6Ideal.Gen.facts) := by
  intro m g m' g' _ hag
  refine ⟨kBefore m, kAfter m, ?_, ?_⟩
  · exact (θ_run Cert.Kernel6Ideal.defs _ _).mono (fun r h c => ⟨(h c).1.trans (final2 m c), (h c).2.1.trans (final3 m c), (h c).2.2⟩) (Cert.Kernel6Ideal.Value.run_blocks m g)
  · refine (θ_run Cert.Reference6Ideal.defs _ _).mono (fun r h c => ?_) (Cert.Reference6Ideal.Value.run m' g')
    obtain ⟨e0, e1⟩ := hag c
    refine ⟨((h c).1.trans (Cert.Reference6Ideal.Read.val_main_v3_eq _ _)).trans ((ref_before _ _).trans ?_), ((h c).2.1.trans (Cert.Reference6Ideal.Read.val_main_v6_eq _ _)).trans ((ref_after _ _).trans ?_), (h c).2.2⟩
    all_goals
      rw [e0, e1]
      rfl

end Cert.Hidden
-- ==== Proof.InAtt.lean ====
/- The input projection's attention columns: the kernel and the reference end with equal results. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Whole
public import Idealize.ShloMosaic.Adequacy

@[expose] public section

set_option maxRecDepth 16384

noncomputable section

namespace Cert.InAtt

open Idealize.ShloMosaic Idealize.ShloMosaic.TcCoe Idealize.SL.Sem

section kernel

open Cert.Kernel7Ideal Cert.Kernel7Ideal.Gen

variable (m : (ℓ : Loc nD τ sig) → Buf (Elt Ideal) ℓ)

/-- What one grid point stores, at an index of the block. -/
theorem pay_apply (x0 : Vec Ideal S1024x1024 .bf16) (x1 : Vec Ideal S1024x1536 .bf16) (i : Fin 1024) (j : Fin 1536) :
    k0_pay1 (F := Ideal) x0 x1 (ix2 i j) = Whole.product (fun i k => x0 (ix2 i k)) (fun k j => x1 (ix2 k j)) i j := by
  pointwise [k0_pay1]
  rfl

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The kernel's result array after the run. -/
def kResult (c : Dev nD) : Vec Ideal S8192x4608 .f32 := fun q =>
  Whole.product (fun i k => m ((c : Thread nD τ).loc main_arg0) (ix2 i k)) (fun k j => m ((c : Thread nD τ).loc main_arg1) (ix2 k j)) (q 0) (q 1)

theorem final (c : Dev nD) : (dats m 0 c).arrAt 2 cfg0.N = kResult m c := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext x; fin_cases x <;> rfl⟩
  refine (pay_apply _ _ i j).trans ?_
  unfold kResult Whole.product
  refine Finset.sum_congr rfl fun k _ => congrArg₂ (fun a b : EReal => a * b) ?_ ?_ <;> blk_ext [iblk, V, idx t]

end kernel

section reference

open Cert.Reference7Ideal Cert.Reference7Ideal.Read

variable (x0 : (⟨S8192x1024, .bf16⟩ : BufTy).Contents (Elt Ideal)) (x1 : (⟨S1024x4608, .bf16⟩ : BufTy).Contents (Elt Ideal))

theorem result : val_main_v2 (F := Ideal) x0 x1 = fun q => Whole.product (fun i k => x0 (ix2 i k)) (fun k j => x1 (ix2 k j)) (q 0) (q 1) := by
  funext q
  obtain ⟨i, j, rfl⟩ : ∃ i j, q = ix2 i j := ⟨q 0, q 1, by funext x; fin_cases x <;> rfl⟩
  pointwise [val_main_v2, val_main_v0, val_main_v1]
  rfl

end reference

/-- The value claim: from equal arguments the two programs end with equal results. -/
theorem value : Cert.algebraic_Kernel7Ideal_Reference7Ideal (hKernel7Ideal := Cert.Kernel7Ideal.Gen.facts) (hReference7Ideal := Cert.Reference7Ideal.Gen.facts) := by
  intro m g m' g' _ hag
  refine ⟨kResult m, ?_, ?_⟩
  · exact (θ_run Cert.Kernel7Ideal.defs _ _).mono (fun r h c => ⟨(h c).1.trans (final m c), (h c).2⟩) (Cert.Kernel7Ideal.Value.run_blocks m g)
  · refine (θ_run Cert.Reference7Ideal.defs _ _).mono (fun r h c => ?_) (Cert.Reference7Ideal.Value.run m' g')
    obtain ⟨e0, e1⟩ := hag c
    refine ⟨((h c).1.trans (Cert.Reference7Ideal.Read.val_main_v2_eq _ _)).trans ((result _ _).trans ?_), (h c).2⟩
    all_goals
      rw [e0, e1]
      rfl

end Cert.InAtt
-- ==== Proof.GradInAtt.lean ====
/- The gradient of the input projection's attention columns: the kernel and the reference end with equal results. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Whole
public import Idealize.ShloMosaic.Adequacy

@[expose] public section

set_option maxRecDepth 16384

noncomputable section

namespace Cert.GradInAtt

open Idealize.ShloMosaic Idealize.ShloMosaic.TcCoe Idealize.SL.Sem

section kernel

open Cert.Kernel8Ideal Cert.Kernel8Ideal.Gen

variable (m : (ℓ : Loc nD τ sig) → Buf (Elt Ideal) ℓ)

/-- The zeros a tile starts from. -/
theorem zeros_apply (i : Fin 1024) (j : Fin 1536) : k0_pay1 (F := Ideal) (ix2 i j) = 0 := by pointwise [k0_pay1]

/-- One step adds the product over its 2048 rows. -/
theorem step_apply (a : Vec Ideal S1024x1536 .f32) (x0 : Vec Ideal S2048x1024 .bf16) (x1 : Vec Ideal S2048x1536 .bf16) (i : Fin 1024) (j : Fin 1536) :
    k0_pay2 (F := Ideal) a x0 x1 (ix2 i j) = a (ix2 i j) + ∑ k : Fin 2048, x0 (ix2 k i) * x1 (ix2 k j) := by
  pointwise [k0_pay2]

theorem cast_apply (a : Vec Ideal S1024x1536 .f32) (q : S1024x1536.Idx) : k0_pay3 (F := Ideal) a q = a q := rfl

/-- What a point adds to its tile. -/
def part (c : Dev nD) (t : Fin cfg0.N) (q : S1024x1536.Idx) : EReal :=
  Whole.weightGrad (fun k i => iblk m c 0 t (ix2 k i)) (fun k j => iblk m c 1 t (ix2 k j)) (q 0 : Fin 1024) (q 1 : Fin 1536)

theorem first (c : Dev nD) (t : Fin cfg0.N) (h : t.val % 4 = 0) (q : S1024x1536.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1536) (off := ![0, 0]) _ inb_S1024x1536_S1024x1536_0_0 _ (by decide)) _).trans ?_)
  exact zeros_apply i j

theorem next (c : Dev nD) (t : Fin cfg0.N) (h : ¬t.val % 4 = 0) (q : S1024x1536.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x1536.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x1536) (off := ![0, 0]) _ inb_S1024x1536_S1024x1536_0_0 _ (by decide)) _).trans ?_
  symm
  exact (congrFun (Whole.store _ _ _ (by decide) _ _ _) _).trans rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The kernel's result array after the run. -/
def kGrad (c : Dev nD) : Vec Ideal S1024x4608 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference8Ideal Cert.Reference8Ideal.Read

variable (x0 : (⟨S8192x1024, .bf16⟩ : BufTy).Contents (Elt Ideal)) (x1 : (⟨S8192x4608, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel8Ideal_Reference8Ideal (hKernel8Ideal := Cert.Kernel8Ideal.Gen.facts) (hReference8Ideal := Cert.Reference8Ideal.Gen.facts) := by
  intro m g m' g' _ hag
  refine ⟨kGrad m, ?_, ?_⟩
  · exact (θ_run Cert.Kernel8Ideal.defs _ _).mono (fun r h c => ⟨(h c).1.trans (final m c), (h c).2⟩) (Cert.Kernel8Ideal.Value.run_blocks m g)
  · refine (θ_run Cert.Reference8Ideal.defs _ _).mono (fun r h c => ?_) (Cert.Reference8Ideal.Value.run m' g')
    obtain ⟨e0, e1⟩ := hag c
    refine ⟨((h c).1.trans (Cert.Reference8Ideal.Read.val_main_v6_eq _ _)).trans ((result _ _).trans ?_), (h c).2⟩
    all_goals
      rw [e0, e1]
      rfl

end Cert.GradInAtt
-- ==== Proof.GradUAtt.lean ====
/- The gradient of the input projection's input, from its attention columns: the kernel and the reference end with equal results. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Whole
public import Idealize.ShloMosaic.Adequacy

@[expose] public section

set_option maxRecDepth 16384

noncomputable section

namespace Cert.GradUAtt

open Idealize.ShloMosaic Idealize.ShloMosaic.TcCoe Idealize.SL.Sem

section kernel

open Cert.Kernel9Ideal Cert.Kernel9Ideal.Gen

variable (m : (ℓ : Loc nD τ sig) → Buf (Elt Ideal) ℓ)

/-- The zeros a tile starts from. -/
theorem zeros_apply (i : Fin 1024) (j : Fin 1024) : k0_pay1 (F := Ideal) (ix2 i j) = 0 := by pointwise [k0_pay1]

/-- One step adds the product over its 1536 columns. -/
theorem step_apply (a : Vec Ideal S1024x1024 .f32) (x0 x1 : Vec Ideal S1024x1536 .bf16) (i : Fin 1024) (j : Fin 1024) :
    k0_pay2 (F := Ideal) a x0 x1 (ix2 i j) = a (ix2 i j) + ∑ k : Fin 1536, x0 (ix2 i k) * x1 (ix2 j k) := by
  pointwise [k0_pay2]

/-- What a point adds to its tile. -/
def part (c : Dev nD) (t : Fin cfg0.N) (q : S1024x1024.Idx) : EReal :=
  Whole.inputGrad (b := 1536) (fun i k => iblk m c 0 t (ix2 i k)) (fun j k => iblk m c 1 t (ix2 j k)) (q 0 : Fin 1024) (q 1 : Fin 1024)

theorem first (c : Dev nD) (t : Fin cfg0.N) (h : t.val % 3 = 0) (q : S1024x1024.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1024) (off := ![0, 0]) _ inb_S1024x1024_S1024x1024_0_0 _ (by decide)) _).trans ?_)
  exact zeros_apply i j

theorem next (c : Dev nD) (t : Fin cfg0.N) (h : ¬t.val % 3 = 0) (q : S1024x1024.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 3 = 2
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 3 = 2) (q : S1024x1024.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ?_
  refine (congrFun (View.readCov_unit_lit (S := S1024x1024) (off := ![0, 0]) _ inb_S1024x1024_S1024x1024_0_0 _ (by decide)) _).trans ?_
  symm
  exact (congrFun (Whole.store _ _ _ (by decide) _ _ _) _).trans rfl

theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The kernel's result array after the run. -/
def kResult (c : Dev nD) : Vec Ideal S8192x1024 .f32 := fun q =>
  Whole.inputGrad (fun i k => m ((c : Thread nD τ).loc main_arg0) (ix2 i k)) (fun j k => m ((c : Thread nD τ).loc main_arg1) (ix2 j k)) (q 0) (q 1)

theorem final (c : Dev nD) : (dats m 0 c).arrAt 2 cfg0.N = kResult m c := by
  refine (dats m 0 c).arrAt_eq_of_covers 2 _ (by decide +kernel) fun t hf y => ?_
  blk_simp
  have h3 : t.val % 3 = 2 := (flush0_2 t).mp hf
  rw [after0_2, last m c t h3, Pipeline.eq_sum_fin_of_reset_step_apply_of_flush (fun n h => (outsAt0 m c n h).2) 3 (fun _ => 0) (part m c)
    (first m c) (next m c) t h3 _, zero_add]
  unfold part kResult Whole.inputGrad
  refine Fin.sum_mul_add_congr fun s k hl => ?_
  refine congrArg₂ (fun a b : EReal => a * b) ?_ ?_ <;> blk_ext [iblk, V, idx t, idx ⟨3 * (t.val / 3) + s.val, Pipeline.run_point_lt_of_flush t h3 s⟩]

end kernel

section reference

open Cert.Reference9Ideal Cert.Reference9Ideal.Read

variable (x0 : (⟨S8192x4608, .bf16⟩ : BufTy).Contents (Elt Ideal)) (x1 : (⟨S1024x4608, .bf16⟩ : BufTy).Contents (Elt Ideal))

theorem result : val_main_v4 (F := Ideal) x0 x1 = fun q => Whole.inputGrad (fun i k => x0 (ix2 i k)) (fun j k => x1 (ix2 j k)) (q 0) (q 1) := by
  funext q
  obtain ⟨i, j, rfl⟩ : ∃ i j, q = ix2 i j := ⟨q 0, q 1, by funext x; fin_cases x <;> rfl⟩
  pointwise [val_main_v4, val_main_v0, val_main_v1]
  rfl

end reference

/-- The value claim: from equal arguments the two programs end with equal results. -/
theorem value : Cert.algebraic_Kernel9Ideal_Reference9Ideal (hKernel9Ideal := Cert.Kernel9Ideal.Gen.facts) (hReference9Ideal := Cert.Reference9Ideal.Gen.facts) := by
  intro m g m' g' _ hag
  refine ⟨kResult m, ?_, ?_⟩
  · exact (θ_run Cert.Kernel9Ideal.defs _ _).mono (fun r h c => ⟨(h c).1.trans (final m c), (h c).2⟩) (Cert.Kernel9Ideal.Value.run_blocks m g)
  · refine (θ_run Cert.Reference9Ideal.defs _ _).mono (fun r h c => ?_) (Cert.Reference9Ideal.Value.run m' g')
    obtain ⟨e0, e1⟩ := hag c
    refine ⟨((h c).1.trans (Cert.Reference9Ideal.Read.val_main_v4_eq _ _)).trans ((result _ _).trans ?_), (h c).2⟩
    all_goals
      rw [e0, e1]
      rfl

end Cert.GradUAtt
-- ==== Proof.InGate.lean ====
/- The input projection's gate columns: the kernel and the reference end with equal results. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Whole
public import Idealize.ShloMosaic.Adequacy

@[expose] public section

set_option maxRecDepth 16384

noncomputable section

namespace Cert.InGate

open Idealize.ShloMosaic Idealize.ShloMosaic.TcCoe Idealize.SL.Sem

section kernel

open Cert.Kernel10Ideal Cert.Kernel10Ideal.Gen

variable (m : (ℓ : Loc nD τ sig) → Buf (Elt Ideal) ℓ)

/-- What one grid point stores, at an index of the block. -/
theorem pay_apply (x0 : Vec Ideal S1024x1024 .bf16) (x1 : Vec Ideal S1024x2048 .bf16) (i : Fin 1024) (j : Fin 2048) :
    k0_pay1 (F := Ideal) x0 x1 (ix2 i j) = Whole.product (fun i k => x0 (ix2 i k)) (fun k j => x1 (ix2 k j)) i j := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

/-- The kernel's result array after the run. -/
def kResult (c : Dev nD) : Vec Ideal S8192x2048 .f32 := fun q =>
  Whole.product (fun i k => m ((c : Thread nD τ).loc main_arg0) (ix2 i k)) (fun k j => m ((c : Thread nD τ).loc main_arg1) (ix2 k j)) (q 0) (q 1)

theorem final (c : Dev nD) : (dats m 0 c).arrAt 2 cfg0.N = kResult m c := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext x; fin_cases x <;> rfl⟩
  refine (pay_apply _ _ i j).trans ?_
  unfold kResult Whole.product
  refine Finset.sum_congr rfl fun k _ => congrArg₂ (fun a b : EReal => a * b) ?_ ?_ <;> blk_ext [iblk, V, idx t]

end kernel

section reference

open Cert.Reference10Ideal Cert.Reference10Ideal.Read

variable (x0 : (⟨S8192x1024, .bf16⟩ : BufTy).Contents (Elt Ideal)) (x1 : (⟨S1024x2048, .bf16⟩ : BufTy).Contents (Elt Ideal))

theorem result : val_main_v2 (F := Ideal) x0 x1 = fun q => Whole.product (fun i k => x0 (ix2 i k)) (fun k j => x1 (ix2 k j)) (q 0) (q 1) := by
  funext q
  obtain ⟨i, j, rfl⟩ : ∃ i j, q = ix2 i j := ⟨q 0, q 1, by funext x; fin_cases x <;> rfl⟩
  pointwise [val_main_v2, val_main_v0, val_main_v1]
  rfl

end reference

/-- The value claim: from equal arguments the two programs end with equal results. -/
theorem value : Cert.algebraic_Kernel10Ideal_Reference10Ideal (hKernel10Ideal := Cert.Kernel10Ideal.Gen.facts) (hReference10Ideal := Cert.Reference10Ideal.Gen.facts) := by
  intro m g m' g' _ hag
  refine ⟨kResult m, ?_, ?_⟩
  · exact (θ_run Cert.Kernel10Ideal.defs _ _).mono (fun r h c => ⟨(h c).1.trans (final m c), (h c).2⟩) (Cert.Kernel10Ideal.Value.run_blocks m g)
  · refine (θ_run Cert.Reference10Ideal.defs _ _).mono (fun r h c => ?_) (Cert.Reference10Ideal.Value.run m' g')
    obtain ⟨e0, e1⟩ := hag c
    refine ⟨((h c).1.trans (Cert.Reference10Ideal.Read.val_main_v2_eq _ _)).trans ((result _ _).trans ?_), (h c).2⟩
    all_goals
      rw [e0, e1]
      rfl

end Cert.InGate
-- ==== Proof.GradInGate.lean ====
/- The gradient of the input projection's gate columns: the kernel and the reference end with equal results. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Whole
public import Idealize.ShloMosaic.Adequacy

@[expose] public section

set_option maxRecDepth 16384

noncomputable section

namespace Cert.GradInGate

open Idealize.ShloMosaic Idealize.ShloMosaic.TcCoe Idealize.SL.Sem

section kernel

open Cert.Kernel11Ideal Cert.Kernel11Ideal.Gen

variable (m : (ℓ : Loc nD τ sig) → Buf (Elt Ideal) ℓ)

/-- The zeros a tile starts from. -/
theorem zeros_apply (i : Fin 1024) (j : Fin 2048) : k0_pay1 (F := Ideal) (ix2 i j) = 0 := by pointwise [k0_pay1]

/-- One step adds the product over its 2048 rows. -/
theorem step_apply (a : Vec Ideal S1024x2048 .f32) (x0 : Vec Ideal S2048x1024 .bf16) (x1 : Vec Ideal S2048x2048 .bf16) (i : Fin 1024) (j : Fin 2048) :
    k0_pay2 (F := Ideal) a x0 x1 (ix2 i j) = a (ix2 i j) + ∑ k : Fin 2048, x0 (ix2 k i) * x1 (ix2 k j) := by
  pointwise [k0_pay2]

theorem cast_apply (a : Vec Ideal S1024x2048 .f32) (q : S1024x2048.Idx) : k0_pay3 (F := Ideal) a q = a q := rfl

/-- What a point adds to its tile. -/
def part (c : Dev nD) (t : Fin cfg0.N) (q : S1024x2048.Idx) : EReal :=
  Whole.weightGrad (fun k i => iblk m c 0 t (ix2 k i)) (fun k j => iblk m c 1 t (ix2 k j)) (q 0 : Fin 1024) (q 1 : Fin 2048)

theorem first (c : Dev nD) (t : Fin cfg0.N) (h : t.val % 4 = 0) (q : S1024x2048.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x2048) (off := ![0, 0]) _ inb_S1024x2048_S1024x2048_0_0 _ (by decide)) _).trans ?_)
  exact zeros_apply i j

theorem next (c : Dev nD) (t : Fin cfg0.N) (h : ¬t.val % 4 = 0) (q : S1024x2048.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x2048.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x2048) (off := ![0, 0]) _ inb_S1024x2048_S1024x2048_0_0 _ (by decide)) _).trans ?_
  symm
  exact (congrFun (Whole.store _ _ _ (by decide) _ _ _) _).trans rfl

theorem idx : ∀ t : Fin cfg0.N, win0_0.index t = ![t.val % 4, 0] ∧ win0_1.index t = ![t.val % 4, 0] ∧ win0_2.index t = ![0, 0] :=
  (by decide +kernel : ∀ t : Fin grid0.N, _)

/-- The kernel's result array after the run. -/
def kGrad (c : Dev nD) : Vec Ideal S1024x2048 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference11Ideal Cert.Reference11Ideal.Read

variable (x0 : (⟨S8192x1024, .bf16⟩ : BufTy).Contents (Elt Ideal)) (x1 : (⟨S8192x2048, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel11Ideal_Reference11Ideal (hKernel11Ideal := Cert.Kernel11Ideal.Gen.facts) (hReference11Ideal := Cert.Reference11Ideal.Gen.facts) := by
  intro m g m' g' _ hag
  refine ⟨kGrad m, ?_, ?_⟩
  · exact (θ_run Cert.Kernel11Ideal.defs _ _).mono (fun r h c => ⟨(h c).1.trans (final m c), (h c).2⟩) (Cert.Kernel11Ideal.Value.run_blocks m g)
  · refine (θ_run Cert.Reference11Ideal.defs _ _).mono (fun r h c => ?_) (Cert.Reference11Ideal.Value.run m' g')
    obtain ⟨e0, e1⟩ := hag c
    refine ⟨((h c).1.trans (Cert.Reference11Ideal.Read.val_main_v6_eq _ _)).trans ((result _ _).trans ?_), (h c).2⟩
    all_goals
      rw [e0, e1]
      rfl

end Cert.GradInGate
-- ==== Proof.InMl.lean ====
/- The input projection's mLSTM columns: the kernel and the reference end with equal results. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Whole
public import Idealize.ShloMosaic.Adequacy

@[expose] public section

set_option maxRecDepth 16384

noncomputable section

namespace Cert.InMl

open Idealize.ShloMosaic Idealize.ShloMosaic.TcCoe Idealize.SL.Sem

section kernel

open Cert.Kernel12Ideal Cert.Kernel12Ideal.Gen

variable (m : (ℓ : Loc nD τ sig) → Buf (Elt Ideal) ℓ)

/-- What one grid point stores, at an index of the block. -/
theorem pay_apply (x0 : Vec Ideal S1024x1024 .bf16) (x1 : Vec Ideal S1024x1792 .bf16) (i : Fin 1024) (j : Fin 1792) :
    k0_pay1 (F := Ideal) x0 x1 (ix2 i j) = Whole.product (fun i k => x0 (ix2 i k)) (fun k j => x1 (ix2 k j)) i j := by
  pointwise [k0_pay1]
  rfl

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The kernel's result array after the run. -/
def kResult (c : Dev nD) : Vec Ideal S8192x3584 .f32 := fun q =>
  Whole.product (fun i k => m ((c : Thread nD τ).loc main_arg0) (ix2 i k)) (fun k j => m ((c : Thread nD τ).loc main_arg1) (ix2 k j)) (q 0) (q 1)

theorem final (c : Dev nD) : (dats m 0 c).arrAt 2 cfg0.N = kResult m c := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext x; fin_cases x <;> rfl⟩
  refine (pay_apply _ _ i j).trans ?_
  unfold kResult Whole.product
  refine Finset.sum_congr rfl fun k _ => congrArg₂ (fun a b : EReal => a * b) ?_ ?_ <;> blk_ext [iblk, V, idx t]

end kernel

section reference

open Cert.Reference12Ideal Cert.Reference12Ideal.Read

variable (x0 : (⟨S8192x1024, .bf16⟩ : BufTy).Contents (Elt Ideal)) (x1 : (⟨S1024x3584, .bf16⟩ : BufTy).Contents (Elt Ideal))

theorem result : val_main_v2 (F := Ideal) x0 x1 = fun q => Whole.product (fun i k => x0 (ix2 i k)) (fun k j => x1 (ix2 k j)) (q 0) (q 1) := by
  funext q
  obtain ⟨i, j, rfl⟩ : ∃ i j, q = ix2 i j := ⟨q 0, q 1, by funext x; fin_cases x <;> rfl⟩
  pointwise [val_main_v2, val_main_v0, val_main_v1]
  rfl

end reference

/-- The value claim: from equal arguments the two programs end with equal results. -/
theorem value : Cert.algebraic_Kernel12Ideal_Reference12Ideal (hKernel12Ideal := Cert.Kernel12Ideal.Gen.facts) (hReference12Ideal := Cert.Reference12Ideal.Gen.facts) := by
  intro m g m' g' _ hag
  refine ⟨kResult m, ?_, ?_⟩
  · exact (θ_run Cert.Kernel12Ideal.defs _ _).mono (fun r h c => ⟨(h c).1.trans (final m c), (h c).2⟩) (Cert.Kernel12Ideal.Value.run_blocks m g)
  · refine (θ_run Cert.Reference12Ideal.defs _ _).mono (fun r h c => ?_) (Cert.Reference12Ideal.Value.run m' g')
    obtain ⟨e0, e1⟩ := hag c
    refine ⟨((h c).1.trans (Cert.Reference12Ideal.Read.val_main_v2_eq _ _)).trans ((result _ _).trans ?_), (h c).2⟩
    all_goals
      rw [e0, e1]
      rfl

end Cert.InMl
-- ==== Proof.GradInMl.lean ====
/- The gradient of the input projection's mLSTM columns: the kernel and the reference end with equal results. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Whole
public import Idealize.ShloMosaic.Adequacy

@[expose] public section

set_option maxRecDepth 16384

noncomputable section

namespace Cert.GradInMl

open Idealize.ShloMosaic Idealize.ShloMosaic.TcCoe Idealize.SL.Sem

section kernel

open Cert.Kernel13Ideal Cert.Kernel13Ideal.Gen

variable (m : (ℓ : Loc nD τ sig) → Buf (Elt Ideal) ℓ)

/-- The zeros a tile starts from. -/
theorem zeros_apply (i : Fin 1024) (j : Fin 1792) : k0_pay1 (F := Ideal) (ix2 i j) = 0 := by pointwise [k0_pay1]

/-- One step adds the product over its 2048 rows. -/
theorem step_apply (a : Vec Ideal S1024x1792 .f32) (x0 : Vec Ideal S2048x1024 .bf16) (x1 : Vec Ideal S2048x1792 .bf16) (i : Fin 1024) (j : Fin 1792) :
    k0_pay2 (F := Ideal) a x0 x1 (ix2 i j) = a (ix2 i j) + ∑ k : Fin 2048, x0 (ix2 k i) * x1 (ix2 k j) := by
  pointwise [k0_pay2]

theorem cast_apply (a : Vec Ideal S1024x1792 .f32) (q : S1024x1792.Idx) : k0_pay3 (F := Ideal) a q = a q := rfl

/-- What a point adds to its tile. -/
def part (c : Dev nD) (t : Fin cfg0.N) (q : S1024x1792.Idx) : EReal :=
  Whole.weightGrad (fun k i => iblk m c 0 t (ix2 k i)) (fun k j => iblk m c 1 t (ix2 k j)) (q 0 : Fin 1024) (q 1 : Fin 1792)

theorem first (c : Dev nD) (t : Fin cfg0.N) (h : t.val % 4 = 0) (q : S1024x1792.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1792) (off := ![0, 0]) _ inb_S1024x1792_S1024x1792_0_0 _ (by decide)) _).trans ?_)
  exact zeros_apply i j

theorem next (c : Dev nD) (t : Fin cfg0.N) (h : ¬t.val % 4 = 0) (q : S1024x1792.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x1792.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x1792) (off := ![0, 0]) _ inb_S1024x1792_S1024x1792_0_0 _ (by decide)) _).trans ?_
  symm
  exact (congrFun (Whole.store _ _ _ (by decide) _ _ _) _).trans rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The kernel's result array after the run. -/
def kGrad (c : Dev nD) : Vec Ideal S1024x3584 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference13Ideal Cert.Reference13Ideal.Read

variable (x0 : (⟨S8192x1024, .bf16⟩ : BufTy).Contents (Elt Ideal)) (x1 : (⟨S8192x3584, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel13Ideal_Reference13Ideal (hKernel13Ideal := Cert.Kernel13Ideal.Gen.facts) (hReference13Ideal := Cert.Reference13Ideal.Gen.facts) := by
  intro m g m' g' _ hag
  refine ⟨kGrad m, ?_, ?_⟩
  · exact (θ_run Cert.Kernel13Ideal.defs _ _).mono (fun r h c => ⟨(h c).1.trans (final m c), (h c).2⟩) (Cert.Kernel13Ideal.Value.run_blocks m g)
  · refine (θ_run Cert.Reference13Ideal.defs _ _).mono (fun r h c => ?_) (Cert.Reference13Ideal.Value.run m' g')
    obtain ⟨e0, e1⟩ := hag c
    refine ⟨((h c).1.trans (Cert.Reference13Ideal.Read.val_main_v6_eq _ _)).trans ((result _ _).trans ?_), (h c).2⟩
    all_goals
      rw [e0, e1]
      rfl

end Cert.GradInMl
-- ==== Proof.GradUMl.lean ====
/- The gradient of the input projection's input, from its mLSTM columns: the kernel and the reference end with equal results. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Whole
public import Idealize.ShloMosaic.Adequacy

@[expose] public section

set_option maxRecDepth 16384

noncomputable section

namespace Cert.GradUMl

open Idealize.ShloMosaic Idealize.ShloMosaic.TcCoe Idealize.SL.Sem

section kernel

open Cert.Kernel14Ideal Cert.Kernel14Ideal.Gen

variable (m : (ℓ : Loc nD τ sig) → Buf (Elt Ideal) ℓ)

/-- The zeros a tile starts from. -/
theorem zeros_apply (i : Fin 1024) (j : Fin 1024) : k0_pay1 (F := Ideal) (ix2 i j) = 0 := by pointwise [k0_pay1]

/-- One step adds the product over its 1792 columns. -/
theorem step_apply (a : Vec Ideal S1024x1024 .f32) (x0 x1 : Vec Ideal S1024x1792 .bf16) (i : Fin 1024) (j : Fin 1024) :
    k0_pay2 (F := Ideal) a x0 x1 (ix2 i j) = a (ix2 i j) + ∑ k : Fin 1792, x0 (ix2 i k) * x1 (ix2 j k) := by
  pointwise [k0_pay2]

/-- The last step adds the gradient that comes from the other columns. -/
theorem add_apply (a e : Vec Ideal S1024x1024 .f32) (q : S1024x1024.Idx) : k0_pay3 (F := Ideal) a e q = a q + e q := rfl

/-- What a point adds to its tile. -/
def part (c : Dev nD) (t : Fin cfg0.N) (q : S1024x1024.Idx) : EReal :=
  Whole.inputGrad (b := 1792) (fun i k => iblk m c 0 t (ix2 i k)) (fun j k => iblk m c 1 t (ix2 j k)) (q 0 : Fin 1024) (q 1 : Fin 1024)

theorem first (c : Dev nD) (t : Fin cfg0.N) (h : t.val % 2 = 0) (q : S1024x1024.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1024) (off := ![0, 0]) _ inb_S1024x1024_S1024x1024_0_0 _ (by decide)) _).trans ?_)
  exact zeros_apply i j

theorem next (c : Dev nD) (t : Fin cfg0.N) (h : ¬t.val % 2 = 0) (q : S1024x1024.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  rw [outsAt0_B m c t h (by omega)]
  dsimp only
  unfold sout0_B_0
  refine (congrFun (Whole.store _ _ _ (by decide) _ _ _) _).trans ((step_apply _ _ _ i j).trans ?_)
  rw [Whole.load _ _ _ _ (by decide), Whole.load _ _ _ _ (by decide), Whole.load _ _ _ _ (by decide)]
  rfl

/-- The last step of a tile stores the tile's sum and the block that is added. -/
theorem last (c : Dev nD) (t : Fin cfg0.N) (h : t.val % 2 = 1) (q : S1024x1024.Idx) :
    (outsAt0 m c t.val t.isLt).1 q = (show EReal from (outsAt0 m c t.val t.isLt).2 q) + (show EReal from iblk m c 2 t q) := by
  rw [outsAt0_B m c t (by omega) h]
  dsimp only
  unfold out0_B_3 sout0_B_0
  refine (congrFun (Whole.store _ _ _ (by decide) _ _ _) _).trans ((add_apply _ _ _).trans ?_)
  rw [Whole.load _ _ _ _ (by decide)]
  refine congrArg (fun a : EReal => a + (show EReal from iblk m c 2 t q)) ?_
  refine (congrFun (View.readCov_unit_lit (S := S1024x1024) (off := ![0, 0]) _ inb_S1024x1024_S1024x1024_0_0 _ (by decide)) _).trans ?_
  symm
  exact (congrFun (Whole.store _ _ _ (by decide) _ _ _) _).trans rfl

theorem idx : ∀ t : Fin cfg0.N, win0_0.index t = ![t.val / 2, t.val % 2] ∧ win0_1.index t = ![0, t.val % 2] ∧ win0_2.index t = ![t.val / 2, 0] ∧ win0_3.index t = ![t.val / 2, 0] :=
  (by decide +kernel : ∀ t : Fin grid0.N, _)

/-- The kernel's result array after the run. -/
def kResult (c : Dev nD) : Vec Ideal S8192x1024 .f32 := fun q =>
  Whole.inputGrad (fun i k => m ((c : Thread nD τ).loc main_arg0) (ix2 i k)) (fun j k => m ((c : Thread nD τ).loc main_arg1) (ix2 j k)) (q 0) (q 1) + (show EReal from m ((c : Thread nD τ).loc main_arg2) (ix2 (q 0) (q 1)))

theorem final (c : Dev nD) : (dats m 0 c).arrAt 3 cfg0.N = kResult m c := by
  refine (dats m 0 c).arrAt_eq_of_covers 3 _ (by decide +kernel) fun t hf y => ?_
  blk_simp
  have h3 : t.val % 2 = 1 := (flush0_3 t).mp hf
  rw [after0_3, last m c t h3, Pipeline.eq_sum_fin_of_reset_step_apply_of_flush (fun n h => (outsAt0 m c n h).2) 2 (fun _ => 0) (part m c)
    (first m c) (next m c) t h3 _, zero_add]
  unfold part kResult Whole.inputGrad
  refine congrArg₂ (fun a b : EReal => a + b) (Fin.sum_mul_add_congr fun s k hl => ?_) ?_
  · refine congrArg₂ (fun a b : EReal => a * b) ?_ ?_ <;> blk_ext [iblk, V, idx t, idx ⟨2 * (t.val / 2) + s.val, Pipeline.run_point_lt_of_flush t h3 s⟩]
  · blk_ext [iblk, V, idx t]

end kernel

section reference

open Cert.Reference14Ideal Cert.Reference14Ideal.Read

variable (x0 : (⟨S8192x3584, .bf16⟩ : BufTy).Contents (Elt Ideal)) (x1 : (⟨S1024x3584, .bf16⟩ : BufTy).Contents (Elt Ideal)) (x2 : (⟨S8192x1024, .f32⟩ : BufTy).Contents (Elt Ideal))

theorem product_apply : val_main_v4 (F := Ideal) x0 x1 = fun q => Whole.inputGrad (fun i k => x0 (ix2 i k)) (fun j k => x1 (ix2 j k)) (q 0) (q 1) := by
  funext q
  obtain ⟨i, j, rfl⟩ : ∃ i j, q = ix2 i j := ⟨q 0, q 1, by funext x; fin_cases x <;> rfl⟩
  pointwise [val_main_v4, val_main_v0, val_main_v1]
  rfl

theorem result : val_main_v5 (F := Ideal) x0 x1 x2 = fun q => Whole.inputGrad (fun i k => x0 (ix2 i k)) (fun j k => x1 (ix2 j k)) (q 0) (q 1) + (show EReal from x2 (ix2 (q 0) (q 1))) := by
  funext q
  obtain ⟨i, j, rfl⟩ : ∃ i j, q = ix2 i j := ⟨q 0, q 1, by funext x; fin_cases x <;> rfl⟩
  rw [val_main_v5_apply, product_apply]
  rfl

end reference

/-- The value claim: from equal arguments the two programs end with equal results. -/
theorem value : Cert.algebraic_Kernel14Ideal_Reference14Ideal (hKernel14Ideal := Cert.Kernel14Ideal.Gen.facts) (hReference14Ideal := Cert.Reference14Ideal.Gen.facts) := by
  intro m g m' g' _ hag
  refine ⟨kResult m, ?_, ?_⟩
  · exact (θ_run Cert.Kernel14Ideal.defs _ _).mono (fun r h c => ⟨(h c).1.trans (final m c), (h c).2⟩) (Cert.Kernel14Ideal.Value.run_blocks m g)
  · refine (θ_run Cert.Reference14Ideal.defs _ _).mono (fun r h c => ?_) (Cert.Reference14Ideal.Value.run m' g')
    obtain ⟨e0, e1, e2⟩ := hag c
    refine ⟨((h c).1.trans (Cert.Reference14Ideal.Read.val_main_v5_eq _ _ _)).trans ((result _ _ _).trans ?_), (h c).2⟩
    all_goals
      rw [e0, e1, e2]
      rfl

end Cert.GradUMl
-- ==== Proof.GradOut.lean ====
/- The gradient of the output projection: the kernel and the reference end with equal results. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Whole
public import Idealize.ShloMosaic.Adequacy

@[expose] public section

set_option maxRecDepth 16384

noncomputable section

namespace Cert.GradOut

open Idealize.ShloMosaic Idealize.ShloMosaic.TcCoe Idealize.SL.Sem

section kernel

open Cert.Kernel15Ideal Cert.Kernel15Ideal.Gen

variable (m : (ℓ : Loc nD τ sig) → Buf (Elt Ideal) ℓ)

/-- The zeros a tile starts from. -/
theorem zeros_apply (i : Fin 1024) (j : Fin 1024) : k0_pay1 (F := Ideal) (ix2 i j) = 0 := by pointwise [k0_pay1]

/-- One step adds the product over its 2048 rows. -/
theorem step_apply (a : Vec Ideal S1024x1024 .f32) (x0 : Vec Ideal S2048x1024 .bf16) (x1 : Vec Ideal S2048x1024 .bf16) (i : Fin 1024) (j : Fin 1024) :
    k0_pay2 (F := Ideal) a x0 x1 (ix2 i j) = a (ix2 i j) + ∑ k : Fin 2048, x0 (ix2 k i) * x1 (ix2 k j) := by
  pointwise [k0_pay2]

theorem cast_apply (a : Vec Ideal S1024x1024 .f32) (q : S1024x1024.Idx) : k0_pay3 (F := Ideal) a q = a q := rfl

/-- What a point adds to its tile. -/
def part (c : Dev nD) (t : Fin cfg0.N) (q : S1024x1024.Idx) : EReal :=
  Whole.weightGrad (fun k i => iblk m c 0 t (ix2 k i)) (fun k j => iblk m c 1 t (ix2 k j)) (q 0 : Fin 1024) (q 1 : Fin 1024)

theorem first (c : Dev nD) (t : Fin cfg0.N) (h : t.val % 4 = 0) (q : S1024x1024.Idx) : (outsAt0 m c t.val t.isLt).2 q = 0 + part m c t q := by
  obtain ⟨i, j, rfl⟩ : ∃ i j, q = ix2 i j := ⟨q 0, q 1, by funext x; fin_cases x <;> rfl⟩
  rw [outsAt0_A m c t h (by omega)]
  dsimp only
  unfold sout0_A_0
  refine (congrFun (Whole.store _ _ _ (by decide) _ _ _) _).trans ((step_apply _ _ _ i j).trans ?_)
  rw [Whole.load _ _ _ _ (by decide), Whole.load _ _ _ _ (by decide)]
  refine congrArg (· + part m c t (ix2 i j)) ((congrFun (View.readCov_unit_lit (S := S1024x1024) (off := ![0, 0]) _ inb_S1024x1024_S1024x1024_0_0 _ (by decide)) _).trans ?_)
  exact zeros_apply i j

theorem next (c : Dev nD) (t : Fin cfg0.N) (h : ¬t.val % 4 = 0) (q : S1024x1024.Idx) :
    (outsAt0 m c t.val t.isLt).2 q = (outsAt0 m c (t.val - 1) (Nat.lt_of_le_of_lt (Nat.sub_le _ _) t.isLt)).2 q + part m c t q := by
  obtain ⟨i, j, rfl⟩ : ∃ i j, q = ix2 i j := ⟨q 0, q 1, by funext x; fin_cases x <;> rfl⟩
  by_cases h1 : t.val % 4 = 3
  · rw [outsAt0_C m c t h h1]
    dsimp only
    unfold sout0_C_0
    refine (congrFun (Whole.store _ _ _ (by decide) _ _ _) _).trans ((step_apply _ _ _ i j).trans ?_)
    rw [Whole.load _ _ _ _ (by decide), Whole.load _ _ _ _ (by decide), Whole.load _ _ _ _ (by decide)]
    rfl
  · rw [outsAt0_B m c t h h1]
    dsimp only
    unfold sout0_B_0
    refine (congrFun (Whole.store _ _ _ (by decide) _ _ _) _).trans ((step_apply _ _ _ i j).trans ?_)
    rw [Whole.load _ _ _ _ (by decide), Whole.load _ _ _ _ (by decide), Whole.load _ _ _ _ (by decide)]
    rfl

/-- The last step of a tile stores the tile's sum. -/
theorem last (c : Dev nD) (t : Fin cfg0.N) (h : t.val % 4 = 3) (q : S1024x1024.Idx) : (outsAt0 m c t.val t.isLt).1 q = (outsAt0 m c t.val t.isLt).2 q := by
  rw [outsAt0_C m c t (by omega) h]
  dsimp only
  unfold out0_C_2 sout0_C_0
  refine (congrFun (Whole.store _ _ _ (by decide) _ _ _) _).trans ((cast_apply _ _).trans ?_)
  refine (congrFun (View.readCov_unit_lit (S := S1024x1024) (off := ![0, 0]) _ inb_S1024x1024_S1024x1024_0_0 _ (by decide)) _).trans ?_
  symm
  exact (congrFun (Whole.store _ _ _ (by decide) _ _ _) _).trans rfl

theorem idx : ∀ t : Fin cfg0.N, win0_0.index t = ![t.val % 4, 0] ∧ win0_1.index t = ![t.val % 4, 0] ∧ win0_2.index t = ![0, 0] :=
  (by decide +kernel : ∀ t : Fin grid0.N, _)

/-- The kernel's result array after the run. -/
def kGrad (c : Dev nD) : Vec Ideal S1024x1024 .bf16 := fun q =>
  Whole.weightGrad (fun n i => m ((c : Thread nD τ).loc main_arg0) (ix2 n i)) (fun n j => m ((c : Thread nD τ).loc main_arg1) (ix2 n j)) (q 0) (q 1)

theorem final (c : Dev nD) : (dats m 0 c).arrAt 2 cfg0.N = kGrad m c := by
  refine (dats m 0 c).arrAt_eq_of_covers 2 _ (by decide +kernel) fun t hf y => ?_
  blk_simp
  have h3 : t.val % 4 = 3 := (flush0_2 t).mp hf
  rw [after0_2, last m c t h3, Pipeline.eq_sum_fin_of_reset_step_apply_of_flush (fun n h => (outsAt0 m c n h).2) 4 (fun _ => 0) (part m c)
    (first m c) (next m c) t h3 _, zero_add]
  unfold part kGrad Whole.weightGrad
  refine Fin.sum_mul_add_congr fun s k hl => ?_
  refine congrArg₂ (fun a b : EReal => a * b) ?_ ?_ <;> blk_ext [iblk, V, idx t, idx ⟨4 * (t.val / 4) + s.val, Pipeline.run_point_lt_of_flush t h3 s⟩]

end kernel

section reference

open Cert.Reference15Ideal Cert.Reference15Ideal.Read

variable (x0 x1 : (⟨S8192x1024, .bf16⟩ : BufTy).Contents (Elt Ideal))

theorem result : val_main_v6 (F := Ideal) x0 x1 = fun q => Whole.weightGrad (fun n i => x0 (ix2 n i)) (fun n j => x1 (ix2 n j)) (q 0) (q 1) := by
  funext q
  obtain ⟨i, j, rfl⟩ : ∃ i j, q = ix2 i j := ⟨q 0, q 1, by funext x; fin_cases x <;> rfl⟩
  pointwise [val_main_v6, val_main_v5, val_main_v4, val_main_v1, val_main_v2]
  exact Finset.sum_congr rfl fun n _ => mul_comm _ _

end reference

/-- The value claim: from equal arguments the two programs end with equal results. -/
theorem value : Cert.algebraic_Kernel15Ideal_Reference15Ideal (hKernel15Ideal := Cert.Kernel15Ideal.Gen.facts) (hReference15Ideal := Cert.Reference15Ideal.Gen.facts) := by
  intro m g m' g' _ hag
  refine ⟨kGrad m, ?_, ?_⟩
  · exact (θ_run Cert.Kernel15Ideal.defs _ _).mono (fun r h c => ⟨(h c).1.trans (final m c), (h c).2⟩) (Cert.Kernel15Ideal.Value.run_blocks m g)
  · refine (θ_run Cert.Reference15Ideal.defs _ _).mono (fun r h c => ?_) (Cert.Reference15Ideal.Value.run m' g')
    obtain ⟨e0, e1⟩ := hag c
    refine ⟨((h c).1.trans (Cert.Reference15Ideal.Read.val_main_v6_eq _ _)).trans ((result _ _).trans ?_), (h c).2⟩
    all_goals
      rw [e0, e1]
      rfl

end Cert.GradOut
-- ==== Proof.GradHg.lean ====
/- The gradient of the mLSTM's gated output: the kernel and the reference end with equal results. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Whole
public import Idealize.ShloMosaic.Adequacy

@[expose] public section

set_option maxRecDepth 16384

noncomputable section

namespace Cert.GradHg

open Idealize.ShloMosaic Idealize.ShloMosaic.TcCoe Idealize.SL.Sem

section kernel

open Cert.Kernel16Ideal Cert.Kernel16Ideal.Gen

variable (m : (ℓ : Loc nD τ sig) → Buf (Elt Ideal) ℓ)

/-- What one grid point stores, at an index of the block. -/
theorem pay_apply (x0 : Vec Ideal S1024x1024 .bf16) (x1 : Vec Ideal S1024x1024 .bf16) (i : Fin 1024) (j : Fin 1024) :
    k0_pay1 (F := Ideal) x0 x1 (ix2 i j) = Whole.inputGrad (fun i k => x0 (ix2 i k)) (fun j k => x1 (ix2 j k)) i j := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

/-- The kernel's result array after the run. -/
def kResult (c : Dev nD) : Vec Ideal S8192x1024 .f32 := fun q =>
  Whole.inputGrad (fun i k => m ((c : Thread nD τ).loc main_arg0) (ix2 i k)) (fun j k => m ((c : Thread nD τ).loc main_arg1) (ix2 j k)) (q 0) (q 1)

theorem final (c : Dev nD) : (dats m 0 c).arrAt 2 cfg0.N = kResult m c := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext x; fin_cases x <;> rfl⟩
  refine (pay_apply _ _ i j).trans ?_
  unfold kResult Whole.inputGrad
  refine Finset.sum_congr rfl fun k _ => congrArg₂ (fun a b : EReal => a * b) ?_ ?_ <;> blk_ext [iblk, V, idx t]

end kernel

section reference

open Cert.Reference16Ideal Cert.Reference16Ideal.Read

variable (x0 : (⟨S8192x1024, .bf16⟩ : BufTy).Contents (Elt Ideal)) (x1 : (⟨S1024x1024, .bf16⟩ : BufTy).Contents (Elt Ideal))

theorem result : val_main_v4 (F := Ideal) x0 x1 = fun q => Whole.inputGrad (fun i k => x0 (ix2 i k)) (fun j k => x1 (ix2 j k)) (q 0) (q 1) := by
  funext q
  obtain ⟨i, j, rfl⟩ : ∃ i j, q = ix2 i j := ⟨q 0, q 1, by funext x; fin_cases x <;> rfl⟩
  pointwise [val_main_v4, val_main_v0, val_main_v1]
  rfl

end reference

/-- The value claim: from equal arguments the two programs end with equal results. -/
theorem value : Cert.algebraic_Kernel16Ideal_Reference16Ideal (hKernel16Ideal := Cert.Kernel16Ideal.Gen.facts) (hReference16Ideal := Cert.Reference16Ideal.Gen.facts) := by
  intro m g m' g' _ hag
  refine ⟨kResult m, ?_, ?_⟩
  · exact (θ_run Cert.Kernel16Ideal.defs _ _).mono (fun r h c => ⟨(h c).1.trans (final m c), (h c).2⟩) (Cert.Kernel16Ideal.Value.run_blocks m g)
  · refine (θ_run Cert.Reference16Ideal.defs _ _).mono (fun r h c => ?_) (Cert.Reference16Ideal.Value.run m' g')
    obtain ⟨e0, e1⟩ := hag c
    refine ⟨((h c).1.trans (Cert.Reference16Ideal.Read.val_main_v4_eq _ _)).trans ((result _ _).trans ?_), (h c).2⟩
    all_goals
      rw [e0, e1]
      rfl

end Cert.GradHg
-- ==== Proof.lean ====
/- The five claims about each of the 29 calls, from the certificates of the modules below; the value claim of the gradient of the dilated attention is put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.AdamFf1
public import proofs.«01_k».proof.Proof.AdamFf2
public import proofs.«01_k».proof.Proof.AdamOut
public import proofs.«01_k».proof.Proof.AdamAttOut
public import proofs.«01_k».proof.Proof.AdamIn
public import proofs.«01_k».proof.Proof.AdamAda
public import proofs.«01_k».proof.Proof.AdamConv
public import proofs.«01_k».proof.Proof.AdamSmall1
public import proofs.«01_k».proof.Proof.SmallSum
public import proofs.«01_k».proof.Proof.GradAda
public import proofs.«01_k».proof.Proof.InNormGrad
public import proofs.«01_k».proof.Proof.AdamSmall2
public import proofs.«01_k».proof.Proof.AdamSmall3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Final
public import proofs.«01_k».proof.Proof.RefResults
public import proofs.«01_k».proof.Proof.ReluGrad
public import proofs.«01_k».proof.Proof.NormGrad
public import proofs.«01_k».proof.Proof.GradFf1
public import proofs.«01_k».proof.Proof.GradFf2
public import proofs.«01_k».proof.Proof.Hidden
public import proofs.«01_k».proof.Proof.InAtt
public import proofs.«01_k».proof.Proof.GradInAtt
public import proofs.«01_k».proof.Proof.GradUAtt
public import proofs.«01_k».proof.Proof.InGate
public import proofs.«01_k».proof.Proof.GradInGate
public import proofs.«01_k».proof.Proof.InMl
public import proofs.«01_k».proof.Proof.GradInMl
public import proofs.«01_k».proof.Proof.GradUMl
public import proofs.«01_k».proof.Proof.GradOut
public import proofs.«01_k».proof.Proof.GradHg
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

section value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments in its own memory, on device `c`. -/
def rArgs (c : Dev Cert.ReferenceIdeal.nD) : AttnBwd.Args :=
  AttnBwd.Ref.args (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))

/-- The reference's four results after its run. -/
theorem reference_results (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v202) = (fun j => (rArgs m' c).dp (j 0) (j 1) (j 2))
      ∧ r.2.mem ((c.tc : Thread Cert.ReferenceIdeal.nD Cert.ReferenceIdeal.τ).loc Cert.ReferenceIdeal.main_v140) = (fun j => (rArgs m' c).db (j 0) (j 1) (j 2))
      ∧ r.2.mem ((c.tc : Thread Cert.ReferenceIdeal.nD Cert.ReferenceIdeal.τ).loc Cert.ReferenceIdeal.main_v203) = (fun j => (rArgs m' c).dg (j 1))
      ∧ r.2.mem ((c.tc : Thread Cert.ReferenceIdeal.nD Cert.ReferenceIdeal.τ).loc Cert.ReferenceIdeal.main_v204) = (fun j => (rArgs m' c).dh (j 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) :=
  (θ_run Cert.ReferenceIdeal.defs _ _).mono (fun r h c => by
    obtain ⟨h0, h1, h2, h3, ha⟩ := h c
    exact ⟨(h0.trans (Cert.ReferenceIdeal.Read.val_main_v202_eq (StableHlo.launchContents m' c))).trans (AttnBwd.Ref.dp_result _ _ _ _ _ _ _),
      (h1.trans (Cert.ReferenceIdeal.Read.val_main_v140_eq (StableHlo.launchContents m' c))).trans (AttnBwd.Ref.db_result _ _ _ _ _ _ _),
      (h2.trans (Cert.ReferenceIdeal.Read.val_main_v203_eq (StableHlo.launchContents m' c))).trans (AttnBwd.Ref.dg_result _ _ _ _ _ _ _),
      (h3.trans (Cert.ReferenceIdeal.Read.val_main_v204_eq (StableHlo.launchContents m' c))).trans (AttnBwd.Ref.dh_result _ _ _ _ _ _ _), ha⟩)
    (Cert.ReferenceIdeal.Value.run m' g')

end value

/-- The value claim: both programs end with the four gradients of `Args`, of the same arguments. -/
theorem value : Cert.algebraic_KernelIdeal_ReferenceIdeal (hKernelIdeal := Cert.KernelIdeal.Gen.facts) (hReferenceIdeal := Cert.ReferenceIdeal.Gen.facts) := by
  intro m g m' g' _ hag
  have e : ∀ c : Dev Cert.KernelIdeal.nD, rArgs m' c = AttnBwd.kArgs m c := fun c => by
    obtain ⟨h0, h1, h2, h3, h4, h5, h6⟩ := hag c
    unfold rArgs
    rw [h0, h1, h2, h3, h4, h5, h6]
    rfl
  refine ⟨AttnBwd.kDp m, AttnBwd.kDb m, AttnBwd.kDg m, AttnBwd.kDh m, ?_, ?_⟩
  · exact (θ_run Cert.KernelIdeal.defs _ _).mono (fun r h c => by
      obtain ⟨h0, h1, h2, h3, ha⟩ := h c
      exact ⟨h0.trans (AttnBwd.final8 m c), h1.trans (AttnBwd.final9 m c), h2.trans (AttnBwd.final10 m c), h3.trans (AttnBwd.final11 m c), ha⟩)
      (Cert.KernelIdeal.Value.run_blocks m g)
  · exact (θ_run Cert.ReferenceIdeal.defs _ _).mono (fun r h c => by
      obtain ⟨h0, h1, h2, h3, ha⟩ := h c
      rw [e c] at h0 h1 h2 h3
      exact ⟨h0, h1, h2, h3, ha⟩)
      (reference_results m' g')

/-- Everything claimed: for each call the three frames, the printed kernel's own text kept by its idealization, and the value. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  fun m g _ => Cert.Kernel.Gen.frame m g,
  fun m g _ => Cert.KernelIdeal.Gen.frame m g,
  fun m g _ => (θ_run Cert.ReferenceIdeal.defs _ _).mono (fun r h => ⟨fun c => (h c).2.2.2.2, sem_eq_zero_of_no_sems (by decide) r.2⟩) (Cert.ReferenceIdeal.Value.run m g),
  fun m g _ => Cert.Kernel2.Gen.frame m g,
  fun m g _ => Cert.Kernel2Ideal.Gen.frame m g,
  fun m g _ => (θ_run Cert.Reference2Ideal.defs _ _).mono (fun r h => ⟨fun c => (h c).2, sem_eq_zero_of_no_sems (by decide) r.2⟩) (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2.2.2.2.2.2, sem_eq_zero_of_no_sems (by decide) r.2⟩) (Cert.Reference3Ideal.Value.run m g),
  fun m g _ => Cert.Kernel4.Gen.frame m g,
  fun m g _ => Cert.Kernel4Ideal.Gen.frame m g,
  fun m g _ => (θ_run Cert.Reference4Ideal.defs _ _).mono (fun r h => ⟨fun c => (h c).2, sem_eq_zero_of_no_sems (by decide) r.2⟩) (Cert.Reference4Ideal.Value.run m g),
  fun m g _ => Cert.Kernel5.Gen.frame m g,
  fun m g _ => Cert.Kernel5Ideal.Gen.frame m g,
  fun m g _ => (θ_run Cert.Reference5Ideal.defs _ _).mono (fun r h => ⟨fun c => (h c).2, sem_eq_zero_of_no_sems (by decide) r.2⟩) (Cert.Reference5Ideal.Value.run m g),
  fun m g _ => Cert.Kernel6.Gen.frame m g,
  fun m g _ => Cert.Kernel6Ideal.Gen.frame m g,
  fun m g _ => (θ_run Cert.Reference6Ideal.defs _ _).mono (fun r h => ⟨fun c => (h c).2.2, sem_eq_zero_of_no_sems (by decide) r.2⟩) (Cert.Reference6Ideal.Value.run m g),
  fun m g _ => Cert.Kernel7.Gen.frame m g,
  fun m g _ => Cert.Kernel7Ideal.Gen.frame m g,
  fun m g _ => (θ_run Cert.Reference7Ideal.defs _ _).mono (fun r h => ⟨fun c => (h c).2, sem_eq_zero_of_no_sems (by decide) r.2⟩) (Cert.Reference7Ideal.Value.run m g),
  fun m g _ => Cert.Kernel8.Gen.frame m g,
  fun m g _ => Cert.Kernel8Ideal.Gen.frame m g,
  fun m g _ => (θ_run Cert.Reference8Ideal.defs _ _).mono (fun r h => ⟨fun c => (h c).2, sem_eq_zero_of_no_sems (by decide) r.2⟩) (Cert.Reference8Ideal.Value.run m g),
  fun m g _ => Cert.Kernel9.Gen.frame m g,
  fun m g _ => Cert.Kernel9Ideal.Gen.frame m g,
  fun m g _ => (θ_run Cert.Reference9Ideal.defs _ _).mono (fun r h => ⟨fun c => (h c).2, sem_eq_zero_of_no_sems (by decide) r.2⟩) (Cert.Reference9Ideal.Value.run m g),
  fun m g _ => Cert.Kernel10.Gen.frame m g,
  fun m g _ => Cert.Kernel10Ideal.Gen.frame m g,
  fun m g _ => (θ_run Cert.Reference10Ideal.defs _ _).mono (fun r h => ⟨fun c => (h c).2, sem_eq_zero_of_no_sems (by decide) r.2⟩) (Cert.Reference10Ideal.Value.run m g),
  fun m g _ => Cert.Kernel11.Gen.frame m g,
  fun m g _ => Cert.Kernel11Ideal.Gen.frame m g,
  fun m g _ => (θ_run Cert.Reference11Ideal.defs _ _).mono (fun r h => ⟨fun c => (h c).2, sem_eq_zero_of_no_sems (by decide) r.2⟩) (Cert.Reference11Ideal.Value.run m g),
  fun m g _ => Cert.Kernel12.Gen.frame m g,
  fun m g _ => Cert.Kernel12Ideal.Gen.frame m g,
  fun m g _ => (θ_run Cert.Reference12Ideal.defs _ _).mono (fun r h => ⟨fun c => (h c).2, sem_eq_zero_of_no_sems (by decide) r.2⟩) (Cert.Reference12Ideal.Value.run m g),
  fun m g _ => Cert.Kernel13.Gen.frame m g,
  fun m g _ => Cert.Kernel13Ideal.Gen.frame m g,
  fun m g _ => (θ_run Cert.Reference13Ideal.defs _ _).mono (fun r h => ⟨fun c => (h c).2, sem_eq_zero_of_no_sems (by decide) r.2⟩) (Cert.Reference13Ideal.Value.run m g),
  fun m g _ => Cert.Kernel14.Gen.frame m g,
  fun m g _ => Cert.Kernel14Ideal.Gen.frame m g,
  fun m g _ => (θ_run Cert.Reference14Ideal.defs _ _).mono (fun r h => ⟨fun c => (h c).2, sem_eq_zero_of_no_sems (by decide) r.2⟩) (Cert.Reference14Ideal.Value.run m g),
  fun m g _ => Cert.Kernel15.Gen.frame m g,
  fun m g _ => Cert.Kernel15Ideal.Gen.frame m g,
  fun m g _ => (θ_run Cert.Reference15Ideal.defs _ _).mono (fun r h => ⟨fun c => (h c).2, sem_eq_zero_of_no_sems (by decide) r.2⟩) (Cert.Reference15Ideal.Value.run m g),
  fun m g _ => Cert.Kernel16.Gen.frame m g,
  fun m g _ => Cert.Kernel16Ideal.Gen.frame m g,
  fun m g _ => (θ_run Cert.Reference16Ideal.defs _ _).mono (fun r h => ⟨fun c => (h c).2, sem_eq_zero_of_no_sems (by decide) r.2⟩) (Cert.Reference16Ideal.Value.run m g),
  fun m g _ => Cert.Kernel17.Gen.frame m g,
  fun m g _ => Cert.Kernel17Ideal.Gen.frame m g,
  fun m g _ => (θ_run Cert.Reference17Ideal.defs _ _).mono (fun r h => ⟨fun c => (h c).2.2.2.2, sem_eq_zero_of_no_sems (by decide) r.2⟩) (Cert.Reference17Ideal.Value.run m g),
  fun m g _ => Cert.Kernel18.Gen.frame m g,
  fun m g _ => Cert.Kernel18Ideal.Gen.frame m g,
  fun m g _ => (θ_run Cert.Reference18Ideal.defs _ _).mono (fun r h => ⟨fun c => (h c).2.2.2.2, sem_eq_zero_of_no_sems (by decide) r.2⟩) (Cert.Reference18Ideal.Value.run m g),
  fun m g _ => Cert.Kernel19.Gen.frame m g,
  fun m g _ => Cert.Kernel19Ideal.Gen.frame m g,
  fun m g _ => (θ_run Cert.Reference19Ideal.defs _ _).mono (fun r h => ⟨fun c => (h c).2.2.2.2, sem_eq_zero_of_no_sems (by decide) r.2⟩) (Cert.Reference19Ideal.Value.run m g),
  fun m g _ => Cert.Kernel20.Gen.frame m g,
  fun m g _ => Cert.Kernel20Ideal.Gen.frame m g,
  fun m g _ => (θ_run Cert.Reference20Ideal.defs _ _).mono (fun r h => ⟨fun c => (h c).2.2.2.2, sem_eq_zero_of_no_sems (by decide) r.2⟩) (Cert.Reference20Ideal.Value.run m g),
  fun m g _ => Cert.Kernel21.Gen.frame m g,
  fun m g _ => Cert.Kernel21Ideal.Gen.frame m g,
  fun m g _ => (θ_run Cert.Reference21Ideal.defs _ _).mono (fun r h => ⟨fun c => (h c).2.2.2.2, sem_eq_zero_of_no_sems (by decide) r.2⟩) (Cert.Reference21Ideal.Value.run m g),
  fun m g _ => Cert.Kernel22.Gen.frame m g,
  fun m g _ => Cert.Kernel22Ideal.Gen.frame m g,
  fun m g _ => (θ_run Cert.Reference22Ideal.defs _ _).mono (fun r h => ⟨fun c => (h c).2.2.2.2, sem_eq_zero_of_no_sems (by decide) r.2⟩) (Cert.Reference22Ideal.Value.run m g),
  fun m g _ => Cert.Kernel23.Gen.frame m g,
  fun m g _ => Cert.Kernel23Ideal.Gen.frame m g,
  fun m g _ => (θ_run Cert.Reference23Ideal.defs _ _).mono (fun r h => ⟨fun c => (h c).2.2.2.2, sem_eq_zero_of_no_sems (by decide) r.2⟩) (Cert.Reference23Ideal.Value.run m g),
  fun m g _ => Cert.Kernel24.Gen.frame m g,
  fun m g _ => Cert.Kernel24Ideal.Gen.frame m g,
  fun m g _ => (θ_run Cert.Reference24Ideal.defs _ _).mono (fun r h => ⟨fun c => (h c).2.2.2.2.2.2.2.2.2, sem_eq_zero_of_no_sems (by decide) r.2⟩) (Cert.Reference24Ideal.Value.run m g),
  fun m g _ => Cert.Kernel25.Gen.frame m g,
  fun m g _ => Cert.Kernel25Ideal.Gen.frame m g,
  fun m g _ => (θ_run Cert.Reference25Ideal.defs _ _).mono (fun r h => ⟨fun c => (h c).2, sem_eq_zero_of_no_sems (by decide) r.2⟩) (Cert.Reference25Ideal.Value.run m g),
  fun m g _ => Cert.Kernel26.Gen.frame m g,
  fun m g _ => Cert.Kernel26Ideal.Gen.frame m g,
  fun m g _ => (θ_run Cert.Reference26Ideal.defs _ _).mono (fun r h => ⟨fun c => (h c).2, sem_eq_zero_of_no_sems (by decide) r.2⟩) (Cert.Reference26Ideal.Value.run m g),
  fun m g _ => Cert.Kernel27.Gen.frame m g,
  fun m g _ => Cert.Kernel27Ideal.Gen.frame m g,
  fun m g _ => (θ_run Cert.Reference27Ideal.defs _ _).mono (fun r h => ⟨fun c => (h c).2.2.2.2, sem_eq_zero_of_no_sems (by decide) r.2⟩) (Cert.Reference27Ideal.Value.run m g),
  fun m g _ => Cert.Kernel28.Gen.frame m g,
  fun m g _ => Cert.Kernel28Ideal.Gen.frame m g,
  fun m g _ => (θ_run Cert.Reference28Ideal.defs _ _).mono (fun r h => ⟨fun c => (h c).2.2.2.2.2.2.2.2.2, sem_eq_zero_of_no_sems (by decide) r.2⟩) (Cert.Reference28Ideal.Value.run m g),
  fun m g _ => Cert.Kernel29.Gen.frame m g,
  fun m g _ => Cert.Kernel29Ideal.Gen.frame m g,
  fun m g _ => (θ_run Cert.Reference29Ideal.defs _ _).mono (fun r h => ⟨fun c => (h c).2.2.2.2.2.2.2.2.2, sem_eq_zero_of_no_sems (by decide) r.2⟩) (Cert.Reference29Ideal.Value.run m g),
  trivial, value,
  trivial, Cert.ReluGrad.value,
  trivial, Cert.NormBwd.value,
  trivial, Cert.GradFf1.value,
  trivial, Cert.GradFf2.value,
  trivial, Cert.Hidden.value,
  trivial, Cert.InAtt.value,
  trivial, Cert.GradInAtt.value,
  trivial, Cert.GradUAtt.value,
  trivial, Cert.InGate.value,
  trivial, Cert.GradInGate.value,
  trivial, Cert.InMl.value,
  trivial, Cert.GradInMl.value,
  trivial, Cert.GradUMl.value,
  trivial, Cert.GradOut.value,
  trivial, Cert.GradHg.value,
  trivial, Cert.AdamFf1.value,
  trivial, Cert.AdamFf2.value,
  trivial, Cert.AdamOut.value,
  trivial, Cert.AdamAttOut.value,
  trivial, Cert.AdamIn.value,
  trivial, Cert.AdamAda.value,
  trivial, Cert.AdamConv.value,
  trivial, Cert.AdamSmall1.value,
  trivial, Cert.SmallSum.value,
  trivial, Cert.GradAda.value,
  trivial, Cert.InNorm.value,
  trivial, Cert.AdamSmall2.value,
  trivial, Cert.AdamSmall3.value⟩

end Cert.Proof

end
